-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "neg_big" .f32 0xFF61B1E6#32 ⊥
  ∧ IdealRules.named_const.Statement Cert.KernelIdeal.κ "exp2_scale" .f32 0x3E38AA3B#32 (((1 / 8) * (Real.log 2)⁻¹ : ℝ) : EReal)
  ∧ IdealRules.named_const.Statement Cert.KernelIdeal.κ "inv_exp2_scale" .f32 0x40B17218#32 ((8 * (Real.log 2) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_v228) = v1 c
          ∧ r.2.mem ((c.tc : Thread Cert.ReferenceIdeal.nD Cert.ReferenceIdeal.τ).loc Cert.ReferenceIdeal.main_v229) = v2 c
          ∧ r.2.mem ((c.tc : Thread Cert.ReferenceIdeal.nD Cert.ReferenceIdeal.τ).loc Cert.ReferenceIdeal.main_v232) = v3 c
          ∧ r.2.mem ((c.tc : Thread Cert.ReferenceIdeal.nD Cert.ReferenceIdeal.τ).loc Cert.ReferenceIdeal.main_v233) = v4 c
          ∧ r.2.mem ((c.tc : Thread Cert.ReferenceIdeal.nD Cert.ReferenceIdeal.τ).loc Cert.ReferenceIdeal.main_v236) = v5 c
          ∧ r.2.mem ((c.tc : Thread Cert.ReferenceIdeal.nD Cert.ReferenceIdeal.τ).loc Cert.ReferenceIdeal.main_v237) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x640x2048 : Shape := ⟨3, ![3, 640, 2048]⟩
abbrev S3x640x512 : Shape := ⟨3, ![3, 640, 512]⟩
abbrev S32 : Shape := ⟨1, ![32]⟩
abbrev S_ : Shape := ⟨0, ![]⟩

class Facts : Prop where
  bitsLt_bf16_f32 : FTy.bits .bf16 < FTy.bits .f32
  bcast_S_S3x640x2048 : S_.BroadcastsInDim S3x640x2048 (![] : Fin 0 → Fin S3x640x2048.rank)
  reducesTo_S3x640x2048_S_d0_1_2 : S3x640x2048.ReducesTo [0, 1, 2] S_
  h_S_ : 0 < S_.numel
  bcast_S_S3x640x512 : S_.BroadcastsInDim S3x640x512 (![] : Fin 0 → Fin S3x640x512.rank)
  reducesTo_S3x640x512_S_d0_1_2 : S3x640x512.ReducesTo [0, 1, 2] S_
  bcast_S_S32 : S_.BroadcastsInDim S32 (![] : Fin 0 → Fin S32.rank)
  reducesTo_S32_S_d0 : S32.ReducesTo [0] S_

variable [Facts]

def fn_part1 {F : FTy → Type} [FloatOps F] (main_v16 : IVec S_ 1) (main_v17 : FVec F S32 .f32) : IVec S_ 1 :=
  let main_cst_4 : FVec F S_ .f32 := constant S_ .f32 0x7F800000#32
  let main_v18 : FVec F S32 .f32 := broadcastInDim S32 ![] bcast_S_S32 main_cst_4
  let main_v19 : IVec S32 1 := cmpf .olt main_v17 main_v18
  let main_c_5 : IVec S_ 1 := constantI S_ 1 1#1
  let main_v20 : IVec S_ 1 := (fun x v => Host.reduce IntOp.andi x v reducesTo_S32_S_d0 h_S_) main_v19 main_c_5
  let main_v21 : IVec S_ 1 := andi main_v16 main_v20
  main_v21

def fn {F : FTy → Type} [FloatOps F] (main_arg0 : FVec F S3x640x2048 .bf16) (main_arg1 : FVec F S3x640x512 .bf16) (main_arg2 : FVec F S3x640x512 .bf16) (main_arg3 : FVec F S32 .f32) : IVec S_ 1 :=
  let main_v0 : FVec F S3x640x2048 .f32 := (extf .f32 · bitsLt_bf16_f32) main_arg0
  let main_v1 : FVec F S3x640x2048 .f32 := Host.absf main_v0
  let main_cst : FVec F S_ .f32 := constant S_ .f32 0x7F7F0000#32
  let main_v2 : FVec F S3x640x2048 .f32 := broadcastInDim S3x640x2048 ![] bcast_S_S3x640x2048 main_cst
  let main_v3 : IVec S3x640x2048 1 := cmpf .ole main_v1 main_v2
  let main_c : IVec S_ 1 := constantI S_ 1 1#1
  let main_v4 : IVec S_ 1 := (fun x v => Host.reduce IntOp.andi x v reducesTo_S3x640x2048_S_d0_1_2 h_S_) main_v3 main_c
  let main_v5 : FVec F S3x640x512 .f32 := (extf .f32 · bitsLt_bf16_f32) main_arg1
  let main_v6 : FVec F S3x640x512 .f32 := Host.absf main_v5
  let main_cst_0 : FVec F S_ .f32 := constant S_ .f32 0x7F7F0000#32
  let main_v7 : FVec F S3x640x512 .f32 := broadcastInDim S3x640x512 ![] bcast_S_S3x640x512 main_cst_0
  let main_v8 : IVec S3x640x512 1 := cmpf .ole main_v6 main_v7
  let main_c_1 : IVec S_ 1 := constantI S_ 1 1#1
  let main_v9 : IVec S_ 1 := (fun x v => Host.reduce IntOp.andi x v reducesTo_S3x640x512_S_d0_1_2 h_S_) main_v8 main_c_1
  let main_v10 : IVec S_ 1 := andi main_v4 main_v9
  let main_v11 : FVec F S3x640x512 .f32 := (extf .f32 · bitsLt_bf16_f32) main_arg2
  let main_v12 : FVec F S3x640x512 .f32 := Host.absf main_v11
  let main_cst_2 : FVec F S_ .f32 := constant S_ .f32 0x7F7F0000#32
  let main_v13 : FVec F S3x640x512 .f32 := broadcastInDim S3x640x512 ![] bcast_S_S3x640x512 main_cst_2
  let main_v14 : IVec S3x640x512 1 := cmpf .ole main_v12 main_v13
  let main_c_3 : IVec S_ 1 := constantI S_ 1 1#1
  let main_v15 : IVec S_ 1 := (fun x v => Host.reduce IntOp.andi x v reducesTo_S3x640x512_S_d0_1_2 h_S_) main_v14 main_c_3
  let main_v16 : IVec S_ 1 := andi main_v10 main_v15
  let main_v17 : FVec F S32 .f32 := Host.absf main_arg3
  fn_part1 (F := F) main_v16 main_v17
-- ==== Kernel.lean ====
abbrev S3x640x2048 : Shape := ⟨3, ![3, 640, 2048]⟩
abbrev S3x640x512 : Shape := ⟨3, ![3, 640, 512]⟩
abbrev S32 : Shape := ⟨1, ![32]⟩
abbrev S3x2048x640 : Shape := ⟨3, ![3, 2048, 640]⟩
abbrev S3x2x32x640 : Shape := ⟨4, ![3, 2, 32, 640]⟩
abbrev S3x512x640 : Shape := ⟨3, ![3, 512, 640]⟩
abbrev S3x2x8x640 : Shape := ⟨4, ![3, 2, 8, 640]⟩
abbrev S1x128x2048 : Shape := ⟨3, ![1, 128, 2048]⟩
abbrev S1x128x512 : Shape := ⟨3, ![1, 128, 512]⟩
abbrev S1x2048x128 : Shape := ⟨3, ![1, 2048, 128]⟩
abbrev S1x2x32x128 : Shape := ⟨4, ![1, 2, 32, 128]⟩
abbrev S1x512x128 : Shape := ⟨3, ![1, 512, 128]⟩
abbrev S1x2x8x128 : Shape := ⟨4, ![1, 2, 8, 128]⟩
abbrev S8x128x64 : Shape := ⟨3, ![8, 128, 64]⟩
abbrev S8x64x128 : Shape := ⟨3, ![8, 64, 128]⟩
abbrev S128x128 : Shape := ⟨2, ![128, 128]⟩
abbrev S1x128x128 : Shape := ⟨3, ![1, 128, 128]⟩
abbrev S32x128 : Shape := ⟨2, ![32, 128]⟩
abbrev S128 : Shape := ⟨1, ![128]⟩
abbrev S1x128 : Shape := ⟨2, ![1, 128]⟩
abbrev S255x128 : Shape := ⟨2, ![255, 128]⟩
abbrev S64x128 : Shape := ⟨2, ![64, 128]⟩
abbrev S128x64 : Shape := ⟨2, ![128, 64]⟩
abbrev S1x128x64 : Shape := ⟨3, ![1, 128, 64]⟩
abbrev S1x64x128 : Shape := ⟨3, ![1, 64, 128]⟩
abbrev S256x64 : Shape := ⟨2, ![256, 64]⟩
abbrev S64x256 : Shape := ⟨2, ![64, 256]⟩
abbrev S256x256 : Shape := ⟨2, ![256, 256]⟩
abbrev S1 : Shape := ⟨1, ![1]⟩
abbrev S128x256 : Shape := ⟨2, ![128, 256]⟩
abbrev S1x1x32x128 : Shape := ⟨4, ![1, 1, 32, 128]⟩
abbrev S8x128 : Shape := ⟨2, ![8, 128]⟩
abbrev S1x1x8x128 : Shape := ⟨4, ![1, 1, 8, 128]⟩

abbrev nBuf : Space → Nat
  | .hbm => 11
  | .vmem => 24
  | .smem => 1
  | _ => 0

abbrev bufTy : (tb : Table) → Fin (tcTables nBuf tb) → BufTy
  | .hbm, ⟨0, _⟩ => ⟨S3x640x2048, .bf16⟩
  | .hbm, ⟨1, _⟩ => ⟨S3x640x512, .bf16⟩
  | .hbm, ⟨2, _⟩ => ⟨S3x640x512, .bf16⟩
  | .hbm, ⟨3, _⟩ => ⟨S32, .f32⟩
  | .hbm, ⟨4, _⟩ => ⟨S3x640x2048, .bf16⟩
  | .hbm, ⟨5, _⟩ => ⟨S3x2048x640, .fp8e4m3⟩
  | .hbm, ⟨6, _⟩ => ⟨S3x2x32x640, .i8⟩
  | .hbm, ⟨7, _⟩ => ⟨S3x512x640, .fp8e4m3⟩
  | .hbm, ⟨8, _⟩ => ⟨S3x2x8x640, .i8⟩
  | .hbm, ⟨9, _⟩ => ⟨S3x512x640, .fp8e4m3⟩
  | .hbm, ⟨10, _⟩ => ⟨S3x2x8x640, .i8⟩
  | .local _ .vmem, ⟨0, _⟩ => ⟨S1x128x2048, .bf16⟩
  | .local _ .vmem, ⟨1, _⟩ => ⟨S1x128x2048, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x2048, .bf16⟩
  | .local _ .vmem, ⟨7, _⟩ => ⟨S1x128x2048, .bf16⟩
  | .local _ .vmem, ⟨8, _⟩ => ⟨S1x2048x128, .fp8e4m3⟩
  | .local _ .vmem, ⟨9, _⟩ => ⟨S1x2048x128, .fp8e4m3⟩
  | .local _ .vmem, ⟨10, _⟩ => ⟨S1x2x32x128, .i8⟩
  | .local _ .vmem, ⟨11, _⟩ => ⟨S1x2x32x128, .i8⟩
  | .local _ .vmem, ⟨12, _⟩ => ⟨S1x512x128, .fp8e4m3⟩
  | .local _ .vmem, ⟨13, _⟩ => ⟨S1x512x128, .fp8e4m3⟩
  | .local _ .vmem, ⟨14, _⟩ => ⟨S1x2x8x128, .i8⟩
  | .local _ .vmem, ⟨15, _⟩ => ⟨S1x2x8x128, .i8⟩
  | .local _ .vmem, ⟨16, _⟩ => ⟨S1x512x128, .fp8e4m3⟩
  | .local _ .vmem, ⟨17, _⟩ => ⟨S1x512x128, .fp8e4m3⟩
  | .local _ .vmem, ⟨18, _⟩ => ⟨S1x2x8x128, .i8⟩
  | .local _ .vmem, ⟨19, _⟩ => ⟨S1x2x8x128, .i8⟩
  | .local _ .vmem, ⟨20, _⟩ => ⟨S8x128x64, .bf16⟩
  | .local _ .vmem, ⟨21, _⟩ => ⟨S8x128x64, .bf16⟩
  | .local _ .vmem, ⟨22, _⟩ => ⟨S8x64x128, .bf16⟩
  | .local _ .vmem, ⟨23, _⟩ => ⟨S8x64x128, .bf16⟩
  | .local _ .smem, ⟨0, _⟩ => ⟨S32, .f32⟩
  | _, _ => ⟨S3x640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![3, 5], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x32x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x8x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x8x128 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "exp2_scale" => some (((1 / 8) * (Real.log 2)⁻¹ : ℝ) : EReal)
  | "inv_exp2_scale" => some ((8 * (Real.log 2) : ℝ) : EReal)
  | "neg_big" => some ⊥
  | _ => none
-- ==== ReferenceIdeal.lean ====
abbrev S3x640x2048 : Shape := ⟨3, ![3, 640, 2048]⟩
abbrev S3x640x512 : Shape := ⟨3, ![3, 640, 512]⟩
abbrev S32 : Shape := ⟨1, ![32]⟩
abbrev S3x640x32x64 : Shape := ⟨4, ![3, 640, 32, 64]⟩
abbrev S3x640x32x2x32 : Shape := ⟨5, ![3, 640, 32, 2, 32]⟩
abbrev S_ : Shape := ⟨0, ![]⟩
abbrev S3x640x32x2 : Shape := ⟨4, ![3, 640, 32, 2]⟩
abbrev S3x640x32x2x1 : Shape := ⟨5, ![3, 640, 32, 2, 1]⟩
abbrev S3x640x8x64 : Shape := ⟨4, ![3, 640, 8, 64]⟩
abbrev S3x640x8x2x32 : Shape := ⟨5, ![3, 640, 8, 2, 32]⟩
abbrev S3x640x8x2 : Shape := ⟨4, ![3, 640, 8, 2]⟩
abbrev S3x640x8x2x1 : Shape := ⟨5, ![3, 640, 8, 2, 1]⟩
abbrev S3x640x8x4x64 : Shape := ⟨5, ![3, 640, 8, 4, 64]⟩
abbrev S3x5x128x8x4x64 : Shape := ⟨6, ![3, 5, 128, 8, 4, 64]⟩
abbrev S3x5x128x8x64 : Shape := ⟨5, ![3, 5, 128, 8, 64]⟩
abbrev S3x4x128x8x64 : Shape := ⟨5, ![3, 4, 128, 8, 64]⟩
abbrev S3x5x256x8x64 : Shape := ⟨5, ![3, 5, 256, 8, 64]⟩
abbrev S3x5x8x256x128x4 : Shape := ⟨6, ![3, 5, 8, 256, 128, 4]⟩
abbrev S3x5x8x4x128x256 : Shape := ⟨6, ![3, 5, 8, 4, 128, 256]⟩
abbrev S128 : Shape := ⟨1, ![128]⟩
abbrev S1x128x1 : Shape := ⟨3, ![1, 128, 1]⟩
abbrev S256 : Shape := ⟨1, ![256]⟩
abbrev S1x1x256 : Shape := ⟨3, ![1, 1, 256]⟩
abbrev S5 : Shape := ⟨1, ![5]⟩
abbrev S5x1x1 : Shape := ⟨3, ![5, 1, 1]⟩
abbrev S1x128x256 : Shape := ⟨3, ![1, 128, 256]⟩
abbrev S5x1x256 : Shape := ⟨3, ![5, 1, 256]⟩
abbrev S5x128x256 : Shape := ⟨3, ![5, 128, 256]⟩
abbrev S1x5x1x1x128x256 : Shape := ⟨6, ![1, 5, 1, 1, 128, 256]⟩
abbrev S8x4 : Shape := ⟨2, ![8, 4]⟩
abbrev S1x1x8x4x1 : Shape := ⟨5, ![1, 1, 8, 4, 1]⟩
abbrev S3x5x8x4x128 : Shape := ⟨5, ![3, 5, 8, 4, 128]⟩
abbrev S3x5x8x4x128x1 : Shape := ⟨6, ![3, 5, 8, 4, 128, 1]⟩
abbrev S3x5x8x64x4x128 : Shape := ⟨6, ![3, 5, 8, 64, 4, 128]⟩
abbrev S3x5x128x8x4 : Shape := ⟨5, ![3, 5, 128, 8, 4]⟩
abbrev S3x5x128x8x4x1 : Shape := ⟨6, ![3, 5, 128, 8, 4, 1]⟩
abbrev S3x2048x640 : Shape := ⟨3, ![3, 2048, 640]⟩
abbrev S3x2x32x640 : Shape := ⟨4, ![3, 2, 32, 640]⟩
abbrev S3x512x640 : Shape := ⟨3, ![3, 512, 640]⟩
abbrev S3x2x8x640 : Shape := ⟨4, ![3, 2, 8, 640]⟩

abbrev nBuf : Space → Nat
  | .hbm => 338
  | .vmem => 0
  | .smem => 0
  | _ => 0

abbrev hbmTy0_0 (i : Nat) : BufTy := match i % 128 with
  | 0 => ⟨S3x640x2048, .bf16⟩
  | 1 => ⟨S3x640x512, .bf16⟩
  | 2 => ⟨S3x640x512, .bf16⟩
  | 3 => ⟨S32, .f32⟩
  | 4 => ⟨S3x640x32x64, .bf16⟩
  | 5 => ⟨S3x640x32x64, .f32⟩
  | 6 => ⟨S3x640x32x2x32, .f32⟩
  | 7 => ⟨S3x640x32x2x32, .f32⟩
  | 8 => ⟨S_, .f32⟩
  | 9 => ⟨S3x640x32x2, .f32⟩
  | 10 => ⟨S_, .f32⟩
  | 11 => ⟨S3x640x32x2, .f32⟩
  | 12 => ⟨S3x640x32x2, .f32⟩
  | 13 => ⟨S_, .f32⟩
  | 14 => ⟨S3x640x32x2, .f32⟩
  | 15 => ⟨S3x640x32x2, .i1⟩
  | 16 => ⟨S3x640x32x2, .f32⟩
  | 17 => ⟨S_, .f32⟩
  | 18 => ⟨S_, .f32⟩
  | 19 => ⟨S3x640x32x2, .f32⟩
  | 20 => ⟨S3x640x32x2, .f32⟩
  | 21 => ⟨S3x640x32x2, .f32⟩
  | 22 => ⟨S_, .f32⟩
  | 23 => ⟨S3x640x32x2, .f32⟩
  | 24 => ⟨S3x640x32x2, .f32⟩
  | 25 => ⟨S_, .f32⟩
  | 26 => ⟨S_, .f32⟩
  | 27 => ⟨S3x640x32x2, .f32⟩
  | 28 => ⟨S3x640x32x2, .f32⟩
  | 29 => ⟨S3x640x32x2, .i32⟩
  | 30 => ⟨S3x640x32x2, .i32⟩
  | 31 => ⟨S3x640x32x2, .f32⟩
  | 32 => ⟨S_, .f32⟩
  | 33 => ⟨S3x640x32x2, .f32⟩
  | 34 => ⟨S3x640x32x2, .f32⟩
  | 35 => ⟨S3x640x32x2x1, .f32⟩
  | 36 => ⟨S3x640x32x2x32, .f32⟩
  | 37 => ⟨S3x640x32x2x32, .f32⟩
  | 38 => ⟨S_, .f32⟩
  | 39 => ⟨S_, .f32⟩
  | 40 => ⟨S_, .f32⟩
  | 41 => ⟨S3x640x32x2x32, .f32⟩
  | 42 => ⟨S3x640x32x2x32, .f32⟩
  | 43 => ⟨S_, .f32⟩
  | 44 => ⟨S3x640x32x2x32, .f32⟩
  | 45 => ⟨S3x640x32x2x32, .f32⟩
  | 46 => ⟨S3x640x32x64, .f32⟩
  | 47 => ⟨S_, .i32⟩
  | 48 => ⟨S3x640x32x2, .i32⟩
  | 49 => ⟨S3x640x32x2, .i32⟩
  | 50 => ⟨S3x640x32x2, .i8⟩
  | 51 => ⟨S3x640x8x64, .bf16⟩
  | 52 => ⟨S3x640x8x64, .f32⟩
  | 53 => ⟨S3x640x8x2x32, .f32⟩
  | 54 => ⟨S3x640x8x2x32, .f32⟩
  | 55 => ⟨S_, .f32⟩
  | 56 => ⟨S3x640x8x2, .f32⟩
  | 57 => ⟨S_, .f32⟩
  | 58 => ⟨S3x640x8x2, .f32⟩
  | 59 => ⟨S3x640x8x2, .f32⟩
  | 60 => ⟨S_, .f32⟩
  | 61 => ⟨S3x640x8x2, .f32⟩
  | 62 => ⟨S3x640x8x2, .i1⟩
  | 63 => ⟨S3x640x8x2, .f32⟩
  | 64 => ⟨S_, .f32⟩
  | 65 => ⟨S_, .f32⟩
  | 66 => ⟨S3x640x8x2, .f32⟩
  | 67 => ⟨S3x640x8x2, .f32⟩
  | 68 => ⟨S3x640x8x2, .f32⟩
  | 69 => ⟨S_, .f32⟩
  | 70 => ⟨S3x640x8x2, .f32⟩
  | 71 => ⟨S3x640x8x2, .f32⟩
  | 72 => ⟨S_, .f32⟩
  | 73 => ⟨S_, .f32⟩
  | 74 => ⟨S3x640x8x2, .f32⟩
  | 75 => ⟨S3x640x8x2, .f32⟩
  | 76 => ⟨S3x640x8x2, .i32⟩
  | 77 => ⟨S3x640x8x2, .i32⟩
  | 78 => ⟨S3x640x8x2, .f32⟩
  | 79 => ⟨S_, .f32⟩
  | 80 => ⟨S3x640x8x2, .f32⟩
  | 81 => ⟨S3x640x8x2, .f32⟩
  | 82 => ⟨S3x640x8x2x1, .f32⟩
  | 83 => ⟨S3x640x8x2x32, .f32⟩
  | 84 => ⟨S3x640x8x2x32, .f32⟩
  | 85 => ⟨S_, .f32⟩
  | 86 => ⟨S_, .f32⟩
  | 87 => ⟨S_, .f32⟩
  | 88 => ⟨S3x640x8x2x32, .f32⟩
  | 89 => ⟨S3x640x8x2x32, .f32⟩
  | 90 => ⟨S_, .f32⟩
  | 91 => ⟨S3x640x8x2x32, .f32⟩
  | 92 => ⟨S3x640x8x2x32, .f32⟩
  | 93 => ⟨S3x640x8x64, .f32⟩
  | 94 => ⟨S_, .i32⟩
  | 95 => ⟨S3x640x8x2, .i32⟩
  | 96 => ⟨S3x640x8x2, .i32⟩
  | 97 => ⟨S3x640x8x2, .i8⟩
  | 98 => ⟨S3x640x8x64, .bf16⟩
  | 99 => ⟨S3x640x8x64, .f32⟩
  | 100 => ⟨S3x640x8x2x32, .f32⟩
  | 101 => ⟨S3x640x8x2x32, .f32⟩
  | 102 => ⟨S_, .f32⟩
  | 103 => ⟨S3x640x8x2, .f32⟩
  | 104 => ⟨S_, .f32⟩
  | 105 => ⟨S3x640x8x2, .f32⟩
  | 106 => ⟨S3x640x8x2, .f32⟩
  | 107 => ⟨S_, .f32⟩
  | 108 => ⟨S3x640x8x2, .f32⟩
  | 109 => ⟨S3x640x8x2, .i1⟩
  | 110 => ⟨S3x640x8x2, .f32⟩
  | 111 => ⟨S_, .f32⟩
  | 112 => ⟨S_, .f32⟩
  | 113 => ⟨S3x640x8x2, .f32⟩
  | 114 => ⟨S3x640x8x2, .f32⟩
  | 115 => ⟨S3x640x8x2, .f32⟩
  | 116 => ⟨S_, .f32⟩
  | 117 => ⟨S3x640x8x2, .f32⟩
  | 118 => ⟨S3x640x8x2, .f32⟩
  | 119 => ⟨S_, .f32⟩
  | 120 => ⟨S_, .f32⟩
  | 121 => ⟨S3x640x8x2, .f32⟩
  | 122 => ⟨S3x640x8x2, .f32⟩
  | 123 => ⟨S3x640x8x2, .i32⟩
  | 124 => ⟨S3x640x8x2, .i32⟩
  | 125 => ⟨S3x640x8x2, .f32⟩
  | 126 => ⟨S_, .f32⟩
  | 127 => ⟨S3x640x8x2, .f32⟩
  | _ => ⟨S3x640x2048, .bf16⟩

abbrev hbmTy0_1 (i : Nat) : BufTy := match i % 128 with
  | 0 => ⟨S3x640x8x2, .f32⟩
  | 1 => ⟨S3x640x8x2x1, .f32⟩
  | 2 => ⟨S3x640x8x2x32, .f32⟩
  | 3 => ⟨S3x640x8x2x32, .f32⟩
  | 4 => ⟨S_, .f32⟩
  | 5 => ⟨S_, .f32⟩
  | 6 => ⟨S_, .f32⟩
  | 7 => ⟨S3x640x8x2x32, .f32⟩
  | 8 => ⟨S3x640x8x2x32, .f32⟩
  | 9 => ⟨S_, .f32⟩
  | 10 => ⟨S3x640x8x2x32, .f32⟩
  | 11 => ⟨S3x640x8x2x32, .f32⟩
  | 12 => ⟨S3x640x8x64, .f32⟩
  | 13 => ⟨S_, .i32⟩
  | 14 => ⟨S3x640x8x2, .i32⟩
  | 15 => ⟨S3x640x8x2, .i32⟩
  | 16 => ⟨S3x640x8x2, .i8⟩
  | 17 => ⟨S3x640x32x2, .i32⟩
  | 18 => ⟨S_, .i32⟩
  | 19 => ⟨S3x640x32x2, .i32⟩
  | 20 => ⟨S3x640x32x2, .i32⟩
  | 21 => ⟨S3x640x32x2, .f32⟩
  | 22 => ⟨S_, .f32⟩
  | 23 => ⟨S3x640x32x2, .f32⟩
  | 24 => ⟨S3x640x32x2, .f32⟩
  | 25 => ⟨S3x640x32x2, .bf16⟩
  | 26 => ⟨S3x640x32x64, .bf16⟩
  | 27 => ⟨S3x640x32x2x32, .bf16⟩
  | 28 => ⟨S3x640x32x2x1, .bf16⟩
  | 29 => ⟨S3x640x32x2x32, .bf16⟩
  | 30 => ⟨S3x640x32x2x32, .bf16⟩
  | 31 => ⟨S3x640x32x64, .bf16⟩
  | 32 => ⟨S3x640x8x4x64, .bf16⟩
  | 33 => ⟨S3x640x8x2, .i32⟩
  | 34 => ⟨S_, .i32⟩
  | 35 => ⟨S3x640x8x2, .i32⟩
  | 36 => ⟨S3x640x8x2, .i32⟩
  | 37 => ⟨S3x640x8x2, .f32⟩
  | 38 => ⟨S_, .f32⟩
  | 39 => ⟨S3x640x8x2, .f32⟩
  | 40 => ⟨S3x640x8x2, .f32⟩
  | 41 => ⟨S3x640x8x2, .bf16⟩
  | 42 => ⟨S3x640x8x64, .bf16⟩
  | 43 => ⟨S3x640x8x2x32, .bf16⟩
  | 44 => ⟨S3x640x8x2x1, .bf16⟩
  | 45 => ⟨S3x640x8x2x32, .bf16⟩
  | 46 => ⟨S3x640x8x2x32, .bf16⟩
  | 47 => ⟨S3x640x8x64, .bf16⟩
  | 48 => ⟨S3x640x8x2, .i32⟩
  | 49 => ⟨S_, .i32⟩
  | 50 => ⟨S3x640x8x2, .i32⟩
  | 51 => ⟨S3x640x8x2, .i32⟩
  | 52 => ⟨S3x640x8x2, .f32⟩
  | 53 => ⟨S_, .f32⟩
  | 54 => ⟨S3x640x8x2, .f32⟩
  | 55 => ⟨S3x640x8x2, .f32⟩
  | 56 => ⟨S3x640x8x2, .bf16⟩
  | 57 => ⟨S3x640x8x64, .bf16⟩
  | 58 => ⟨S3x640x8x2x32, .bf16⟩
  | 59 => ⟨S3x640x8x2x1, .bf16⟩
  | 60 => ⟨S3x640x8x2x32, .bf16⟩
  | 61 => ⟨S3x640x8x2x32, .bf16⟩
  | 62 => ⟨S3x640x8x64, .bf16⟩
  | 63 => ⟨S3x5x128x8x4x64, .bf16⟩
  | 64 => ⟨S3x5x128x8x64, .bf16⟩
  | 65 => ⟨S3x5x128x8x64, .bf16⟩
  | 66 => ⟨S3x4x128x8x64, .bf16⟩
  | 67 => ⟨S_, .i32⟩
  | 68 => ⟨S_, .bf16⟩
  | 69 => ⟨S3x5x128x8x64, .bf16⟩
  | 70 => ⟨S3x4x128x8x64, .bf16⟩
  | 71 => ⟨S_, .i32⟩
  | 72 => ⟨S_, .bf16⟩
  | 73 => ⟨S3x5x128x8x64, .bf16⟩
  | 74 => ⟨S3x5x256x8x64, .bf16⟩
  | 75 => ⟨S3x5x256x8x64, .bf16⟩
  | 76 => ⟨S3x5x8x256x128x4, .f32⟩
  | 77 => ⟨S3x5x8x4x128x256, .f32⟩
  | 78 => ⟨S_, .f32⟩
  | 79 => ⟨S3x5x8x4x128x256, .f32⟩
  | 80 => ⟨S3x5x8x4x128x256, .f32⟩
  | 81 => ⟨S128, .i32⟩
  | 82 => ⟨S1x128x1, .i32⟩
  | 83 => ⟨S256, .i32⟩
  | 84 => ⟨S1x1x256, .i32⟩
  | 85 => ⟨S5, .i32⟩
  | 86 => ⟨S5x1x1, .i32⟩
  | 87 => ⟨S_, .i32⟩
  | 88 => ⟨S1x1x256, .i32⟩
  | 89 => ⟨S1x1x256, .i32⟩
  | 90 => ⟨S1x128x256, .i32⟩
  | 91 => ⟨S1x128x256, .i32⟩
  | 92 => ⟨S1x128x256, .i32⟩
  | 93 => ⟨S_, .i32⟩
  | 94 => ⟨S1x128x256, .i32⟩
  | 95 => ⟨S1x128x256, .i1⟩
  | 96 => ⟨S_, .i32⟩
  | 97 => ⟨S1x128x256, .i32⟩
  | 98 => ⟨S1x128x256, .i1⟩
  | 99 => ⟨S1x128x256, .i1⟩
  | 100 => ⟨S_, .i32⟩
  | 101 => ⟨S5x1x1, .i32⟩
  | 102 => ⟨S5x1x1, .i32⟩
  | 103 => ⟨S5x1x256, .i32⟩
  | 104 => ⟨S5x1x256, .i32⟩
  | 105 => ⟨S5x1x256, .i32⟩
  | 106 => ⟨S_, .i32⟩
  | 107 => ⟨S5x1x256, .i32⟩
  | 108 => ⟨S5x1x256, .i32⟩
  | 109 => ⟨S_, .i32⟩
  | 110 => ⟨S5x1x256, .i32⟩
  | 111 => ⟨S5x1x256, .i1⟩
  | 112 => ⟨S5x128x256, .i1⟩
  | 113 => ⟨S5x128x256, .i1⟩
  | 114 => ⟨S5x128x256, .i1⟩
  | 115 => ⟨S1x5x1x1x128x256, .i1⟩
  | 116 => ⟨S8x4, .f32⟩
  | 117 => ⟨S1x1x8x4x1, .f32⟩
  | 118 => ⟨S_, .f32⟩
  | 119 => ⟨S_, .f32⟩
  | 120 => ⟨S3x5x8x4x128x256, .i1⟩
  | 121 => ⟨S3x5x8x4x128x256, .f32⟩
  | 122 => ⟨S3x5x8x4x128x256, .f32⟩
  | 123 => ⟨S_, .f32⟩
  | 124 => ⟨S3x5x8x4x128, .f32⟩
  | 125 => ⟨S3x5x8x4x128, .f32⟩
  | 126 => ⟨S3x5x8x4x128, .f32⟩
  | 127 => ⟨S3x5x8x4x128x1, .f32⟩
  | _ => ⟨S3x640x2048, .bf16⟩

abbrev hbmTy0_2 (i : Nat) : BufTy := match i % 128 with
  | 0 => ⟨S3x5x8x4x128x256, .f32⟩
  | 1 => ⟨S3x5x8x4x128x256, .f32⟩
  | 2 => ⟨S3x5x8x4x128x256, .f32⟩
  | 3 => ⟨S_, .f32⟩
  | 4 => ⟨S_, .f32⟩
  | 5 => ⟨S3x5x8x4x128x256, .i1⟩
  | 6 => ⟨S3x5x8x4x128x256, .f32⟩
  | 7 => ⟨S3x5x8x4x128x256, .f32⟩
  | 8 => ⟨S_, .f32⟩
  | 9 => ⟨S3x5x8x4x128, .f32⟩
  | 10 => ⟨S3x5x8x4x128, .f32⟩
  | 11 => ⟨S3x5x8x4x128, .f32⟩
  | 12 => ⟨S3x5x8x4x128, .f32⟩
  | 13 => ⟨S3x5x8x4x128, .f32⟩
  | 14 => ⟨S3x5x8x4x128x256, .f32⟩
  | 15 => ⟨S_, .f32⟩
  | 16 => ⟨S3x5x8x4x128, .f32⟩
  | 17 => ⟨S_, .f32⟩
  | 18 => ⟨S3x5x8x4x128, .f32⟩
  | 19 => ⟨S3x5x8x4x128, .f32⟩
  | 20 => ⟨S_, .f32⟩
  | 21 => ⟨S3x5x8x4x128, .f32⟩
  | 22 => ⟨S3x5x8x4x128, .i1⟩
  | 23 => ⟨S3x5x8x4x128, .f32⟩
  | 24 => ⟨S_, .f32⟩
  | 25 => ⟨S_, .f32⟩
  | 26 => ⟨S3x5x8x4x128, .f32⟩
  | 27 => ⟨S3x5x8x4x128, .f32⟩
  | 28 => ⟨S3x5x8x4x128, .f32⟩
  | 29 => ⟨S_, .f32⟩
  | 30 => ⟨S3x5x8x4x128, .f32⟩
  | 31 => ⟨S3x5x8x4x128, .f32⟩
  | 32 => ⟨S_, .f32⟩
  | 33 => ⟨S_, .f32⟩
  | 34 => ⟨S3x5x8x4x128, .f32⟩
  | 35 => ⟨S3x5x8x4x128, .f32⟩
  | 36 => ⟨S3x5x8x4x128, .i32⟩
  | 37 => ⟨S3x5x8x4x128, .i32⟩
  | 38 => ⟨S3x5x8x4x128, .f32⟩
  | 39 => ⟨S_, .f32⟩
  | 40 => ⟨S3x5x8x4x128, .f32⟩
  | 41 => ⟨S3x5x8x4x128, .f32⟩
  | 42 => ⟨S3x5x8x4x128x1, .f32⟩
  | 43 => ⟨S3x5x8x4x128x256, .f32⟩
  | 44 => ⟨S3x5x8x4x128x256, .f32⟩
  | 45 => ⟨S_, .f32⟩
  | 46 => ⟨S_, .f32⟩
  | 47 => ⟨S_, .f32⟩
  | 48 => ⟨S3x5x8x4x128x256, .f32⟩
  | 49 => ⟨S3x5x8x4x128x256, .f32⟩
  | 50 => ⟨S_, .f32⟩
  | 51 => ⟨S3x5x8x4x128x256, .f32⟩
  | 52 => ⟨S3x5x8x4x128x256, .f32⟩
  | 53 => ⟨S3x5x8x4x128, .f32⟩
  | 54 => ⟨S_, .f32⟩
  | 55 => ⟨S3x5x8x4x128, .f32⟩
  | 56 => ⟨S3x5x8x4x128, .f32⟩
  | 57 => ⟨S3x5x8x4x128x256, .bf16⟩
  | 58 => ⟨S3x5x8x64x4x128, .f32⟩
  | 59 => ⟨S3x5x128x8x4x64, .f32⟩
  | 60 => ⟨S_, .f32⟩
  | 61 => ⟨S3x5x8x4x128, .f32⟩
  | 62 => ⟨S3x5x8x4x128, .f32⟩
  | 63 => ⟨S3x5x8x4x128, .f32⟩
  | 64 => ⟨S3x5x128x8x4, .f32⟩
  | 65 => ⟨S3x5x128x8x4x1, .f32⟩
  | 66 => ⟨S3x5x128x8x4x64, .f32⟩
  | 67 => ⟨S3x5x128x8x4x64, .f32⟩
  | 68 => ⟨S3x5x128x8x4x64, .bf16⟩
  | 69 => ⟨S3x640x2048, .bf16⟩
  | 70 => ⟨S3x640x2048, .f32⟩
  | 71 => ⟨S3x2048x640, .f32⟩
  | 72 => ⟨S3x2048x640, .fp8e4m3⟩
  | 73 => ⟨S3x2x32x640, .i8⟩
  | 74 => ⟨S3x640x512, .f32⟩
  | 75 => ⟨S3x512x640, .f32⟩
  | 76 => ⟨S3x512x640, .fp8e4m3⟩
  | 77 => ⟨S3x2x8x640, .i8⟩
  | 78 => ⟨S3x640x512, .f32⟩
  | 79 => ⟨S3x512x640, .f32⟩
  | 80 => ⟨S3x512x640, .fp8e4m3⟩
  | 81 => ⟨S3x2x8x640, .i8⟩
  | _ => ⟨S3x640x2048, .bf16⟩

abbrev hbmTy (i : Nat) : BufTy := match i / 128 with
  | 0 => hbmTy0_0 i
  | 1 => hbmTy0_1 i
  | 2 => hbmTy0_2 i
  | _ => ⟨S3x640x2048, .bf16⟩

abbrev bufTy : (tb : Table) → Fin (tcTables nBuf tb) → BufTy
  | .hbm, ⟨i, _⟩ => hbmTy i
  | _, _ => ⟨S3x640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_cst_7 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v25 : Ref sig .tc := ⟨.hbm, 45, rfl⟩
abbrev main_v26 : Ref sig .tc := ⟨.hbm, 46, rfl⟩
abbrev main_c : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_cst_10 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_11 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_12 : Ref sig .tc := ⟨.hbm, 69, rfl⟩
abbrev main_v44 : Ref sig .tc := ⟨.hbm, 70, rfl⟩
abbrev main_v45 : Ref sig .tc := ⟨.hbm, 71, rfl⟩
abbrev main_cst_13 : Ref sig .tc := ⟨.hbm, 72, rfl⟩
abbrev main_call2_v0 : Ref sig .tc := ⟨.hbm, 73, rfl⟩
abbrev main_call2_v1 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_14 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_15 : Ref sig .tc := ⟨.hbm, 85, rfl⟩
abbrev main_cst_16 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_v55 : Ref sig .tc := ⟨.hbm, 92, rfl⟩
abbrev main_v56 : Ref sig .tc := ⟨.hbm, 93, rfl⟩
abbrev main_c_17 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_18 : Ref sig .tc := ⟨.hbm, 102, rfl⟩
abbrev main_v64 : Ref sig .tc := ⟨.hbm, 103, rfl⟩
abbrev main_cst_19 : Ref sig .tc := ⟨.hbm, 104, rfl⟩
abbrev main_v65 : Ref sig .tc := ⟨.hbm, 105, rfl⟩
abbrev main_v66 : Ref sig .tc := ⟨.hbm, 106, rfl⟩
abbrev main_cst_20 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_21 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_22 : Ref sig .tc := ⟨.hbm, 116, rfl⟩
abbrev main_v74 : Ref sig .tc := ⟨.hbm, 117, rfl⟩
abbrev main_v75 : Ref sig .tc := ⟨.hbm, 118, rfl⟩
abbrev main_cst_23 : Ref sig .tc := ⟨.hbm, 119, rfl⟩
abbrev main_call4_v0 : Ref sig .tc := ⟨.hbm, 120, rfl⟩
abbrev main_call4_v1 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_24 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_25 : Ref sig .tc := ⟨.hbm, 132, rfl⟩
abbrev main_cst_26 : Ref sig .tc := ⟨.hbm, 133, rfl⟩
abbrev main_call5_v0 : Ref sig .tc := ⟨.hbm, 134, rfl⟩
abbrev main_call5_v1 : Ref sig .tc := ⟨.hbm, 135, rfl⟩
abbrev main_call5_v2 : Ref sig .tc := ⟨.hbm, 136, rfl⟩
abbrev main_call5_v3 : Ref sig .tc := ⟨.hbm, 137, rfl⟩
abbrev main_call5_v4 : Ref sig .tc := ⟨.hbm, 138, rfl⟩
abbrev main_v85 : Ref sig .tc := ⟨.hbm, 139, rfl⟩
abbrev main_v86 : Ref sig .tc := ⟨.hbm, 140, rfl⟩
abbrev main_c_27 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_c_28 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_cst_29 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_c_30 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_cst_31 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_c_32 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_cst_33 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_c_34 : Ref sig .tc := ⟨.hbm, 195, rfl⟩
abbrev main_call6_v0 : Ref sig .tc := ⟨.hbm, 196, rfl⟩
abbrev main_v134 : Ref sig .tc := ⟨.hbm, 197, rfl⟩
abbrev main_v135 : Ref sig .tc := ⟨.hbm, 198, rfl⟩
abbrev main_c_35 : Ref sig .tc := ⟨.hbm, 199, rfl⟩
abbrev main_call7_v0 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_cst_36 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_c_37 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_c_38 : Ref sig .tc := ⟨.hbm, 221, rfl⟩
abbrev main_v154 : Ref sig .tc := ⟨.hbm, 222, rfl⟩
abbrev main_v155 : Ref sig .tc := ⟨.hbm, 223, rfl⟩
abbrev main_c_39 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_c_40 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_c_41 : Ref sig .tc := ⟨.hbm, 234, rfl⟩
abbrev main_v164 : Ref sig .tc := ⟨.hbm, 235, rfl⟩
abbrev main_v165 : Ref sig .tc := ⟨.hbm, 236, rfl⟩
abbrev main_c_42 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_cst_43 : Ref sig .tc := ⟨.hbm, 246, rfl⟩
abbrev main_call8_v0 : Ref sig .tc := ⟨.hbm, 247, rfl⟩
abbrev main_call8_v1 : Ref sig .tc := ⟨.hbm, 248, rfl⟩
abbrev main_call8_v2 : Ref sig .tc := ⟨.hbm, 249, rfl⟩
abbrev main_v174 : Ref sig .tc := ⟨.hbm, 250, rfl⟩
abbrev main_cst_44 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_v180 : Ref sig .tc := ⟨.hbm, 257, rfl⟩
abbrev main_v181 : Ref sig .tc := ⟨.hbm, 258, rfl⟩
abbrev main_cst_45 : Ref sig .tc := ⟨.hbm, 259, rfl⟩
abbrev main_call9_v0 : Ref sig .tc := ⟨.hbm, 260, rfl⟩
abbrev main_call9_v1 : Ref sig .tc := ⟨.hbm, 261, rfl⟩
abbrev main_call9_v2 : Ref sig .tc := ⟨.hbm, 262, rfl⟩
abbrev main_v182 : Ref sig .tc := ⟨.hbm, 263, rfl⟩
abbrev main_cst_46 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_cst_47 : Ref sig .tc := ⟨.hbm, 271, rfl⟩
abbrev main_v189 : Ref sig .tc := ⟨.hbm, 272, rfl⟩
abbrev main_cst_48 : Ref sig .tc := ⟨.hbm, 273, rfl⟩
abbrev main_v190 : Ref sig .tc := ⟨.hbm, 274, rfl⟩
abbrev main_v191 : Ref sig .tc := ⟨.hbm, 275, rfl⟩
abbrev main_cst_49 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_cst_50 : Ref sig .tc := ⟨.hbm, 280, rfl⟩
abbrev main_v195 : Ref sig .tc := ⟨.hbm, 281, rfl⟩
abbrev main_v196 : Ref sig .tc := ⟨.hbm, 282, rfl⟩
abbrev main_v197 : Ref sig .tc := ⟨.hbm, 283, rfl⟩
abbrev main_v198 : Ref sig .tc := ⟨.hbm, 284, rfl⟩
abbrev main_cst_51 : Ref sig .tc := ⟨.hbm, 285, rfl⟩
abbrev main_v199 : Ref sig .tc := ⟨.hbm, 286, rfl⟩
abbrev main_v200 : Ref sig .tc := ⟨.hbm, 287, rfl⟩
abbrev main_cst_52 : Ref sig .tc := ⟨.hbm, 288, rfl⟩
abbrev main_call10_v0 : Ref sig .tc := ⟨.hbm, 289, rfl⟩
abbrev main_call10_v1 : Ref sig .tc := ⟨.hbm, 290, rfl⟩
abbrev main_v201 : Ref sig .tc := ⟨.hbm, 291, rfl⟩
abbrev main_v202 : Ref sig .tc := ⟨.hbm, 292, rfl⟩
abbrev main_v203 : Ref sig .tc := ⟨.hbm, 293, rfl⟩
abbrev main_v204 : Ref sig .tc := ⟨.hbm, 294, rfl⟩
abbrev main_cst_53 : Ref sig .tc := ⟨.hbm, 295, rfl⟩
abbrev main_v205 : Ref sig .tc := ⟨.hbm, 296, rfl⟩
abbrev main_v206 : Ref sig .tc := ⟨.hbm, 297, rfl⟩
abbrev main_v207 : Ref sig .tc := ⟨.hbm, 298, rfl⟩
abbrev main_v208 : Ref sig .tc := ⟨.hbm, 299, rfl⟩
abbrev main_v209 : Ref sig .tc := ⟨.hbm, 300, rfl⟩
abbrev main_cst_54 : Ref sig .tc := ⟨.hbm, 301, rfl⟩
abbrev main_cst_55 : Ref sig .tc := ⟨.hbm, 302, rfl⟩
abbrev main_call11_v0 : Ref sig .tc := ⟨.hbm, 303, rfl⟩
abbrev main_call11_v1 : Ref sig .tc := ⟨.hbm, 304, rfl⟩
abbrev main_call11_v2 : Ref sig .tc := ⟨.hbm, 305, rfl⟩
abbrev main_call11_v3 : Ref sig .tc := ⟨.hbm, 306, rfl⟩
abbrev main_call11_v4 : Ref sig .tc := ⟨.hbm, 307, rfl⟩
abbrev main_v210 : Ref sig .tc := ⟨.hbm, 308, rfl⟩
abbrev main_v211 : Ref sig .tc := ⟨.hbm, 309, rfl⟩
abbrev main_cst_56 : Ref sig .tc := ⟨.hbm, 310, rfl⟩
abbrev main_v212 : Ref sig .tc := ⟨.hbm, 311, rfl⟩
abbrev main_v213 : Ref sig .tc := ⟨.hbm, 312, rfl⟩
abbrev main_v214 : Ref sig .tc := ⟨.hbm, 313, rfl⟩
abbrev main_v215 : Ref sig .tc := ⟨.hbm, 314, rfl⟩
abbrev main_v216 : Ref sig .tc := ⟨.hbm, 315, rfl⟩
abbrev main_cst_57 : Ref sig .tc := ⟨.hbm, 316, rfl⟩
abbrev main_v217 : Ref sig .tc := ⟨.hbm, 317, rfl⟩
abbrev main_v218 : Ref sig .tc := ⟨.hbm, 318, rfl⟩
abbrev main_v219 : Ref sig .tc := ⟨.hbm, 319, rfl⟩
abbrev main_v220 : Ref sig .tc := ⟨.hbm, 320, rfl⟩
abbrev main_v221 : Ref sig .tc := ⟨.hbm, 321, rfl⟩
abbrev main_v222 : Ref sig .tc := ⟨.hbm, 322, rfl⟩
abbrev main_v223 : Ref sig .tc := ⟨.hbm, 323, rfl⟩
abbrev main_v224 : Ref sig .tc := ⟨.hbm, 324, rfl⟩
abbrev main_v225 : Ref sig .tc := ⟨.hbm, 325, rfl⟩
abbrev main_v226 : Ref sig .tc := ⟨.hbm, 326, rfl⟩
abbrev main_v227 : Ref sig .tc := ⟨.hbm, 327, rfl⟩
abbrev main_v228 : Ref sig .tc := ⟨.hbm, 328, rfl⟩
abbrev main_v229 : Ref sig .tc := ⟨.hbm, 329, rfl⟩
abbrev main_v230 : Ref sig .tc := ⟨.hbm, 330, rfl⟩
abbrev main_v231 : Ref sig .tc := ⟨.hbm, 331, rfl⟩
abbrev main_v232 : Ref sig .tc := ⟨.hbm, 332, rfl⟩
abbrev main_v233 : Ref sig .tc := ⟨.hbm, 333, rfl⟩
abbrev main_v234 : Ref sig .tc := ⟨.hbm, 334, rfl⟩
abbrev main_v235 : Ref sig .tc := ⟨.hbm, 335, rfl⟩
abbrev main_v236 : Ref sig .tc := ⟨.hbm, 336, rfl⟩
abbrev main_v237 : Ref sig .tc := ⟨.hbm, 337, rfl⟩

abbrev nD : Nat := 1
abbrev τ : Topo := Topo.v7x

variable {F : FTy → Type} [FloatOps F]
-- ==== Proof.Claims.lean ====
/- The claims that need no value argument: every program runs to its end with its arguments unchanged, and each constant
   the idealized kernel names denotes the real the table gives it. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof.Claims

/-- The shape facts the precondition states. -/
theorem pre_facts : Cert.Pre_finite.Facts where
  bitsLt_bf16_f32 := by decide
  bcast_S_S3x640x2048 := by decide
  reducesTo_S3x640x2048_S_d0_1_2 := by decide
  h_S_ := by decide
  bcast_S_S3x640x512 := by decide
  reducesTo_S3x640x512_S_d0_1_2 := by decide
  bcast_S_S32 := by decide
  reducesTo_S32_S_d0 := by decide

/-- The printed kernel runs and leaves its arguments alone. -/
theorem frame_p : Cert.quiescent_Kernel := fun m ρ _ => Cert.Kernel.Gen.frame m ρ

/-- So does the idealized kernel. -/
theorem frame_pi : Cert.quiescent_KernelIdeal := fun m ρ _ => Cert.KernelIdeal.Gen.frame m ρ

/-- The same under the precondition, which running does not need. -/
theorem frame_pi_pre [Cert.Pre_finite.Facts] : Cert.quiescent_KernelIdeal_pre_finite := fun m ρ _ => Cert.KernelIdeal.Gen.frame m ρ

/-- So does the idealized reference. -/
theorem frame_ri : Cert.quiescent_ReferenceIdeal := fun m ρ _ =>
  (θ_run Cert.ReferenceIdeal.defs _ _).mono (fun r h => ⟨fun c => (h c).2.2.2.2.2.2.2,
      Idealize.ShloMosaic.sem_eq_zero_of_no_sems (by decide) r.2⟩)
    (Cert.ReferenceIdeal.Value.run (F := Ideal) m ρ)

/-- The same under the precondition. -/
theorem frame_ri_pre [Cert.Pre_finite.Facts] : Cert.quiescent_ReferenceIdeal_pre_finite := fun m ρ _ => frame_ri m ρ trivial

/-- The three named constants. -/
theorem preserves : Cert.preserves_Kernel_KernelIdeal :=
  ⟨IdealRules.named_const.statement Cert.KernelIdeal.κ "neg_big" .f32 0xFF61B1E6#32 ⊥ rfl,
   IdealRules.named_const.statement Cert.KernelIdeal.κ "exp2_scale" .f32 0x3E38AA3B#32 _ rfl,
   IdealRules.named_const.statement Cert.KernelIdeal.κ "inv_exp2_scale" .f32 0x40B17218#32 _ rfl⟩

end Cert.Proof.Claims

end
-- ==== Proof.Stages.lean ====
/- The kernel body's stages, each stated once as a function of the arrays it reads. The unrolled body applies them to every
   slab of heads; the modules beside this one show that each store's value is one of these functions. -/
module

public import proofs.«01_k».proof.Proof.Gen.KernelIdeal.Skeleton

@[expose] public section

noncomputable section

namespace Cert.Attn

open Idealize.ShloMosaic Cert.KernelIdeal Cert.KernelIdeal.Gen

variable {F : FTy → Type} [FloatOps F] [Named F]

/-! ## The quantiser -/

/-- The biased exponent word of each column's scale `y`: how many of the 255 powers of two it reaches, plus one, the bottom
    clamped at 127. -/
def field (y : FVec F S1x128 .f32) : IVec S1x128 32 :=
  let n := shapeCast S1x128 (multiReductionI .add [0] S128 (extui 32 (cmpf .ole (bitcastToFloat .f32
      (shli (addi (iota .tc S255x128 32 [0] iota_S255x128_d0_w32) (broadcast S255x128 1#32)) (broadcast S255x128 23#32)))
      (broadcastTo S255x128 y broadcasts_S1x128_S255x128)) natLt_1_32) 0#32 reduces_S255x128_S128 rfl)
      shapeCasts_S128_S1x128
  select (cmpi .eq n (broadcast S1x128 0#32)) (broadcast S1x128 127#32) (addi n (broadcast S1x128 1#32))

/-- The exponent words of a block of 32 channels: from the column maxima of `|b|`, over 448. -/
def exps (b : FVec F S32x128 .bf16) : IVec S1x128 32 :=
  field (mulf (shapeCast S1x128 (multiReduction .maximumf [0] S128 (absf (extf .f32 b bitsLt_bf16_f32)) 0xFF800000#32
    reduces_S32x128_S128 (.inl rfl) rfl) shapeCasts_S128_S1x128) (broadcast S1x128 (Scalar.ofBits .f32 0x3B124925#32)))

/-- The codes of a block, under exponent words `e`. -/
def codes (b : FVec F S32x128 .bf16) (e : IVec S1x128 32) : FVec F S32x128 .fp8e4m3 :=
  truncf .fp8e4m3 (minimumf (broadcast S32x128 (Scalar.truncf .bf16 bitsLt_bf16_f32 (Scalar.ofBits .f32 0x43E00000#32)))
    (maximumf (broadcast S32x128 (Scalar.truncf .bf16 bitsLt_bf16_f32 (Scalar.ofBits .f32 0xC3E00000#32)))
      (mulf b (broadcastTo S32x128 (truncf .bf16 (bitcastToFloat .f32
        (shli (subi (broadcast S1x128 254#32) e) (broadcast S1x128 23#32))) bitsLt_bf16_f32) broadcasts_S1x128_S32x128))))
    bitsLt_fp8e4m3_bf16

/-- What the codes of a block stand for. -/
def deqs (b : FVec F S32x128 .bf16) (e : IVec S1x128 32) : FVec F S32x128 .bf16 :=
  mulf (extf .bf16 (codes b e) bitsLt_fp8e4m3_bf16) (broadcastTo S32x128 (truncf .bf16 (bitcastToFloat .f32
    (shli e (broadcast S1x128 23#32))) bitsLt_bf16_f32) broadcasts_S1x128_S32x128)

/-- A loaded slab of 128 tokens by 128 channels, channels first. -/
def slab (v : Vec F S1x128x128 .bf16) : FVec F S128x128 .bf16 :=
  transpose S128x128 [1, 0] (shapeCast S128x128 v shapeCasts_S1x128x128_S128x128) transposes_S128x128_p1_0_S128x128

def blk0 (v : Vec F S1x128x128 .bf16) : FVec F S32x128 .bf16 :=
  extractStridedSlice S32x128 ![0, 0] (slab v) slices_S128x128_o0_0_S32x128
def blk1 (v : Vec F S1x128x128 .bf16) : FVec F S32x128 .bf16 :=
  extractStridedSlice S32x128 ![32, 0] (slab v) slices_S128x128_o32_0_S32x128
def blk2 (v : Vec F S1x128x128 .bf16) : FVec F S32x128 .bf16 :=
  extractStridedSlice S32x128 ![64, 0] (slab v) slices_S128x128_o64_0_S32x128
def blk3 (v : Vec F S1x128x128 .bf16) : FVec F S32x128 .bf16 :=
  extractStridedSlice S32x128 ![96, 0] (slab v) slices_S128x128_o96_0_S32x128

/-- A slab's codes as stored. -/
def codeSlab (v : Vec F S1x128x128 .bf16) : FVec F S1x128x128 .fp8e4m3 :=
  shapeCast S1x128x128 (concatenate S128x128 0 [⟨S32x128, codes (blk0 v) (exps (blk0 v))⟩,
    ⟨S32x128, codes (blk1 v) (exps (blk1 v))⟩, ⟨S32x128, codes (blk2 v) (exps (blk2 v))⟩,
    ⟨S32x128, codes (blk3 v) (exps (blk3 v))⟩] concatenates_S32x128_S32x128_S32x128_S32x128_S128x128_d0)
    shapeCasts_S128x128_S1x128x128

/-- A slab's values as the codes stand for them. -/
def deqSlab (v : Vec F S1x128x128 .bf16) : FVec F S128x128 .bf16 :=
  concatenate S128x128 0 [⟨S32x128, deqs (blk0 v) (exps (blk0 v))⟩, ⟨S32x128, deqs (blk1 v) (exps (blk1 v))⟩,
    ⟨S32x128, deqs (blk2 v) (exps (blk2 v))⟩, ⟨S32x128, deqs (blk3 v) (exps (blk3 v))⟩]
    concatenates_S32x128_S32x128_S32x128_S32x128_S128x128_d0

/-- The first and the second head of a key slab, as kept in the key buffer. -/
def kHead0 (v : Vec F S1x128x128 .bf16) : FVec F S1x128x64 .bf16 :=
  shapeCast S1x128x64 (transpose S128x64 [1, 0] (extractStridedSlice S64x128 ![0, 0] (deqSlab v) slices_S128x128_o0_0_S64x128)
    transposes_S64x128_p1_0_S128x64) shapeCasts_S128x64_S1x128x64
def kHead1 (v : Vec F S1x128x128 .bf16) : FVec F S1x128x64 .bf16 :=
  shapeCast S1x128x64 (transpose S128x64 [1, 0] (extractStridedSlice S64x128 ![64, 0] (deqSlab v) slices_S128x128_o64_0_S64x128)
    transposes_S64x128_p1_0_S128x64) shapeCasts_S128x64_S1x128x64

/-- The first and the second head of a value slab, as kept in the value buffer. -/
def vHead0 (v : Vec F S1x128x128 .bf16) : FVec F S1x64x128 .bf16 :=
  shapeCast S1x64x128 (extractStridedSlice S64x128 ![0, 0] (deqSlab v) slices_S128x128_o0_0_S64x128) shapeCasts_S64x128_S1x64x128
def vHead1 (v : Vec F S1x128x128 .bf16) : FVec F S1x64x128 .bf16 :=
  shapeCast S1x64x128 (extractStridedSlice S64x128 ![64, 0] (deqSlab v) slices_S128x128_o64_0_S64x128) shapeCasts_S64x128_S1x64x128

/-! ## Attention of two query heads over their key head's window -/

/-- Own block of keys above the previous one. -/
def kWin (a b : Vec F S1x128x64 .bf16) : FVec F S256x64 .bf16 :=
  concatenate S256x64 0 [⟨S128x64, shapeCast S128x64 a shapeCasts_S1x128x64_S128x64⟩,
    ⟨S128x64, shapeCast S128x64 b shapeCasts_S1x128x64_S128x64⟩] concatenates_S128x64_S128x64_S256x64_d0

/-- Own block of values beside the previous one. -/
def vWin (a b : Vec F S1x64x128 .bf16) : FVec F S64x256 .bf16 :=
  concatenate S64x256 1 [⟨S64x128, shapeCast S64x128 a shapeCasts_S1x64x128_S64x128⟩,
    ⟨S64x128, shapeCast S64x128 b shapeCasts_S1x64x128_S64x128⟩] concatenates_S64x128_S64x128_S64x256_d1

/-- The scores of a slab's two heads side by side. -/
def scores (kw : FVec F S256x64 .bf16) (v : Vec F S1x128x128 .bf16) : FVec F S256x256 .f32 :=
  matmul dot_S256x64_S64x256_S256x256_1_0_0_1_n_n none kw
    (concatenate S64x256 1 [⟨S64x128, extractStridedSlice S64x128 ![0, 0] (deqSlab v) slices_S128x128_o0_0_S64x128⟩,
      ⟨S64x128, extractStridedSlice S64x128 ![64, 0] (deqSlab v) slices_S128x128_o64_0_S64x128⟩]
      concatenates_S64x128_S64x128_S64x256_d1) (constant S256x256 .f32 0x00000000#32)

/-- Which of the two visible keys of a window row a query sees: its own block's where the row does not pass the query. -/
def own : IVec S128x128 1 :=
  cmpi .sle (iota .tc S128x128 32 [0] iota_S128x128_d0_w32) (iota .tc S128x128 32 [1] iota_S128x128_d1_w32)

/-- The first block of a batch has no previous block: its scores are pushed to `-∞`. -/
def bias (i : grid0.Coords) : F .f32 := k0_pay7 i

def sc0 (b : F .f32) (s : FVec F S256x256 .f32) : FVec F S128x128 .f32 :=
  select own (extractStridedSlice S128x128 ![0, 0] s slices_S256x256_o0_0_S128x128)
    (addf (extractStridedSlice S128x128 ![128, 0] s slices_S256x256_o128_0_S128x128) (broadcast S128x128 b))
def sc1 (b : F .f32) (s : FVec F S256x256 .f32) : FVec F S128x128 .f32 :=
  select own (extractStridedSlice S128x128 ![0, 128] s slices_S256x256_o0_128_S128x128)
    (addf (extractStridedSlice S128x128 ![128, 128] s slices_S256x256_o128_128_S128x128) (broadcast S128x128 b))

/-- The sink, in the raw scores' units. -/
def sink8 (s : Elt F .f32) : F .f32 := Scalar.mulf s (Scalar.ofBits .f32 0x41000000#32)

/-- Each query's largest score. -/
def smax (s : FVec F S128x128 .f32) : FVec F S1x128 .f32 :=
  shapeCast S1x128 (multiReduction .maximumf [0] S128 s 0xFF800000#32 reduces_S128x128_S128 (.inl rfl) rfl) shapeCasts_S128_S1x128

/-- Each query's largest score, the sink's among them. -/
def rowMax (s : FVec F S128x128 .f32) (k : F .f32) : FVec F S1x128 .f32 := maximumf (smax s) (broadcast S1x128 k)

/-- The probability row's exponent words. -/
def rowExp (s : FVec F S128x128 .f32) (k : F .f32) : IVec S1x128 32 :=
  field (mulf (exp2 (mulf (subf (smax s) (rowMax s k)) (broadcast S1x128 (Named.named κ "exp2_scale" 0x3E38AA3B#32))))
    (broadcast S1x128 (Scalar.ofBits .f32 0x3B124925#32)))

/-- The maximum, with the row's scale folded in. -/
def shift (s : FVec F S128x128 .f32) (k : F .f32) : FVec F S1x128 .f32 :=
  addf (rowMax s k) (mulf (sitofp .f32 (subi (rowExp s k) (broadcast S1x128 127#32)))
    (broadcast S1x128 (Named.named κ "inv_exp2_scale" 0x40B17218#32)))

/-- The scaled probabilities. -/
def prob (s : FVec F S128x128 .f32) (k : F .f32) : FVec F S128x128 .f32 :=
  exp2 (mulf (subf s (broadcastTo S128x128 (shift s k) broadcasts_S1x128_S128x128))
    (broadcast S128x128 (Named.named κ "exp2_scale" 0x3E38AA3B#32)))

/-- The reciprocal of their sum, the sink's term included. -/
def invl (s : FVec F S128x128 .f32) (k : F .f32) : FVec F S1x128 .f32 :=
  divf (broadcast S1x128 (Scalar.ofBits .f32 0x3F800000#32))
    (addf (shapeCast S1x128 (multiReduction .add [0] S128 (prob s k) 0x00000000#32 reduces_S128x128_S128 (.inl rfl) rfl)
        shapeCasts_S128_S1x128)
      (exp2 (mulf (subf (broadcast S1x128 k) (shift s k)) (broadcast S1x128 (Named.named κ "exp2_scale" 0x3E38AA3B#32)))))

/-- The probabilities as codes. -/
def pcode (s : FVec F S128x128 .f32) (k : F .f32) : FVec F S128x128 .fp8e4m3 :=
  truncf .fp8e4m3 (minimumf (prob s k) (broadcast S128x128 (Scalar.ofBits .f32 0x43E00000#32))) bitsLt_fp8e4m3_f32

def pOwn (s : FVec F S128x128 .f32) (k : F .f32) : FVec F S128x128 .fp8e4m3 :=
  select own (pcode s k) (broadcast S128x128 (Scalar.ofBits .fp8e4m3 0x00#8))
def pPrev (s : FVec F S128x128 .f32) (k : F .f32) : FVec F S128x128 .fp8e4m3 :=
  select own (broadcast S128x128 (Scalar.ofBits .fp8e4m3 0x00#8)) (pcode s k)

/-- Both heads' probabilities over the window. -/
def pWin (s0 s1 : FVec F S128x128 .f32) (k0 k1 : F .f32) : FVec F S256x256 .fp8e4m3 :=
  concatenate S256x256 0 [⟨S128x256, concatenate S128x256 1 [⟨S128x128, pOwn s0 k0⟩, ⟨S128x128, pOwn s1 k1⟩]
      concatenates_S128x128_S128x128_S128x256_d1⟩,
    ⟨S128x256, concatenate S128x256 1 [⟨S128x128, pPrev s0 k0⟩, ⟨S128x128, pPrev s1 k1⟩]
      concatenates_S128x128_S128x128_S128x256_d1⟩] concatenates_S128x256_S128x256_S256x256_d0

/-- The attention output of two heads, as stored. -/
def outOf (vw : FVec F S64x256 .bf16) (s0 s1 : FVec F S128x128 .f32) (k0 k1 : F .f32) : FVec F S1x128x128 .bf16 :=
  let o := matmul dot_S64x256_S256x256_S64x256_1_0_0_1_n_n none vw (pWin s0 s1 k0 k1) (constant S64x256 .f32 0x00000000#32)
  shapeCast S1x128x128 (transpose S128x128 [1, 0] (concatenate S128x128 0
    [⟨S64x128, truncf .bf16 (mulf (extractStridedSlice S64x128 ![0, 0] o slices_S64x256_o0_0_S64x128)
        (broadcastTo S64x128 (invl s0 k0) broadcasts_S1x128_S64x128)) bitsLt_bf16_f32⟩,
      ⟨S64x128, truncf .bf16 (mulf (extractStridedSlice S64x128 ![0, 128] o slices_S64x256_o0_128_S64x128)
        (broadcastTo S64x128 (invl s1 k1) broadcasts_S1x128_S64x128)) bitsLt_bf16_f32⟩]
    concatenates_S64x128_S64x128_S128x128_d0) transposes_S128x128_p1_0_S128x128) shapeCasts_S128x128_S1x128x128

/-- One output slab: two heads' queries `v`, their key head's window of keys (`ka` own, `kb` previous) and of values, the
    two sinks, the bias. -/
def outSlab (b : F .f32) (v : Vec F S1x128x128 .bf16) (ka kb : Vec F S1x128x64 .bf16) (va vb : Vec F S1x64x128 .bf16)
    (s0 s1 : Elt F .f32) : FVec F S1x128x128 .bf16 :=
  outOf (vWin va vb) (sc0 b (scores (kWin ka kb) v)) (sc1 b (scores (kWin ka kb) v)) (sink8 s0) (sink8 s1)

end Cert.Attn

end
-- ==== Proof.Pieces.lean ====
/- What each grid step stores, as lists of pieces built from the stages: the same lists in both cases of the body. -/
module

public import proofs.«01_k».proof.Proof.Stages
public import Idealize.ShloMosaic.Lib.Pipeline.ReadBack
public import Idealize.ShloMosaic.Lib.Pipeline.ValueKit
public import Idealize.ShloMosaic.Lib.Pipeline.Value

@[expose] public section

set_option maxRecDepth 16384

noncomputable section

namespace Cert.Attn

open Idealize.ShloMosaic Idealize.ShloMosaic.TcCoe Cert.KernelIdeal Cert.KernelIdeal.Gen

variable {F : FTy → Type} [FloatOps F] [Named F]

/-- A slab of 128 channels of a query block, from channel `o`. -/
def ldq (x : Vec F S1x128x2048 .bf16) (o : ℕ) (h : ∀ a, (![0, 0, o] : Fin 3 → ℕ) a + S1x128x128.size a ≤ S1x128x2048.size a) :
    Vec F S1x128x128 .bf16 :=
  View.ld x (Rect.unit (![0, 0, o] : Fin 3 → ℕ) S1x128x128.size h)

/-- A slab of 128 channels of a key or value block, from channel `o`. -/
def ldk (x : Vec F S1x128x512 .bf16) (o : ℕ) (h : ∀ a, (![0, 0, o] : Fin 3 → ℕ) a + S1x128x128.size a ≤ S1x128x512.size a) :
    Vec F S1x128x128 .bf16 :=
  View.ld x (Rect.unit (![0, 0, o] : Fin 3 → ℕ) S1x128x128.size h)

/-- Sink number `o`. -/
def lds (x : Vec F S32 .f32) (o : ℕ) (h : ∀ a, (![o] : Fin 1 → ℕ) a + S1.size a ≤ S32.size a) : Elt F .f32 :=
  View.ld x (Rect.unit (![o] : Fin 1 → ℕ) S1.size h) (Shape.Idx.first (by decide : 0 < S1.numel))

def q0 (x : Vec F S1x128x2048 .bf16) : Vec F S1x128x128 .bf16 := ldq x 0 inb_S1x128x2048_S1x128x128_0_0_0
def q1 (x : Vec F S1x128x2048 .bf16) : Vec F S1x128x128 .bf16 := ldq x 128 inb_S1x128x2048_S1x128x128_0_0_128
def q2 (x : Vec F S1x128x2048 .bf16) : Vec F S1x128x128 .bf16 := ldq x 256 inb_S1x128x2048_S1x128x128_0_0_256
def q3 (x : Vec F S1x128x2048 .bf16) : Vec F S1x128x128 .bf16 := ldq x 384 inb_S1x128x2048_S1x128x128_0_0_384
def q4 (x : Vec F S1x128x2048 .bf16) : Vec F S1x128x128 .bf16 := ldq x 512 inb_S1x128x2048_S1x128x128_0_0_512
def q5 (x : Vec F S1x128x2048 .bf16) : Vec F S1x128x128 .bf16 := ldq x 640 inb_S1x128x2048_S1x128x128_0_0_640
def q6 (x : Vec F S1x128x2048 .bf16) : Vec F S1x128x128 .bf16 := ldq x 768 inb_S1x128x2048_S1x128x128_0_0_768
def q7 (x : Vec F S1x128x2048 .bf16) : Vec F S1x128x128 .bf16 := ldq x 896 inb_S1x128x2048_S1x128x128_0_0_896
def q8 (x : Vec F S1x128x2048 .bf16) : Vec F S1x128x128 .bf16 := ldq x 1024 inb_S1x128x2048_S1x128x128_0_0_1024
def q9 (x : Vec F S1x128x2048 .bf16) : Vec F S1x128x128 .bf16 := ldq x 1152 inb_S1x128x2048_S1x128x128_0_0_1152
def q10 (x : Vec F S1x128x2048 .bf16) : Vec F S1x128x128 .bf16 := ldq x 1280 inb_S1x128x2048_S1x128x128_0_0_1280
def q11 (x : Vec F S1x128x2048 .bf16) : Vec F S1x128x128 .bf16 := ldq x 1408 inb_S1x128x2048_S1x128x128_0_0_1408
def q12 (x : Vec F S1x128x2048 .bf16) : Vec F S1x128x128 .bf16 := ldq x 1536 inb_S1x128x2048_S1x128x128_0_0_1536
def q13 (x : Vec F S1x128x2048 .bf16) : Vec F S1x128x128 .bf16 := ldq x 1664 inb_S1x128x2048_S1x128x128_0_0_1664
def q14 (x : Vec F S1x128x2048 .bf16) : Vec F S1x128x128 .bf16 := ldq x 1792 inb_S1x128x2048_S1x128x128_0_0_1792
def q15 (x : Vec F S1x128x2048 .bf16) : Vec F S1x128x128 .bf16 := ldq x 1920 inb_S1x128x2048_S1x128x128_0_0_1920
def k0 (x : Vec F S1x128x512 .bf16) : Vec F S1x128x128 .bf16 := ldk x 0 inb_S1x128x512_S1x128x128_0_0_0
def k1 (x : Vec F S1x128x512 .bf16) : Vec F S1x128x128 .bf16 := ldk x 128 inb_S1x128x512_S1x128x128_0_0_128
def k2 (x : Vec F S1x128x512 .bf16) : Vec F S1x128x128 .bf16 := ldk x 256 inb_S1x128x512_S1x128x128_0_0_256
def k3 (x : Vec F S1x128x512 .bf16) : Vec F S1x128x128 .bf16 := ldk x 384 inb_S1x128x512_S1x128x128_0_0_384
def s0 (x : Vec F S32 .f32) : Elt F .f32 := lds x 0 inb_S32_S1_0
def s1 (x : Vec F S32 .f32) : Elt F .f32 := lds x 1 inb_S32_S1_1
def s2 (x : Vec F S32 .f32) : Elt F .f32 := lds x 2 inb_S32_S1_2
def s3 (x : Vec F S32 .f32) : Elt F .f32 := lds x 3 inb_S32_S1_3
def s4 (x : Vec F S32 .f32) : Elt F .f32 := lds x 4 inb_S32_S1_4
def s5 (x : Vec F S32 .f32) : Elt F .f32 := lds x 5 inb_S32_S1_5
def s6 (x : Vec F S32 .f32) : Elt F .f32 := lds x 6 inb_S32_S1_6
def s7 (x : Vec F S32 .f32) : Elt F .f32 := lds x 7 inb_S32_S1_7
def s8 (x : Vec F S32 .f32) : Elt F .f32 := lds x 8 inb_S32_S1_8
def s9 (x : Vec F S32 .f32) : Elt F .f32 := lds x 9 inb_S32_S1_9
def s10 (x : Vec F S32 .f32) : Elt F .f32 := lds x 10 inb_S32_S1_10
def s11 (x : Vec F S32 .f32) : Elt F .f32 := lds x 11 inb_S32_S1_11
def s12 (x : Vec F S32 .f32) : Elt F .f32 := lds x 12 inb_S32_S1_12
def s13 (x : Vec F S32 .f32) : Elt F .f32 := lds x 13 inb_S32_S1_13
def s14 (x : Vec F S32 .f32) : Elt F .f32 := lds x 14 inb_S32_S1_14
def s15 (x : Vec F S32 .f32) : Elt F .f32 := lds x 15 inb_S32_S1_15
def s16 (x : Vec F S32 .f32) : Elt F .f32 := lds x 16 inb_S32_S1_16
def s17 (x : Vec F S32 .f32) : Elt F .f32 := lds x 17 inb_S32_S1_17
def s18 (x : Vec F S32 .f32) : Elt F .f32 := lds x 18 inb_S32_S1_18
def s19 (x : Vec F S32 .f32) : Elt F .f32 := lds x 19 inb_S32_S1_19
def s20 (x : Vec F S32 .f32) : Elt F .f32 := lds x 20 inb_S32_S1_20
def s21 (x : Vec F S32 .f32) : Elt F .f32 := lds x 21 inb_S32_S1_21
def s22 (x : Vec F S32 .f32) : Elt F .f32 := lds x 22 inb_S32_S1_22
def s23 (x : Vec F S32 .f32) : Elt F .f32 := lds x 23 inb_S32_S1_23
def s24 (x : Vec F S32 .f32) : Elt F .f32 := lds x 24 inb_S32_S1_24
def s25 (x : Vec F S32 .f32) : Elt F .f32 := lds x 25 inb_S32_S1_25
def s26 (x : Vec F S32 .f32) : Elt F .f32 := lds x 26 inb_S32_S1_26
def s27 (x : Vec F S32 .f32) : Elt F .f32 := lds x 27 inb_S32_S1_27
def s28 (x : Vec F S32 .f32) : Elt F .f32 := lds x 28 inb_S32_S1_28
def s29 (x : Vec F S32 .f32) : Elt F .f32 := lds x 29 inb_S32_S1_29
def s30 (x : Vec F S32 .f32) : Elt F .f32 := lds x 30 inb_S32_S1_30
def s31 (x : Vec F S32 .f32) : Elt F .f32 := lds x 31 inb_S32_S1_31

/-- The query codes of a step. -/
def qcL (x : Vec F S1x128x2048 .bf16) : List (View.Piece (Elt F) S1x2048x128 .fp8e4m3) :=
  [⟨Rect.unit ![0, 1920, 0] S1x128x128.size inb_S1x2048x128_S1x128x128_0_1920_0, codeSlab (q15 x)⟩,
    ⟨Rect.unit ![0, 1792, 0] S1x128x128.size inb_S1x2048x128_S1x128x128_0_1792_0, codeSlab (q14 x)⟩,
    ⟨Rect.unit ![0, 1664, 0] S1x128x128.size inb_S1x2048x128_S1x128x128_0_1664_0, codeSlab (q13 x)⟩,
    ⟨Rect.unit ![0, 1536, 0] S1x128x128.size inb_S1x2048x128_S1x128x128_0_1536_0, codeSlab (q12 x)⟩,
    ⟨Rect.unit ![0, 1408, 0] S1x128x128.size inb_S1x2048x128_S1x128x128_0_1408_0, codeSlab (q11 x)⟩,
    ⟨Rect.unit ![0, 1280, 0] S1x128x128.size inb_S1x2048x128_S1x128x128_0_1280_0, codeSlab (q10 x)⟩,
    ⟨Rect.unit ![0, 1152, 0] S1x128x128.size inb_S1x2048x128_S1x128x128_0_1152_0, codeSlab (q9 x)⟩,
    ⟨Rect.unit ![0, 1024, 0] S1x128x128.size inb_S1x2048x128_S1x128x128_0_1024_0, codeSlab (q8 x)⟩,
    ⟨Rect.unit ![0, 896, 0] S1x128x128.size inb_S1x2048x128_S1x128x128_0_896_0, codeSlab (q7 x)⟩,
    ⟨Rect.unit ![0, 768, 0] S1x128x128.size inb_S1x2048x128_S1x128x128_0_768_0, codeSlab (q6 x)⟩,
    ⟨Rect.unit ![0, 640, 0] S1x128x128.size inb_S1x2048x128_S1x128x128_0_640_0, codeSlab (q5 x)⟩,
    ⟨Rect.unit ![0, 512, 0] S1x128x128.size inb_S1x2048x128_S1x128x128_0_512_0, codeSlab (q4 x)⟩,
    ⟨Rect.unit ![0, 384, 0] S1x128x128.size inb_S1x2048x128_S1x128x128_0_384_0, codeSlab (q3 x)⟩,
    ⟨Rect.unit ![0, 256, 0] S1x128x128.size inb_S1x2048x128_S1x128x128_0_256_0, codeSlab (q2 x)⟩,
    ⟨Rect.unit ![0, 128, 0] S1x128x128.size inb_S1x2048x128_S1x128x128_0_128_0, codeSlab (q1 x)⟩,
    ⟨Rect.unit ![0, 0, 0] S1x128x128.size inb_S1x2048x128_S1x128x128_0_0_0, codeSlab (q0 x)⟩]

/-- The key (or value) codes of a step. -/
def kcL (x : Vec F S1x128x512 .bf16) : List (View.Piece (Elt F) S1x512x128 .fp8e4m3) :=
  [⟨Rect.unit ![0, 384, 0] S1x128x128.size inb_S1x512x128_S1x128x128_0_384_0, codeSlab (k3 x)⟩,
    ⟨Rect.unit ![0, 256, 0] S1x128x128.size inb_S1x512x128_S1x128x128_0_256_0, codeSlab (k2 x)⟩,
    ⟨Rect.unit ![0, 128, 0] S1x128x128.size inb_S1x512x128_S1x128x128_0_128_0, codeSlab (k1 x)⟩,
    ⟨Rect.unit ![0, 0, 0] S1x128x128.size inb_S1x512x128_S1x128x128_0_0_0, codeSlab (k0 x)⟩]

/-- The stored exponent bytes of every head, half 0. -/
def qsB0 (x : Vec F S1x128x2048 .bf16) : IVec S1x1x32x128 8 :=
  shapeCast S1x1x32x128 (trunci 8 (concatenate S32x128 0 [⟨S1x128, exps (blk0 (q0 x))⟩, ⟨S1x128, exps (blk2 (q0 x))⟩, ⟨S1x128, exps (blk0 (q1 x))⟩, ⟨S1x128, exps (blk2 (q1 x))⟩, ⟨S1x128, exps (blk0 (q2 x))⟩, ⟨S1x128, exps (blk2 (q2 x))⟩, ⟨S1x128, exps (blk0 (q3 x))⟩, ⟨S1x128, exps (blk2 (q3 x))⟩, ⟨S1x128, exps (blk0 (q4 x))⟩, ⟨S1x128, exps (blk2 (q4 x))⟩, ⟨S1x128, exps (blk0 (q5 x))⟩, ⟨S1x128, exps (blk2 (q5 x))⟩, ⟨S1x128, exps (blk0 (q6 x))⟩, ⟨S1x128, exps (blk2 (q6 x))⟩, ⟨S1x128, exps (blk0 (q7 x))⟩, ⟨S1x128, exps (blk2 (q7 x))⟩, ⟨S1x128, exps (blk0 (q8 x))⟩, ⟨S1x128, exps (blk2 (q8 x))⟩, ⟨S1x128, exps (blk0 (q9 x))⟩, ⟨S1x128, exps (blk2 (q9 x))⟩, ⟨S1x128, exps (blk0 (q10 x))⟩, ⟨S1x128, exps (blk2 (q10 x))⟩, ⟨S1x128, exps (blk0 (q11 x))⟩, ⟨S1x128, exps (blk2 (q11 x))⟩, ⟨S1x128, exps (blk0 (q12 x))⟩, ⟨S1x128, exps (blk2 (q12 x))⟩, ⟨S1x128, exps (blk0 (q13 x))⟩, ⟨S1x128, exps (blk2 (q13 x))⟩, ⟨S1x128, exps (blk0 (q14 x))⟩, ⟨S1x128, exps (blk2 (q14 x))⟩, ⟨S1x128, exps (blk0 (q15 x))⟩, ⟨S1x128, exps (blk2 (q15 x))⟩] concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S32x128_d0) natLt_8_32) shapeCasts_S32x128_S1x1x32x128

/-- The stored exponent bytes of every head, half 1. -/
def qsB1 (x : Vec F S1x128x2048 .bf16) : IVec S1x1x32x128 8 :=
  shapeCast S1x1x32x128 (trunci 8 (concatenate S32x128 0 [⟨S1x128, exps (blk1 (q0 x))⟩, ⟨S1x128, exps (blk3 (q0 x))⟩, ⟨S1x128, exps (blk1 (q1 x))⟩, ⟨S1x128, exps (blk3 (q1 x))⟩, ⟨S1x128, exps (blk1 (q2 x))⟩, ⟨S1x128, exps (blk3 (q2 x))⟩, ⟨S1x128, exps (blk1 (q3 x))⟩, ⟨S1x128, exps (blk3 (q3 x))⟩, ⟨S1x128, exps (blk1 (q4 x))⟩, ⟨S1x128, exps (blk3 (q4 x))⟩, ⟨S1x128, exps (blk1 (q5 x))⟩, ⟨S1x128, exps (blk3 (q5 x))⟩, ⟨S1x128, exps (blk1 (q6 x))⟩, ⟨S1x128, exps (blk3 (q6 x))⟩, ⟨S1x128, exps (blk1 (q7 x))⟩, ⟨S1x128, exps (blk3 (q7 x))⟩, ⟨S1x128, exps (blk1 (q8 x))⟩, ⟨S1x128, exps (blk3 (q8 x))⟩, ⟨S1x128, exps (blk1 (q9 x))⟩, ⟨S1x128, exps (blk3 (q9 x))⟩, ⟨S1x128, exps (blk1 (q10 x))⟩, ⟨S1x128, exps (blk3 (q10 x))⟩, ⟨S1x128, exps (blk1 (q11 x))⟩, ⟨S1x128, exps (blk3 (q11 x))⟩, ⟨S1x128, exps (blk1 (q12 x))⟩, ⟨S1x128, exps (blk3 (q12 x))⟩, ⟨S1x128, exps (blk1 (q13 x))⟩, ⟨S1x128, exps (blk3 (q13 x))⟩, ⟨S1x128, exps (blk1 (q14 x))⟩, ⟨S1x128, exps (blk3 (q14 x))⟩, ⟨S1x128, exps (blk1 (q15 x))⟩, ⟨S1x128, exps (blk3 (q15 x))⟩] concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S32x128_d0) natLt_8_32) shapeCasts_S32x128_S1x1x32x128

/-- The exponent bytes of a step. -/
def qsL (x : Vec F S1x128x2048 .bf16) : List (View.Piece (Elt F) S1x2x32x128 .i8) :=
  [⟨Rect.unit ![0, 1, 0, 0] S1x1x32x128.size inb_S1x2x32x128_S1x1x32x128_0_1_0_0, qsB1 x⟩,
    ⟨Rect.unit ![0, 0, 0, 0] S1x1x32x128.size inb_S1x2x32x128_S1x1x32x128_0_0_0_0, qsB0 x⟩]

/-- The stored exponent bytes of every head, half 0. -/
def ksB0 (x : Vec F S1x128x512 .bf16) : IVec S1x1x8x128 8 :=
  shapeCast S1x1x8x128 (trunci 8 (concatenate S8x128 0 [⟨S1x128, exps (blk0 (k0 x))⟩, ⟨S1x128, exps (blk2 (k0 x))⟩, ⟨S1x128, exps (blk0 (k1 x))⟩, ⟨S1x128, exps (blk2 (k1 x))⟩, ⟨S1x128, exps (blk0 (k2 x))⟩, ⟨S1x128, exps (blk2 (k2 x))⟩, ⟨S1x128, exps (blk0 (k3 x))⟩, ⟨S1x128, exps (blk2 (k3 x))⟩] concatenates_S1x128_S1x128_S1x128_S1x128_S1x128_S1x128_S1x128_S1x128_S8x128_d0) natLt_8_32) shapeCasts_S8x128_S1x1x8x128

/-- The stored exponent bytes of every head, half 1. -/
def ksB1 (x : Vec F S1x128x512 .bf16) : IVec S1x1x8x128 8 :=
  shapeCast S1x1x8x128 (trunci 8 (concatenate S8x128 0 [⟨S1x128, exps (blk1 (k0 x))⟩, ⟨S1x128, exps (blk3 (k0 x))⟩, ⟨S1x128, exps (blk1 (k1 x))⟩, ⟨S1x128, exps (blk3 (k1 x))⟩, ⟨S1x128, exps (blk1 (k2 x))⟩, ⟨S1x128, exps (blk3 (k2 x))⟩, ⟨S1x128, exps (blk1 (k3 x))⟩, ⟨S1x128, exps (blk3 (k3 x))⟩] concatenates_S1x128_S1x128_S1x128_S1x128_S1x128_S1x128_S1x128_S1x128_S8x128_d0) natLt_8_32) shapeCasts_S8x128_S1x1x8x128

/-- The exponent bytes of a step. -/
def ksL (x : Vec F S1x128x512 .bf16) : List (View.Piece (Elt F) S1x2x8x128 .i8) :=
  [⟨Rect.unit ![0, 1, 0, 0] S1x1x8x128.size inb_S1x2x8x128_S1x1x8x128_0_1_0_0, ksB1 x⟩,
    ⟨Rect.unit ![0, 0, 0, 0] S1x1x8x128.size inb_S1x2x8x128_S1x1x8x128_0_0_0_0, ksB0 x⟩]

def kH2 (L : List (View.Piece (Elt F) S8x128x64 .bf16)) (x : Vec F S1x128x512 .bf16) : List (View.Piece (Elt F) S8x128x64 .bf16) :=
  ⟨Rect.unit ![1, 0, 0] S1x128x64.size inb_S8x128x64_S1x128x64_1_0_0, kHead1 (k0 x)⟩ :: ⟨Rect.unit ![0, 0, 0] S1x128x64.size inb_S8x128x64_S1x128x64_0_0_0, kHead0 (k0 x)⟩ :: L

def kH4 (L : List (View.Piece (Elt F) S8x128x64 .bf16)) (x : Vec F S1x128x512 .bf16) : List (View.Piece (Elt F) S8x128x64 .bf16) :=
  ⟨Rect.unit ![3, 0, 0] S1x128x64.size inb_S8x128x64_S1x128x64_3_0_0, kHead1 (k1 x)⟩ :: ⟨Rect.unit ![2, 0, 0] S1x128x64.size inb_S8x128x64_S1x128x64_2_0_0, kHead0 (k1 x)⟩ :: kH2 L x

def kH6 (L : List (View.Piece (Elt F) S8x128x64 .bf16)) (x : Vec F S1x128x512 .bf16) : List (View.Piece (Elt F) S8x128x64 .bf16) :=
  ⟨Rect.unit ![5, 0, 0] S1x128x64.size inb_S8x128x64_S1x128x64_5_0_0, kHead1 (k2 x)⟩ :: ⟨Rect.unit ![4, 0, 0] S1x128x64.size inb_S8x128x64_S1x128x64_4_0_0, kHead0 (k2 x)⟩ :: kH4 L x

def kH8 (L : List (View.Piece (Elt F) S8x128x64 .bf16)) (x : Vec F S1x128x512 .bf16) : List (View.Piece (Elt F) S8x128x64 .bf16) :=
  ⟨Rect.unit ![7, 0, 0] S1x128x64.size inb_S8x128x64_S1x128x64_7_0_0, kHead1 (k3 x)⟩ :: ⟨Rect.unit ![6, 0, 0] S1x128x64.size inb_S8x128x64_S1x128x64_6_0_0, kHead0 (k3 x)⟩ :: kH6 L x

/-- The key buffer a step leaves, head by head. -/
def kOwn (x : Vec F S1x128x512 .bf16) : Fin 8 → Vec F S1x128x64 .bf16 :=
  ![kHead0 (k0 x), kHead1 (k0 x), kHead0 (k1 x), kHead1 (k1 x), kHead0 (k2 x), kHead1 (k2 x), kHead0 (k3 x), kHead1 (k3 x)]

/-- The key buffer the step before left, head by head. -/
def kPrev (X : Vec F S8x128x64 .bf16) : Fin 8 → Vec F S1x128x64 .bf16 :=
  ![View.ld X (Rect.unit ![0, 0, 0] S1x128x64.size inb_S8x128x64_S1x128x64_0_0_0), View.ld X (Rect.unit ![1, 0, 0] S1x128x64.size inb_S8x128x64_S1x128x64_1_0_0), View.ld X (Rect.unit ![2, 0, 0] S1x128x64.size inb_S8x128x64_S1x128x64_2_0_0), View.ld X (Rect.unit ![3, 0, 0] S1x128x64.size inb_S8x128x64_S1x128x64_3_0_0), View.ld X (Rect.unit ![4, 0, 0] S1x128x64.size inb_S8x128x64_S1x128x64_4_0_0), View.ld X (Rect.unit ![5, 0, 0] S1x128x64.size inb_S8x128x64_S1x128x64_5_0_0), View.ld X (Rect.unit ![6, 0, 0] S1x128x64.size inb_S8x128x64_S1x128x64_6_0_0), View.ld X (Rect.unit ![7, 0, 0] S1x128x64.size inb_S8x128x64_S1x128x64_7_0_0)]

def vH2 (L : List (View.Piece (Elt F) S8x64x128 .bf16)) (x : Vec F S1x128x512 .bf16) : List (View.Piece (Elt F) S8x64x128 .bf16) :=
  ⟨Rect.unit ![1, 0, 0] S1x64x128.size inb_S8x64x128_S1x64x128_1_0_0, vHead1 (k0 x)⟩ :: ⟨Rect.unit ![0, 0, 0] S1x64x128.size inb_S8x64x128_S1x64x128_0_0_0, vHead0 (k0 x)⟩ :: L

def vH4 (L : List (View.Piece (Elt F) S8x64x128 .bf16)) (x : Vec F S1x128x512 .bf16) : List (View.Piece (Elt F) S8x64x128 .bf16) :=
  ⟨Rect.unit ![3, 0, 0] S1x64x128.size inb_S8x64x128_S1x64x128_3_0_0, vHead1 (k1 x)⟩ :: ⟨Rect.unit ![2, 0, 0] S1x64x128.size inb_S8x64x128_S1x64x128_2_0_0, vHead0 (k1 x)⟩ :: vH2 L x

def vH6 (L : List (View.Piece (Elt F) S8x64x128 .bf16)) (x : Vec F S1x128x512 .bf16) : List (View.Piece (Elt F) S8x64x128 .bf16) :=
  ⟨Rect.unit ![5, 0, 0] S1x64x128.size inb_S8x64x128_S1x64x128_5_0_0, vHead1 (k2 x)⟩ :: ⟨Rect.unit ![4, 0, 0] S1x64x128.size inb_S8x64x128_S1x64x128_4_0_0, vHead0 (k2 x)⟩ :: vH4 L x

def vH8 (L : List (View.Piece (Elt F) S8x64x128 .bf16)) (x : Vec F S1x128x512 .bf16) : List (View.Piece (Elt F) S8x64x128 .bf16) :=
  ⟨Rect.unit ![7, 0, 0] S1x64x128.size inb_S8x64x128_S1x64x128_7_0_0, vHead1 (k3 x)⟩ :: ⟨Rect.unit ![6, 0, 0] S1x64x128.size inb_S8x64x128_S1x64x128_6_0_0, vHead0 (k3 x)⟩ :: vH6 L x

/-- The value buffer a step leaves, head by head. -/
def vOwn (x : Vec F S1x128x512 .bf16) : Fin 8 → Vec F S1x64x128 .bf16 :=
  ![vHead0 (k0 x), vHead1 (k0 x), vHead0 (k1 x), vHead1 (k1 x), vHead0 (k2 x), vHead1 (k2 x), vHead0 (k3 x), vHead1 (k3 x)]

/-- The value buffer the step before left, head by head. -/
def vPrev (X : Vec F S8x64x128 .bf16) : Fin 8 → Vec F S1x64x128 .bf16 :=
  ![View.ld X (Rect.unit ![0, 0, 0] S1x64x128.size inb_S8x64x128_S1x64x128_0_0_0), View.ld X (Rect.unit ![1, 0, 0] S1x64x128.size inb_S8x64x128_S1x64x128_1_0_0), View.ld X (Rect.unit ![2, 0, 0] S1x64x128.size inb_S8x64x128_S1x64x128_2_0_0), View.ld X (Rect.unit ![3, 0, 0] S1x64x128.size inb_S8x64x128_S1x64x128_3_0_0), View.ld X (Rect.unit ![4, 0, 0] S1x64x128.size inb_S8x64x128_S1x64x128_4_0_0), View.ld X (Rect.unit ![5, 0, 0] S1x64x128.size inb_S8x64x128_S1x64x128_5_0_0), View.ld X (Rect.unit ![6, 0, 0] S1x64x128.size inb_S8x64x128_S1x64x128_6_0_0), View.ld X (Rect.unit ![7, 0, 0] S1x64x128.size inb_S8x64x128_S1x64x128_7_0_0)]

/-- The attention output of a step. -/
def outL (b : F .f32) (x0 : Vec F S32 .f32) (x : Vec F S1x128x2048 .bf16) (ka kb : Fin 8 → Vec F S1x128x64 .bf16) (va vb : Fin 8 → Vec F S1x64x128 .bf16) :
    List (View.Piece (Elt F) S1x128x2048 .bf16) :=
  [⟨Rect.unit ![0, 0, 1920] S1x128x128.size inb_S1x128x2048_S1x128x128_0_0_1920, outSlab b (q15 x) (ka 7) (kb 7) (va 7) (vb 7) (s30 x0) (s31 x0)⟩,
    ⟨Rect.unit ![0, 0, 1792] S1x128x128.size inb_S1x128x2048_S1x128x128_0_0_1792, outSlab b (q14 x) (ka 7) (kb 7) (va 7) (vb 7) (s28 x0) (s29 x0)⟩,
    ⟨Rect.unit ![0, 0, 1664] S1x128x128.size inb_S1x128x2048_S1x128x128_0_0_1664, outSlab b (q13 x) (ka 6) (kb 6) (va 6) (vb 6) (s26 x0) (s27 x0)⟩,
    ⟨Rect.unit ![0, 0, 1536] S1x128x128.size inb_S1x128x2048_S1x128x128_0_0_1536, outSlab b (q12 x) (ka 6) (kb 6) (va 6) (vb 6) (s24 x0) (s25 x0)⟩,
    ⟨Rect.unit ![0, 0, 1408] S1x128x128.size inb_S1x128x2048_S1x128x128_0_0_1408, outSlab b (q11 x) (ka 5) (kb 5) (va 5) (vb 5) (s22 x0) (s23 x0)⟩,
    ⟨Rect.unit ![0, 0, 1280] S1x128x128.size inb_S1x128x2048_S1x128x128_0_0_1280, outSlab b (q10 x) (ka 5) (kb 5) (va 5) (vb 5) (s20 x0) (s21 x0)⟩,
    ⟨Rect.unit ![0, 0, 1152] S1x128x128.size inb_S1x128x2048_S1x128x128_0_0_1152, outSlab b (q9 x) (ka 4) (kb 4) (va 4) (vb 4) (s18 x0) (s19 x0)⟩,
    ⟨Rect.unit ![0, 0, 1024] S1x128x128.size inb_S1x128x2048_S1x128x128_0_0_1024, outSlab b (q8 x) (ka 4) (kb 4) (va 4) (vb 4) (s16 x0) (s17 x0)⟩,
    ⟨Rect.unit ![0, 0, 896] S1x128x128.size inb_S1x128x2048_S1x128x128_0_0_896, outSlab b (q7 x) (ka 3) (kb 3) (va 3) (vb 3) (s14 x0) (s15 x0)⟩,
    ⟨Rect.unit ![0, 0, 768] S1x128x128.size inb_S1x128x2048_S1x128x128_0_0_768, outSlab b (q6 x) (ka 3) (kb 3) (va 3) (vb 3) (s12 x0) (s13 x0)⟩,
    ⟨Rect.unit ![0, 0, 640] S1x128x128.size inb_S1x128x2048_S1x128x128_0_0_640, outSlab b (q5 x) (ka 2) (kb 2) (va 2) (vb 2) (s10 x0) (s11 x0)⟩,
    ⟨Rect.unit ![0, 0, 512] S1x128x128.size inb_S1x128x2048_S1x128x128_0_0_512, outSlab b (q4 x) (ka 2) (kb 2) (va 2) (vb 2) (s8 x0) (s9 x0)⟩,
    ⟨Rect.unit ![0, 0, 384] S1x128x128.size inb_S1x128x2048_S1x128x128_0_0_384, outSlab b (q3 x) (ka 1) (kb 1) (va 1) (vb 1) (s6 x0) (s7 x0)⟩,
    ⟨Rect.unit ![0, 0, 256] S1x128x128.size inb_S1x128x2048_S1x128x128_0_0_256, outSlab b (q2 x) (ka 1) (kb 1) (va 1) (vb 1) (s4 x0) (s5 x0)⟩,
    ⟨Rect.unit ![0, 0, 128] S1x128x128.size inb_S1x128x2048_S1x128x128_0_0_128, outSlab b (q1 x) (ka 0) (kb 0) (va 0) (vb 0) (s2 x0) (s3 x0)⟩,
    ⟨Rect.unit ![0, 0, 0] S1x128x128.size inb_S1x128x2048_S1x128x128_0_0_0, outSlab b (q0 x) (ka 0) (kb 0) (va 0) (vb 0) (s0 x0) (s1 x0)⟩]

section

variable {sig : RefSig} {κ : Kind} {sp : Space}

/-- The own blocks as loaded back after the stores made so far. -/
def kWinOwn (v : View sig κ sp S8x128x64 .bf16) (L : List (View.Piece (Elt F) S8x128x64 .bf16)) (x : Vec F S1x128x512 .bf16) : Fin 8 → Vec F S1x128x64 .bf16 :=
  ![v.readCov (kH2 L x) (Rect.unit (s := S8x128x64) ![0, 0, 0] S1x128x64.size inb_S8x128x64_S1x128x64_0_0_0).toLoadRect,
    v.readCov (kH2 L x) (Rect.unit (s := S8x128x64) ![1, 0, 0] S1x128x64.size inb_S8x128x64_S1x128x64_1_0_0).toLoadRect,
    v.readCov (kH4 L x) (Rect.unit (s := S8x128x64) ![2, 0, 0] S1x128x64.size inb_S8x128x64_S1x128x64_2_0_0).toLoadRect,
    v.readCov (kH4 L x) (Rect.unit (s := S8x128x64) ![3, 0, 0] S1x128x64.size inb_S8x128x64_S1x128x64_3_0_0).toLoadRect,
    v.readCov (kH6 L x) (Rect.unit (s := S8x128x64) ![4, 0, 0] S1x128x64.size inb_S8x128x64_S1x128x64_4_0_0).toLoadRect,
    v.readCov (kH6 L x) (Rect.unit (s := S8x128x64) ![5, 0, 0] S1x128x64.size inb_S8x128x64_S1x128x64_5_0_0).toLoadRect,
    v.readCov (kH8 L x) (Rect.unit (s := S8x128x64) ![6, 0, 0] S1x128x64.size inb_S8x128x64_S1x128x64_6_0_0).toLoadRect,
    v.readCov (kH8 L x) (Rect.unit (s := S8x128x64) ![7, 0, 0] S1x128x64.size inb_S8x128x64_S1x128x64_7_0_0).toLoadRect]

/-- The previous blocks as loaded back. -/
def kWinPrev (v : View sig κ sp S8x128x64 .bf16) (X : Vec F S8x128x64 .bf16) : Fin 8 → Vec F S1x128x64 .bf16 :=
  ![v.readCov [⟨(Rect.unit (s := S8x128x64) ![0, 0, 0] S8x128x64.size inb_S8x128x64_S8x128x64_0_0_0), k0_pay4 X⟩] (Rect.unit (s := S8x128x64) ![0, 0, 0] S1x128x64.size inb_S8x128x64_S1x128x64_0_0_0).toLoadRect,
    v.readCov [⟨(Rect.unit (s := S8x128x64) ![0, 0, 0] S8x128x64.size inb_S8x128x64_S8x128x64_0_0_0), k0_pay4 X⟩] (Rect.unit (s := S8x128x64) ![1, 0, 0] S1x128x64.size inb_S8x128x64_S1x128x64_1_0_0).toLoadRect,
    v.readCov [⟨(Rect.unit (s := S8x128x64) ![0, 0, 0] S8x128x64.size inb_S8x128x64_S8x128x64_0_0_0), k0_pay4 X⟩] (Rect.unit (s := S8x128x64) ![2, 0, 0] S1x128x64.size inb_S8x128x64_S1x128x64_2_0_0).toLoadRect,
    v.readCov [⟨(Rect.unit (s := S8x128x64) ![0, 0, 0] S8x128x64.size inb_S8x128x64_S8x128x64_0_0_0), k0_pay4 X⟩] (Rect.unit (s := S8x128x64) ![3, 0, 0] S1x128x64.size inb_S8x128x64_S1x128x64_3_0_0).toLoadRect,
    v.readCov [⟨(Rect.unit (s := S8x128x64) ![0, 0, 0] S8x128x64.size inb_S8x128x64_S8x128x64_0_0_0), k0_pay4 X⟩] (Rect.unit (s := S8x128x64) ![4, 0, 0] S1x128x64.size inb_S8x128x64_S1x128x64_4_0_0).toLoadRect,
    v.readCov [⟨(Rect.unit (s := S8x128x64) ![0, 0, 0] S8x128x64.size inb_S8x128x64_S8x128x64_0_0_0), k0_pay4 X⟩] (Rect.unit (s := S8x128x64) ![5, 0, 0] S1x128x64.size inb_S8x128x64_S1x128x64_5_0_0).toLoadRect,
    v.readCov [⟨(Rect.unit (s := S8x128x64) ![0, 0, 0] S8x128x64.size inb_S8x128x64_S8x128x64_0_0_0), k0_pay4 X⟩] (Rect.unit (s := S8x128x64) ![6, 0, 0] S1x128x64.size inb_S8x128x64_S1x128x64_6_0_0).toLoadRect,
    v.readCov [⟨(Rect.unit (s := S8x128x64) ![0, 0, 0] S8x128x64.size inb_S8x128x64_S8x128x64_0_0_0), k0_pay4 X⟩] (Rect.unit (s := S8x128x64) ![7, 0, 0] S1x128x64.size inb_S8x128x64_S1x128x64_7_0_0).toLoadRect]

theorem kWinOwn_eq (v : View sig κ sp S8x128x64 .bf16) (L : List (View.Piece (Elt F) S8x128x64 .bf16)) (x : Vec F S1x128x512 .bf16) :
    kWinOwn v L x = kOwn x := by
  simp (disch := decide) only [kWinOwn, kH2, kH4, kH6, kH8, ↓ View.readCov_cons_toLoadRect, ↓ View.readCov_skip, kOwn]

theorem kWinPrev_eq (v : View sig κ sp S8x128x64 .bf16) (X : Vec F S8x128x64 .bf16) : kWinPrev v X = kPrev X := by
  have h : k0_pay4 X = X := by
    unfold k0_pay4
    exact shapeCast_self _ _
  simp (disch := decide) only [kWinPrev, View.readCov_fill, h, kPrev]

end

section

variable {sig : RefSig} {κ : Kind} {sp : Space}

/-- The own blocks as loaded back after the stores made so far. -/
def vWinOwn (v : View sig κ sp S8x64x128 .bf16) (L : List (View.Piece (Elt F) S8x64x128 .bf16)) (x : Vec F S1x128x512 .bf16) : Fin 8 → Vec F S1x64x128 .bf16 :=
  ![v.readCov (vH2 L x) (Rect.unit (s := S8x64x128) ![0, 0, 0] S1x64x128.size inb_S8x64x128_S1x64x128_0_0_0).toLoadRect,
    v.readCov (vH2 L x) (Rect.unit (s := S8x64x128) ![1, 0, 0] S1x64x128.size inb_S8x64x128_S1x64x128_1_0_0).toLoadRect,
    v.readCov (vH4 L x) (Rect.unit (s := S8x64x128) ![2, 0, 0] S1x64x128.size inb_S8x64x128_S1x64x128_2_0_0).toLoadRect,
    v.readCov (vH4 L x) (Rect.unit (s := S8x64x128) ![3, 0, 0] S1x64x128.size inb_S8x64x128_S1x64x128_3_0_0).toLoadRect,
    v.readCov (vH6 L x) (Rect.unit (s := S8x64x128) ![4, 0, 0] S1x64x128.size inb_S8x64x128_S1x64x128_4_0_0).toLoadRect,
    v.readCov (vH6 L x) (Rect.unit (s := S8x64x128) ![5, 0, 0] S1x64x128.size inb_S8x64x128_S1x64x128_5_0_0).toLoadRect,
    v.readCov (vH8 L x) (Rect.unit (s := S8x64x128) ![6, 0, 0] S1x64x128.size inb_S8x64x128_S1x64x128_6_0_0).toLoadRect,
    v.readCov (vH8 L x) (Rect.unit (s := S8x64x128) ![7, 0, 0] S1x64x128.size inb_S8x64x128_S1x64x128_7_0_0).toLoadRect]

/-- The previous blocks as loaded back. -/
def vWinPrev (v : View sig κ sp S8x64x128 .bf16) (X : Vec F S8x64x128 .bf16) : Fin 8 → Vec F S1x64x128 .bf16 :=
  ![v.readCov [⟨(Rect.unit (s := S8x64x128) ![0, 0, 0] S8x64x128.size inb_S8x64x128_S8x64x128_0_0_0), k0_pay5 X⟩] (Rect.unit (s := S8x64x128) ![0, 0, 0] S1x64x128.size inb_S8x64x128_S1x64x128_0_0_0).toLoadRect,
    v.readCov [⟨(Rect.unit (s := S8x64x128) ![0, 0, 0] S8x64x128.size inb_S8x64x128_S8x64x128_0_0_0), k0_pay5 X⟩] (Rect.unit (s := S8x64x128) ![1, 0, 0] S1x64x128.size inb_S8x64x128_S1x64x128_1_0_0).toLoadRect,
    v.readCov [⟨(Rect.unit (s := S8x64x128) ![0, 0, 0] S8x64x128.size inb_S8x64x128_S8x64x128_0_0_0), k0_pay5 X⟩] (Rect.unit (s := S8x64x128) ![2, 0, 0] S1x64x128.size inb_S8x64x128_S1x64x128_2_0_0).toLoadRect,
    v.readCov [⟨(Rect.unit (s := S8x64x128) ![0, 0, 0] S8x64x128.size inb_S8x64x128_S8x64x128_0_0_0), k0_pay5 X⟩] (Rect.unit (s := S8x64x128) ![3, 0, 0] S1x64x128.size inb_S8x64x128_S1x64x128_3_0_0).toLoadRect,
    v.readCov [⟨(Rect.unit (s := S8x64x128) ![0, 0, 0] S8x64x128.size inb_S8x64x128_S8x64x128_0_0_0), k0_pay5 X⟩] (Rect.unit (s := S8x64x128) ![4, 0, 0] S1x64x128.size inb_S8x64x128_S1x64x128_4_0_0).toLoadRect,
    v.readCov [⟨(Rect.unit (s := S8x64x128) ![0, 0, 0] S8x64x128.size inb_S8x64x128_S8x64x128_0_0_0), k0_pay5 X⟩] (Rect.unit (s := S8x64x128) ![5, 0, 0] S1x64x128.size inb_S8x64x128_S1x64x128_5_0_0).toLoadRect,
    v.readCov [⟨(Rect.unit (s := S8x64x128) ![0, 0, 0] S8x64x128.size inb_S8x64x128_S8x64x128_0_0_0), k0_pay5 X⟩] (Rect.unit (s := S8x64x128) ![6, 0, 0] S1x64x128.size inb_S8x64x128_S1x64x128_6_0_0).toLoadRect,
    v.readCov [⟨(Rect.unit (s := S8x64x128) ![0, 0, 0] S8x64x128.size inb_S8x64x128_S8x64x128_0_0_0), k0_pay5 X⟩] (Rect.unit (s := S8x64x128) ![7, 0, 0] S1x64x128.size inb_S8x64x128_S1x64x128_7_0_0).toLoadRect]

theorem vWinOwn_eq (v : View sig κ sp S8x64x128 .bf16) (L : List (View.Piece (Elt F) S8x64x128 .bf16)) (x : Vec F S1x128x512 .bf16) :
    vWinOwn v L x = vOwn x := by
  simp (disch := decide) only [vWinOwn, vH2, vH4, vH6, vH8, ↓ View.readCov_cons_toLoadRect, ↓ View.readCov_skip, vOwn]

theorem vWinPrev_eq (v : View sig κ sp S8x64x128 .bf16) (X : Vec F S8x64x128 .bf16) : vWinPrev v X = vPrev X := by
  have h : k0_pay5 X = X := by
    unfold k0_pay5
    exact shapeCast_self _ _
  simp (disch := decide) only [vWinPrev, View.readCov_fill, h, vPrev]

end

end Cert.Attn

end
-- ==== Proof.PiecesA.lean ====
/- Case A of the body stores the lists of the stages. -/
module

public import proofs.«01_k».proof.Proof.Pieces
public import proofs.«01_k».proof.Proof.Gen.KernelIdeal.Frame.RunA

@[expose] public section

set_option maxRecDepth 16384

noncomputable section

namespace Cert.Attn

open Idealize.ShloMosaic Idealize.ShloMosaic.TcCoe Cert.KernelIdeal Cert.KernelIdeal.Gen

variable {F : FTy → Type} [FloatOps F] [Named F]

variable (c : Dev nD) (i : grid0.Coords) (arg2 : Memref sig .tc .smem S32 .f32) (harg2 : arg2.IsWhole) (arg3 : Memref sig .tc .vmem S1x128x2048 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x2048 .bf16) (harg6 : arg6.IsWhole) (arg7 : Memref sig .tc .vmem S1x2048x128 .fp8e4m3) (harg7 : arg7.IsWhole) (arg8 : Memref sig .tc .vmem S1x2x32x128 .i8) (harg8 : arg8.IsWhole) (arg9 : Memref sig .tc .vmem S1x512x128 .fp8e4m3) (harg9 : arg9.IsWhole) (arg10 : Memref sig .tc .vmem S1x2x8x128 .i8) (harg10 : arg10.IsWhole) (arg11 : Memref sig .tc .vmem S1x512x128 .fp8e4m3) (harg11 : arg11.IsWhole) (arg12 : Memref sig .tc .vmem S1x2x8x128 .i8) (harg12 : arg12.IsWhole) (arg13 : Memref sig .tc .vmem S8x128x64 .bf16) (harg13 : arg13.IsWhole) (arg14 : Memref sig .tc .vmem S8x128x64 .bf16) (harg14 : arg14.IsWhole) (arg15 : Memref sig .tc .vmem S8x64x128 .bf16) (harg15 : arg15.IsWhole) (arg16 : Memref sig .tc .vmem S8x64x128 .bf16) (harg16 : arg16.IsWhole) (hc0 : cond0_0 i)
    (x0 : Vec F S32 .f32) (x1 : Vec F S1x128x2048 .bf16) (x2 : Vec F S1x128x512 .bf16) (x3 : Vec F S1x128x512 .bf16)

theorem runA_5 : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.1 = qcL x1 :=
  (show _ = qcL (arg3.view.read (Elt F) (harg3.unread x1)) from rfl).trans (by rw [harg3.read_unread])

theorem runA_6 : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.1 = qsL x1 :=
  (show _ = qsL (arg3.view.read (Elt F) (harg3.unread x1)) from rfl).trans (by rw [harg3.read_unread])

theorem runA_7 : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.1 = kcL x2 :=
  (show _ = kcL (arg4.view.read (Elt F) (harg4.unread x2)) from rfl).trans (by rw [harg4.read_unread])

theorem runA_8 : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.2.1 = ksL x2 :=
  (show _ = ksL (arg4.view.read (Elt F) (harg4.unread x2)) from rfl).trans (by rw [harg4.read_unread])

theorem runA_9 : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.2.2.1 = kcL x3 :=
  (show _ = kcL (arg5.view.read (Elt F) (harg5.unread x3)) from rfl).trans (by rw [harg5.read_unread])

theorem runA_10 : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.2.2.2.1 = ksL x3 :=
  (show _ = ksL (arg5.view.read (Elt F) (harg5.unread x3)) from rfl).trans (by rw [harg5.read_unread])

theorem runA_11 : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.2.2.2.2.1 = kH8 [⟨(Rect.unit (s := S8x128x64) ![0, 0, 0] S8x128x64.size inb_S8x128x64_S8x128x64_0_0_0), k0_pay2⟩] x2 :=
  (show _ = kH8 [⟨(Rect.unit (s := S8x128x64) ![0, 0, 0] S8x128x64.size inb_S8x128x64_S8x128x64_0_0_0), k0_pay2⟩] (arg4.view.read (Elt F) (harg4.unread x2)) from rfl).trans (by rw [harg4.read_unread])

theorem runA_12 : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.2.2.2.2.2.1 = vH8 [⟨(Rect.unit (s := S8x64x128) ![0, 0, 0] S8x64x128.size inb_S8x64x128_S8x64x128_0_0_0), k0_pay3⟩] x3 :=
  (show _ = vH8 [⟨(Rect.unit (s := S8x64x128) ![0, 0, 0] S8x64x128.size inb_S8x64x128_S8x64x128_0_0_0), k0_pay3⟩] (arg5.view.read (Elt F) (harg5.unread x3)) from rfl).trans (by rw [harg5.read_unread])

set_option maxHeartbeats 2000000 in
theorem runA_4 : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).1
    = outL (k0_pay7 i) x0 x1 (kOwn x2) (kPrev k0_pay2) (vOwn x3) (vPrev k0_pay3) := by
  have h : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).1
    = outL (k0_pay7 i) (arg2.view.read (Elt F) (harg2.unread x0)) (arg3.view.read (Elt F) (harg3.unread x1)) (kWinOwn arg13.view [⟨(Rect.unit (s := S8x128x64) ![0, 0, 0] S8x128x64.size inb_S8x128x64_S8x128x64_0_0_0), k0_pay2⟩] (arg4.view.read (Elt F) (harg4.unread x2))) (kWinPrev arg14.view (arg13.view.readCov [⟨(Rect.unit (s := S8x128x64) ![0, 0, 0] S8x128x64.size inb_S8x128x64_S8x128x64_0_0_0), k0_pay2⟩] (Rect.unit (s := S8x128x64) ![0, 0, 0] S8x128x64.size inb_S8x128x64_S8x128x64_0_0_0).toLoadRect))
      (vWinOwn arg15.view [⟨(Rect.unit (s := S8x64x128) ![0, 0, 0] S8x64x128.size inb_S8x64x128_S8x64x128_0_0_0), k0_pay3⟩] (arg5.view.read (Elt F) (harg5.unread x3))) (vWinPrev arg16.view (arg15.view.readCov [⟨(Rect.unit (s := S8x64x128) ![0, 0, 0] S8x64x128.size inb_S8x64x128_S8x64x128_0_0_0), k0_pay3⟩] (Rect.unit (s := S8x64x128) ![0, 0, 0] S8x64x128.size inb_S8x64x128_S8x64x128_0_0_0).toLoadRect)) := rfl
  rw [h, harg2.read_unread, harg3.read_unread, harg4.read_unread, harg5.read_unread, kWinOwn_eq, vWinOwn_eq, kWinPrev_eq, vWinPrev_eq]
  rw [View.readCov_unit_lit' _ _ _ (by decide), View.readCov_unit_lit' _ _ _ (by decide)]

end Cert.Attn

end
-- ==== Proof.LeftA.lean ====
/- What case A of the body leaves in each output block and in the two carried scratch buffers: the stored lists read back. -/
module

public import proofs.«01_k».proof.Proof.PiecesA
public import proofs.«01_k».proof.Proof.Gen.KernelIdeal.Frame

@[expose] public section

set_option maxRecDepth 16384

noncomputable section

namespace Cert.Attn

open Idealize.ShloMosaic Idealize.ShloMosaic.TcCoe Cert.KernelIdeal Cert.KernelIdeal.Gen

variable (c : Dev nD) (i : grid0.Coords) (arg2 : Memref sig .tc .smem S32 .f32) (harg2 : arg2.IsWhole) (arg3 : Memref sig .tc .vmem S1x128x2048 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x2048 .bf16) (harg6 : arg6.IsWhole) (arg7 : Memref sig .tc .vmem S1x2048x128 .fp8e4m3) (harg7 : arg7.IsWhole) (arg8 : Memref sig .tc .vmem S1x2x32x128 .i8) (harg8 : arg8.IsWhole) (arg9 : Memref sig .tc .vmem S1x512x128 .fp8e4m3) (harg9 : arg9.IsWhole) (arg10 : Memref sig .tc .vmem S1x2x8x128 .i8) (harg10 : arg10.IsWhole) (arg11 : Memref sig .tc .vmem S1x512x128 .fp8e4m3) (harg11 : arg11.IsWhole) (arg12 : Memref sig .tc .vmem S1x2x8x128 .i8) (harg12 : arg12.IsWhole) (arg13 : Memref sig .tc .vmem S8x128x64 .bf16) (harg13 : arg13.IsWhole) (arg14 : Memref sig .tc .vmem S8x128x64 .bf16) (harg14 : arg14.IsWhole) (arg15 : Memref sig .tc .vmem S8x64x128 .bf16) (harg15 : arg15.IsWhole) (arg16 : Memref sig .tc .vmem S8x64x128 .bf16) (harg16 : arg16.IsWhole) (hc0 : cond0_0 i)
    (x0 : Vec Ideal S32 .f32) (x1 : Vec Ideal S1x128x2048 .bf16) (x2 : Vec Ideal S1x128x512 .bf16) (x3 : Vec Ideal S1x128x512 .bf16)

theorem leftA_4 : out0_A_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = View.canon (outL (k0_pay7 (F := Ideal) i) x0 x1 (kOwn x2) (kPrev (k0_pay2 (F := Ideal))) (vOwn x3) (vPrev (k0_pay3 (F := Ideal)))) :=
  (View.read_writes_eq_canon _ _ _ (cover0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3)).trans (congrArg View.canon (runA_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3))

theorem leftA_5 : out0_A_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = View.canon (qcL x1) :=
  (View.read_writes_eq_canon _ _ _ (cover0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3)).trans (congrArg View.canon (runA_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3))

theorem leftA_6 : out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = View.canon (qsL x1) :=
  (View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3)).trans (congrArg View.canon (runA_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3))

theorem leftA_7 : out0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = View.canon (kcL x2) :=
  (View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3)).trans (congrArg View.canon (runA_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3))

theorem leftA_8 : out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = View.canon (ksL x2) :=
  (View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3)).trans (congrArg View.canon (runA_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3))

theorem leftA_9 : out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = View.canon (kcL x3) :=
  (View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3)).trans (congrArg View.canon (runA_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3))

theorem leftA_10 : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = View.canon (ksL x3) :=
  (View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3)).trans (congrArg View.canon (runA_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3))

theorem leftA_11 : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = View.canon (kH8 [⟨(Rect.unit (s := S8x128x64) ![0, 0, 0] S8x128x64.size inb_S8x128x64_S8x128x64_0_0_0), k0_pay2 (F := Ideal)⟩] x2) :=
  (View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3)).trans (congrArg View.canon (runA_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3))

theorem leftA_12 : sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = View.canon (vH8 [⟨(Rect.unit (s := S8x64x128) ![0, 0, 0] S8x64x128.size inb_S8x64x128_S8x64x128_0_0_0), k0_pay3 (F := Ideal)⟩] x3) :=
  (View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3)).trans (congrArg View.canon (runA_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3))

end Cert.Attn

end
-- ==== Proof.PiecesB.lean ====
/- Case B of the body stores the lists of the stages. -/
module

public import proofs.«01_k».proof.Proof.Pieces
public import proofs.«01_k».proof.Proof.Gen.KernelIdeal.Frame.RunB

@[expose] public section

set_option maxRecDepth 16384

noncomputable section

namespace Cert.Attn

open Idealize.ShloMosaic Idealize.ShloMosaic.TcCoe Cert.KernelIdeal Cert.KernelIdeal.Gen

variable {F : FTy → Type} [FloatOps F] [Named F]

variable (c : Dev nD) (i : grid0.Coords) (arg2 : Memref sig .tc .smem S32 .f32) (harg2 : arg2.IsWhole) (arg3 : Memref sig .tc .vmem S1x128x2048 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x2048 .bf16) (harg6 : arg6.IsWhole) (arg7 : Memref sig .tc .vmem S1x2048x128 .fp8e4m3) (harg7 : arg7.IsWhole) (arg8 : Memref sig .tc .vmem S1x2x32x128 .i8) (harg8 : arg8.IsWhole) (arg9 : Memref sig .tc .vmem S1x512x128 .fp8e4m3) (harg9 : arg9.IsWhole) (arg10 : Memref sig .tc .vmem S1x2x8x128 .i8) (harg10 : arg10.IsWhole) (arg11 : Memref sig .tc .vmem S1x512x128 .fp8e4m3) (harg11 : arg11.IsWhole) (arg12 : Memref sig .tc .vmem S1x2x8x128 .i8) (harg12 : arg12.IsWhole) (arg13 : Memref sig .tc .vmem S8x128x64 .bf16) (harg13 : arg13.IsWhole) (arg14 : Memref sig .tc .vmem S8x128x64 .bf16) (harg14 : arg14.IsWhole) (arg15 : Memref sig .tc .vmem S8x64x128 .bf16) (harg15 : arg15.IsWhole) (arg16 : Memref sig .tc .vmem S8x64x128 .bf16) (harg16 : arg16.IsWhole) (hc0 : ¬cond0_0 i)
    (x0 : Vec F S32 .f32) (x1 : Vec F S1x128x2048 .bf16) (x2 : Vec F S1x128x512 .bf16) (x3 : Vec F S1x128x512 .bf16) (xs0 : Vec F S8x128x64 .bf16) (xs2 : Vec F S8x64x128 .bf16)

theorem runB_5 : (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2).2.1 = qcL x1 :=
  (show _ = qcL (arg3.view.read (Elt F) (harg3.unread x1)) from rfl).trans (by rw [harg3.read_unread])

theorem runB_6 : (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2).2.2.1 = qsL x1 :=
  (show _ = qsL (arg3.view.read (Elt F) (harg3.unread x1)) from rfl).trans (by rw [harg3.read_unread])

theorem runB_7 : (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2).2.2.2.1 = kcL x2 :=
  (show _ = kcL (arg4.view.read (Elt F) (harg4.unread x2)) from rfl).trans (by rw [harg4.read_unread])

theorem runB_8 : (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2).2.2.2.2.1 = ksL x2 :=
  (show _ = ksL (arg4.view.read (Elt F) (harg4.unread x2)) from rfl).trans (by rw [harg4.read_unread])

theorem runB_9 : (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2).2.2.2.2.2.1 = kcL x3 :=
  (show _ = kcL (arg5.view.read (Elt F) (harg5.unread x3)) from rfl).trans (by rw [harg5.read_unread])

theorem runB_10 : (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2).2.2.2.2.2.2.1 = ksL x3 :=
  (show _ = ksL (arg5.view.read (Elt F) (harg5.unread x3)) from rfl).trans (by rw [harg5.read_unread])

theorem runB_11 : (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2).2.2.2.2.2.2.2.1 = kH8 [] x2 :=
  (show _ = kH8 [] (arg4.view.read (Elt F) (harg4.unread x2)) from rfl).trans (by rw [harg4.read_unread])

theorem runB_12 : (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2).2.2.2.2.2.2.2.2.1 = vH8 [] x3 :=
  (show _ = vH8 [] (arg5.view.read (Elt F) (harg5.unread x3)) from rfl).trans (by rw [harg5.read_unread])

set_option maxHeartbeats 2000000 in
theorem runB_4 : (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2).1
    = outL (k0_pay7 i) x0 x1 (kOwn x2) (kPrev xs0) (vOwn x3) (vPrev xs2) := by
  have h : (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2).1
    = outL (k0_pay7 i) (arg2.view.read (Elt F) (harg2.unread x0)) (arg3.view.read (Elt F) (harg3.unread x1)) (kWinOwn arg13.view [] (arg4.view.read (Elt F) (harg4.unread x2))) (kWinPrev arg14.view (View.ld (arg13.view.read (Elt F) (harg13.unread xs0)) (Rect.unit (s := S8x128x64) ![0, 0, 0] S8x128x64.size inb_S8x128x64_S8x128x64_0_0_0)))
      (vWinOwn arg15.view [] (arg5.view.read (Elt F) (harg5.unread x3))) (vWinPrev arg16.view (View.ld (arg15.view.read (Elt F) (harg15.unread xs2)) (Rect.unit (s := S8x64x128) ![0, 0, 0] S8x64x128.size inb_S8x64x128_S8x64x128_0_0_0))) := rfl
  rw [h, harg2.read_unread, harg3.read_unread, harg4.read_unread, harg5.read_unread, kWinOwn_eq, vWinOwn_eq, kWinPrev_eq, vWinPrev_eq]
  rw [harg13.read_unread, harg15.read_unread, View.ld_unit_lit' _ _ (by decide), View.ld_unit_lit' _ _ (by decide)]

end Cert.Attn

end
-- ==== Proof.LeftB.lean ====
/- What case B of the body leaves in each output block and in the two carried scratch buffers: the stored lists read back. -/
module

public import proofs.«01_k».proof.Proof.PiecesB
public import proofs.«01_k».proof.Proof.Gen.KernelIdeal.Frame

@[expose] public section

set_option maxRecDepth 16384

noncomputable section

namespace Cert.Attn

open Idealize.ShloMosaic Idealize.ShloMosaic.TcCoe Cert.KernelIdeal Cert.KernelIdeal.Gen

variable (c : Dev nD) (i : grid0.Coords) (arg2 : Memref sig .tc .smem S32 .f32) (harg2 : arg2.IsWhole) (arg3 : Memref sig .tc .vmem S1x128x2048 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x2048 .bf16) (harg6 : arg6.IsWhole) (arg7 : Memref sig .tc .vmem S1x2048x128 .fp8e4m3) (harg7 : arg7.IsWhole) (arg8 : Memref sig .tc .vmem S1x2x32x128 .i8) (harg8 : arg8.IsWhole) (arg9 : Memref sig .tc .vmem S1x512x128 .fp8e4m3) (harg9 : arg9.IsWhole) (arg10 : Memref sig .tc .vmem S1x2x8x128 .i8) (harg10 : arg10.IsWhole) (arg11 : Memref sig .tc .vmem S1x512x128 .fp8e4m3) (harg11 : arg11.IsWhole) (arg12 : Memref sig .tc .vmem S1x2x8x128 .i8) (harg12 : arg12.IsWhole) (arg13 : Memref sig .tc .vmem S8x128x64 .bf16) (harg13 : arg13.IsWhole) (arg14 : Memref sig .tc .vmem S8x128x64 .bf16) (harg14 : arg14.IsWhole) (arg15 : Memref sig .tc .vmem S8x64x128 .bf16) (harg15 : arg15.IsWhole) (arg16 : Memref sig .tc .vmem S8x64x128 .bf16) (harg16 : arg16.IsWhole) (hc0 : ¬cond0_0 i)
    (x0 : Vec Ideal S32 .f32) (x1 : Vec Ideal S1x128x2048 .bf16) (x2 : Vec Ideal S1x128x512 .bf16) (x3 : Vec Ideal S1x128x512 .bf16) (xs0 : Vec Ideal S8x128x64 .bf16) (xs2 : Vec Ideal S8x64x128 .bf16)

theorem leftB_4 : out0_B_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2 = View.canon (outL (k0_pay7 (F := Ideal) i) x0 x1 (kOwn x2) (kPrev xs0) (vOwn x3) (vPrev xs2)) :=
  (View.read_writes_eq_canon _ _ _ (cover0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2)).trans (congrArg View.canon (runB_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2))

theorem leftB_5 : out0_B_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2 = View.canon (qcL x1) :=
  (View.read_writes_eq_canon _ _ _ (cover0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2)).trans (congrArg View.canon (runB_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2))

theorem leftB_6 : out0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2 = View.canon (qsL x1) :=
  (View.read_writes_eq_canon _ _ _ (cover0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2)).trans (congrArg View.canon (runB_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2))

theorem leftB_7 : out0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2 = View.canon (kcL x2) :=
  (View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2)).trans (congrArg View.canon (runB_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2))

theorem leftB_8 : out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2 = View.canon (ksL x2) :=
  (View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2)).trans (congrArg View.canon (runB_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2))

theorem leftB_9 : out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2 = View.canon (kcL x3) :=
  (View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2)).trans (congrArg View.canon (runB_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2))

theorem leftB_10 : out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2 = View.canon (ksL x3) :=
  (View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2)).trans (congrArg View.canon (runB_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2))

theorem leftB_11 : sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2 = View.canon (kH8 [] x2) :=
  (View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2)).trans (congrArg View.canon (runB_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2))

theorem leftB_12 : sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2 = View.canon (vH8 [] x3) :=
  (View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2)).trans (congrArg View.canon (runB_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs2))

end Cert.Attn

end
-- ==== Proof.Expo.lean ====
/- The power-of-two exponent of a block: the kernel counts the powers of two that do not exceed a number, the reference
   takes the floor of its logarithm; both give `expo`. Scalars only. -/
module

public import Idealize.ShloMosaic.Lib.Pointwise
public import Idealize.ShloMosaic.Lib.IndicatorCount
public import Mathlib.Analysis.SpecialFunctions.Pow.Real

@[expose] public section

set_option maxRecDepth 16384

noncomputable section

namespace Cert.Attn

open Idealize.ShloMosaic

/-- The floor of the binary logarithm. -/
def lg (y : ℝ) : ℤ := ⌊Real.log y * (Real.log 2)⁻¹⌋

theorem log_two_pos : 0 < Real.log 2 := Real.log_pos (by norm_num)

theorem zpow_le_iff {y : ℝ} (hy : 0 < y) (n : ℤ) : (2 : ℝ) ^ n ≤ y ↔ n ≤ lg y := by
  rw [lg, Int.le_floor, ← div_eq_mul_inv, le_div_iff₀ log_two_pos, ← Real.log_zpow,
    Real.log_le_log_iff (by positivity) hy]

/-- The exponent of the power of two above `y`, and 0 below the smallest normal number. -/
def expo (y : ℝ) : ℤ := if y < (2 : ℝ) ^ (-126 : ℤ) then 0 else lg y + 1

theorem expo_le {y : ℝ} (h : y < (2 : ℝ) ^ (120 : ℤ)) : expo y ≤ 120 := by
  unfold expo
  split_ifs with hy
  · norm_num
  · have hp : 0 < y := lt_of_lt_of_le (by positivity) (not_lt.1 hy)
    have := (zpow_le_iff hp 120).not.1 (not_le.2 h)
    omega

theorem le_expo {y : ℝ} : -125 ≤ expo y := by
  unfold expo
  split_ifs with hy
  · norm_num
  · have h := not_lt.1 hy
    have hp : 0 < y := lt_of_lt_of_le (by positivity) h
    have := (zpow_le_iff hp (-126)).1 h
    omega

/-- The number stays below its power of two. -/
theorem lt_two_zpow_expo (y : ℝ) : y < (2 : ℝ) ^ expo y := by
  unfold expo
  split_ifs with hy
  · refine hy.trans ?_
    norm_num
  · have hp : 0 < y := lt_of_lt_of_le (by positivity) (not_lt.1 hy)
    exact not_le.1 ((zpow_le_iff hp _).not.2 (by omega))

/-- A word with only its exponent field set is a power of two. -/
theorem ofBits_exponent (j : ℕ) (h1 : 1 ≤ j) (h2 : j ≤ 254) :
    Ideal.ofBits .f32 (BitVec.ofNat 32 j <<< (23#32 : BitVec 32)) = (((2 : ℝ) ^ ((j : ℤ) - 127) : ℝ) : EReal) := by
  have a1 : ∀ j : Fin 256, ((BitVec.ofNat 32 j <<< (23#32 : BitVec 32)).extractLsb' 31 1 == 1#1) = false := by decide +kernel
  have a2 : ∀ j : Fin 256, ((BitVec.ofNat 32 j <<< (23#32 : BitVec 32)).extractLsb' 23 8).toNat = j := by decide +kernel
  have a3 : ∀ j : Fin 256, ((BitVec.ofNat 32 j <<< (23#32 : BitVec 32)).extractLsb' 0 23).toNat = 0 := by decide +kernel
  have b1 := a1 ⟨j, by omega⟩
  have b2 := a2 ⟨j, by omega⟩
  have b3 := a3 ⟨j, by omega⟩
  simp only [Ideal.ofBits, Ideal.ieee, Nat.reduceAdd] at b1 b2 b3 ⊢
  rw [b1, b2, b3, if_neg (by omega), if_neg (by omega)]
  have e : ((j : ℤ) - 127) = ((j : ℤ) - 127 - 23) + 23 := by ring
  refine congrArg _ ?_
  rw [e, zpow_add₀ (by norm_num : (2 : ℝ) ≠ 0)]
  norm_num
  rw [mul_comm]

theorem ofBits_exponent_top : Ideal.ofBits .f32 (BitVec.ofNat 32 255 <<< (23#32 : BitVec 32)) = ⊤ := by
  simp [Ideal.ofBits, Ideal.ieee]

/-- How many of the 255 powers of two stay at or below `y`: its exponent field. -/
theorem card_powers {y : ℝ} (h0 : 0 ≤ y) (h : y < (2 : ℝ) ^ (120 : ℤ)) :
    ((Finset.univ.filter fun k : Fin 255 =>
      Ideal.ofBits .f32 (BitVec.ofNat 32 (k.val + 1) <<< (23#32 : BitVec 32)) ≤ (y : EReal)).card : ℤ)
      = if y < (2 : ℝ) ^ (-126 : ℤ) then 0 else lg y + 127 := by
  have key : ∀ k : Fin 255, Ideal.ofBits .f32 (BitVec.ofNat 32 (k.val + 1) <<< (23#32 : BitVec 32)) ≤ (y : EReal)
      ↔ (2 : ℝ) ^ ((k.val : ℤ) - 126) ≤ y := by
    intro k
    by_cases hk : k.val = 254
    · rw [hk, ofBits_exponent_top]
      constructor
      · intro h'
        exact absurd (top_le_iff.1 h') (EReal.coe_ne_top _)
      · intro h'
        have : (2 : ℝ) ^ (120 : ℤ) ≤ (2 : ℝ) ^ (((254 : ℕ) : ℤ) - 126) := by norm_num
        exact absurd (this.trans h') (not_le.2 h)
    · rw [ofBits_exponent _ (by omega) (by omega), EReal.coe_le_coe_iff]
      have : (((k.val + 1 : ℕ) : ℤ) - 127) = (k.val : ℤ) - 126 := by push_cast; ring
      rw [this]
  simp only [key]
  split_ifs with hy
  · rw [Finset.card_eq_zero.2, Nat.cast_zero]
    refine Finset.filter_eq_empty_iff.2 fun k _ => not_le.2 (hy.trans_le ?_)
    exact zpow_le_zpow_right₀ (by norm_num) (by omega)
  · have hp : 0 < y := lt_of_lt_of_le (by positivity) (not_lt.1 hy)
    have hl := (zpow_le_iff hp (-126)).1 (not_lt.1 hy)
    have hu := (zpow_le_iff hp 120).not.1 (not_le.2 h)
    simp only [zpow_le_iff hp]
    have hs : (Finset.univ.filter fun k : Fin 255 => (k.val : ℤ) - 126 ≤ lg y)
        = Finset.univ.filter fun k : Fin 255 => k.val < (lg y + 127).toNat := by
      ext k
      simp only [Finset.mem_filter, Finset.mem_univ, true_and]
      omega
    rw [hs, Fin.card_filter_val_lt]
    omega

/-- The word of `expo y` with the bias 127. -/
def biased (y : ℝ) : BitVec 32 := BitVec.ofNat 32 (expo y + 127).toNat

/-- The kernel's exponent: the count, one added, and the bias where the count is zero. -/
theorem select_count {y : ℝ} (h0 : 0 ≤ y) (h : y < (2 : ℝ) ^ (120 : ℤ)) {n : ℕ}
    (hn : (n : ℤ) = if y < (2 : ℝ) ^ (-126 : ℤ) then 0 else lg y + 127) :
    Scalar.select (IntOp.cmpi .eq (BitVec.ofNat 32 n) (0#32)) (127#32) (IntOp.addi (BitVec.ofNat 32 n) (1#32))
      = biased y := by
  have h1 := expo_le h
  have h2 := le_expo (y := y)
  unfold biased
  unfold expo at h1 h2 ⊢
  split_ifs at hn h1 h2 ⊢ with hy
  · have : n = 0 := by omega
    subst this
    rfl
  · have hl := (zpow_le_iff (lt_of_lt_of_le (by positivity) (not_lt.1 hy)) (-126)).1 (not_lt.1 hy)
    have e : (lg y + 1 + 127).toNat = n + 1 := by omega
    have hne : BitVec.ofNat 32 n ≠ 0#32 := by
      intro hc
      have := congrArg BitVec.toNat hc
      simp only [BitVec.toNat_ofNat] at this
      omega
    have hb : (BitVec.ofNat 32 n == 0#32) = false := by simpa using hne
    rw [e, BitVec.ofNat_add]
    simp only [Scalar.select, IntOp.cmpi, IntOp.addi, hb]
    rfl

theorem pow_biased {y : ℝ} (h : y < (2 : ℝ) ^ (120 : ℤ)) :
    Ideal.ofBits .f32 (biased y <<< (23#32 : BitVec 32)) = (((2 : ℝ) ^ expo y : ℝ) : EReal) := by
  have h1 := expo_le h
  have h2 := le_expo (y := y)
  rw [biased, ofBits_exponent _ (by omega) (by omega)]
  have : (((expo y + 127).toNat : ℕ) : ℤ) - 127 = expo y := by omega
  rw [this]

theorem pow_neg_biased {y : ℝ} (h : y < (2 : ℝ) ^ (120 : ℤ)) :
    Ideal.ofBits .f32 ((254#32 - biased y) <<< (23#32 : BitVec 32)) = (((2 : ℝ) ^ (-expo y) : ℝ) : EReal) := by
  have h1 := expo_le h
  have h2 := le_expo (y := y)
  have e : 254#32 - biased y = BitVec.ofNat 32 (127 - expo y).toNat := by
    apply BitVec.eq_of_toNat_eq
    simp only [biased, BitVec.toNat_sub, BitVec.toNat_ofNat]
    omega
  rw [e, ofBits_exponent _ (by omega) (by omega)]
  have : (((127 - expo y).toNat : ℕ) : ℤ) - 127 = -expo y := by omega
  rw [this]

/-- The kernel's exponent of a row, without the bias. -/
theorem toInt_biased {y : ℝ} (h : y < (2 : ℝ) ^ (120 : ℤ)) : (biased y - 127#32).toInt = expo y := by
  have h1 := expo_le h
  have h2 := le_expo (y := y)
  have : biased y - 127#32 = BitVec.ofInt 32 (expo y) := by
    apply BitVec.eq_of_toNat_eq
    simp only [biased, BitVec.toNat_sub, BitVec.toNat_ofNat, BitVec.toNat_ofInt]
    omega
  rw [this, BitVec.toInt_ofInt]
  rw [Int.bmod_def]
  split_ifs <;> omega

/-- The word of `expo y`. -/
def word (y : ℝ) : BitVec 32 := BitVec.ofInt 32 (expo y)

theorem toInt_word {y : ℝ} (h : y < (2 : ℝ) ^ (120 : ℤ)) : (word y).toInt = expo y := by
  have h1 := expo_le h
  have h2 := le_expo (y := y)
  rw [word, BitVec.toInt_ofInt, Int.bmod_def]
  split_ifs <;> omega

theorem toInt_neg_word {y : ℝ} (h : y < (2 : ℝ) ^ (120 : ℤ)) : (0#32 - word y).toInt = -expo y := by
  have h1 := expo_le h
  have h2 := le_expo (y := y)
  have : 0#32 - word y = BitVec.ofInt 32 (-expo y) := by
    apply BitVec.eq_of_toNat_eq
    simp only [word, BitVec.toNat_sub, BitVec.toNat_ofInt, BitVec.toNat_ofNat]
    omega
  rw [this, BitVec.toInt_ofInt, Int.bmod_def]
  split_ifs <;> omega

theorem word_add {y : ℝ} (h : y < (2 : ℝ) ^ (120 : ℤ)) : word y + 127#32 = biased y := by
  have h1 := expo_le h
  have h2 := le_expo (y := y)
  apply BitVec.eq_of_toNat_eq
  simp only [word, biased, BitVec.toNat_add, BitVec.toNat_ofNat, BitVec.toNat_ofInt]
  omega

/-- The scale byte widened again, the bias taken off. -/
theorem toInt_byte {y : ℝ} (h : y < (2 : ℝ) ^ (120 : ℤ)) :
    (((biased y).setWidth 8).setWidth 32 - 127#32).toInt = expo y := by
  have h1 := expo_le h
  have h2 := le_expo (y := y)
  have : ((biased y).setWidth 8).setWidth 32 = biased y := by
    apply BitVec.eq_of_toNat_eq
    simp only [biased, BitVec.toNat_setWidth, BitVec.toNat_ofNat]
    omega
  rw [this, toInt_biased h]

/-- The reference's exponent: zero below the smallest normal number, else the floor of the logarithm and one. -/
theorem fptosi_expo {y : ℝ} (h0 : 0 ≤ y) (h : y < (2 : ℝ) ^ (120 : ℤ)) :
    Ideal.fptosi 32 (Scalar.select (Ideal.cmp .olt (y : EReal) (((2 : ℝ) ^ (-126 : ℤ) : ℝ) : EReal)) (0 : EReal)
      (Ideal.liftRound Int.floor (Ideal.log (y : EReal) * (((Real.log 2)⁻¹ : ℝ) : EReal)) + 1)) = word y := by
  have h1 := expo_le h
  have h2 := le_expo (y := y)
  have hc : ∀ z : ℤ, -125 ≤ z → z ≤ 120 → Ideal.fptosi 32 (((z : ℝ) : ℝ) : EReal) = BitVec.ofInt 32 z := by
    intro z hz1 hz2
    rw [Ideal.fptosi]
    congr 1
    rw [Ideal.toIntClamped_coe]
    have e1 : ⌊(z : ℝ)⌋ = z := Int.floor_intCast z
    have e2 : ⌈(z : ℝ)⌉ = z := Int.ceil_intCast z
    rw [e1, e2, ite_self]
    norm_num
    omega
  unfold word
  by_cases hy : y < (2 : ℝ) ^ (-126 : ℤ)
  · have : expo y = 0 := by rw [expo, if_pos hy]
    rw [this, ← hc 0 (by norm_num) (by norm_num)]
    have : Ideal.cmp .olt (y : EReal) (((2 : ℝ) ^ (-126 : ℤ) : ℝ) : EReal) = 1#1 := by
      simp only [Ideal.cmp, EReal.coe_lt_coe_iff, hy, decide_true]
      rfl
    rw [this]
    simp [Scalar.select]
  · have hp : 0 < y := lt_of_lt_of_le (by positivity) (not_lt.1 hy)
    have he : expo y = lg y + 1 := by rw [expo, if_neg hy]
    have : Ideal.cmp .olt (y : EReal) (((2 : ℝ) ^ (-126 : ℤ) : ℝ) : EReal) = 0#1 := by
      simp only [Ideal.cmp, EReal.coe_lt_coe_iff, hy, decide_false]
      rfl
    rw [← hc _ h2 h1, this, he]
    have hl : Ideal.log (y : EReal) = ((Real.log y : ℝ) : EReal) := by
      simp [Ideal.log_coe, not_le.2 hp]
    rw [hl, ← EReal.coe_mul]
    rw [Ideal.liftRound_coe, Scalar.select, if_neg (by decide), lg, Int.cast_add, Int.cast_one, EReal.coe_add]
    rfl

end Cert.Attn

end
-- ==== Proof.Quant.lean ====
/- A block of 32 channels quantised, on the extended reals: its scale's exponent, and what clipping and scaling back do to
   values that are real numbers. -/
module

public import proofs.«01_k».proof.Proof.Expo

@[expose] public section

noncomputable section

namespace Cert.Attn

open Idealize.ShloMosaic

/-- A value of a finite input: a real number of bounded size. -/
def Small (x : EReal) : Prop := ∃ r : ℝ, x = (r : EReal) ∧ |r| ≤ (2 : ℝ) ^ (128 : ℤ)

/-- The largest magnitude in a block. -/
def peak (f : Fin 32 → EReal) : EReal := Finset.univ.fold max ⊥ fun k => max (f k) (-f k)

/-- The rounded reciprocal of 448 that both programs multiply with. -/
def recip : ℝ := 9586981 / 2 ^ 32

theorem ofBits_recip : Ideal.ofBits .f32 0x3B124925#32 = (recip : EReal) := by
  simp [Ideal.ofBits, Ideal.ieee, recip, -EReal.coe_mul]; norm_num

theorem ofBits_448 : Ideal.ofBits .f32 0x43E00000#32 = ((448 : ℝ) : EReal) := by
  simp [Ideal.ofBits, Ideal.ieee, -EReal.coe_mul]; norm_num

theorem ofBits_neg_448 : Ideal.ofBits .f32 0xC3E00000#32 = ((-448 : ℝ) : EReal) := by
  simp [Ideal.ofBits, Ideal.ieee, -EReal.coe_mul]; norm_num

theorem ofBits_neg_inf : Ideal.ofBits .f32 0xFF800000#32 = ⊥ := by
  simp [Ideal.ofBits, Ideal.ieee]

/-- The scale of a block before it is rounded up to a power of two. -/
def rep (f : Fin 32 → EReal) : ℝ := (peak f).toReal * recip

/-- The power of two a block is divided by. -/
def gain (f : Fin 32 → EReal) : ℝ := (2 : ℝ) ^ expo (rep f)

/-- A maximum of finitely many magnitudes of real numbers is one of bounded size, and bounds each of them. -/
theorem peak_spec {n : ℕ} (f : Fin n → ℝ) (hn : 0 < n) :
    ∃ a : ℝ, (Finset.univ.fold max (⊥ : EReal) fun k => max ((f k : ℝ) : EReal) (-((f k : ℝ) : EReal))) = (a : EReal)
      ∧ 0 ≤ a ∧ (∀ k, |f k| ≤ a) ∧ ∃ k, a = |f k| := by
  have e : ∀ k, max ((f k : ℝ) : EReal) (-((f k : ℝ) : EReal)) = ((|f k| : ℝ) : EReal) := fun k => by
    rw [← EReal.coe_neg]
    exact (EReal.coe_strictMono.monotone.map_max).symm
  haveI : Nonempty (Fin n) := ⟨⟨0, hn⟩⟩
  obtain ⟨k0, -, hk0⟩ := Finset.exists_max_image Finset.univ (fun k => |f k|) Finset.univ_nonempty
  refine ⟨|f k0|, ?_, abs_nonneg _, fun k => hk0 k (Finset.mem_univ k), k0, rfl⟩
  simp only [e]
  apply le_antisymm
  · rw [Finset.fold_max_le]
    exact ⟨bot_le, fun k _ => EReal.coe_le_coe_iff.2 (hk0 k (Finset.mem_univ k))⟩
  · rw [Finset.le_fold_max]
    exact .inr ⟨k0, Finset.mem_univ _, le_rfl⟩

theorem rep_spec {f : Fin 32 → EReal} (h : ∀ k, Small (f k)) :
    peak f * (recip : EReal) = (rep f : EReal) ∧ 0 ≤ rep f ∧ rep f < (2 : ℝ) ^ (120 : ℤ)
      ∧ ∀ k, ∃ r : ℝ, f k = (r : EReal) ∧ |r| < 448 * gain f := by
  choose g hg hb using h
  obtain rfl : f = fun k => (g k : EReal) := funext hg
  obtain ⟨a, ha, h0, hle, k0, hk0⟩ := peak_spec g (by norm_num)
  have hp : peak (fun k => (g k : EReal)) = (a : EReal) := ha
  have hr : rep (fun k => (g k : EReal)) = a * recip := by rw [rep, hp, EReal.toReal_coe]
  refine ⟨by rw [hp, hr, EReal.coe_mul], ?_, ?_, fun k => ⟨g k, rfl, ?_⟩⟩
  · rw [hr, recip]; positivity
  · have := hb k0
    rw [← hk0] at this
    rw [hr, recip]
    norm_num at this ⊢
    linarith
  · have h1 := lt_two_zpow_expo (rep fun k => (g k : EReal))
    have h2 := hle k
    rw [gain]
    rw [hr] at h1 ⊢
    have h3 : a ≤ 448 * (a * recip) := by rw [recip]; linarith
    linarith

/-- Scaled values stay inside the codes' range, so clipping leaves them alone. -/
theorem clip_id {f : Fin 32 → EReal} (h : ∀ k, Small (f k)) (k : Fin 32) :
    min ((448 : ℝ) : EReal) (max ((-448 : ℝ) : EReal) (f k * (((gain f)⁻¹ : ℝ) : EReal)))
      = f k * (((gain f)⁻¹ : ℝ) : EReal) := by
  obtain ⟨-, -, -, hk⟩ := rep_spec h
  obtain ⟨r, hr, hb⟩ := hk k
  have hg : 0 < gain f := by unfold gain; positivity
  have h1 : |r * (gain f)⁻¹| ≤ 448 := by
    rw [abs_mul, abs_of_pos (inv_pos.2 hg), ← div_eq_mul_inv, div_le_iff₀ hg]
    exact hb.le
  rw [hr, ← EReal.coe_mul, max_eq_right (EReal.coe_le_coe_iff.2 (abs_le.1 h1).1),
    min_eq_right (EReal.coe_le_coe_iff.2 (abs_le.1 h1).2)]

/-- Scaling there and back gives the value. -/
theorem scale_back {x : EReal} (h : Small x) (f : Fin 32 → EReal) :
    x * (((gain f)⁻¹ : ℝ) : EReal) * ((gain f : ℝ) : EReal) = x := by
  obtain ⟨r, rfl, -⟩ := h
  have hg : gain f ≠ 0 := by unfold gain; positivity
  rw [← EReal.coe_mul, ← EReal.coe_mul, mul_assoc, inv_mul_cancel₀ hg, mul_one]

theorem pow_gain {f : Fin 32 → EReal} (h : ∀ k, Small (f k)) :
    Ideal.ofBits .f32 (biased (rep f) <<< (23#32 : BitVec 32)) = (gain f : EReal) :=
  pow_biased (rep_spec h).2.2.1

theorem pow_neg_gain {f : Fin 32 → EReal} (h : ∀ k, Small (f k)) :
    Ideal.ofBits .f32 ((254#32 - biased (rep f)) <<< (23#32 : BitVec 32)) = (((gain f)⁻¹ : ℝ) : EReal) := by
  rw [pow_neg_biased (rep_spec h).2.2.1, gain, zpow_neg]

end Cert.Attn

end
-- ==== Proof.Slabs.lean ====
/- The quantiser's stages of the kernel read at an index, for slabs of real numbers. -/
module

public import proofs.«01_k».proof.Proof.Stages
public import proofs.«01_k».proof.Proof.Quant
public import Idealize.ShloMosaic.Lib.Pointwise
public import Idealize.ShloMosaic.Lib.IndicatorCount

@[expose] public section

set_option maxRecDepth 16384

noncomputable section

namespace Cert.Attn

open Idealize.ShloMosaic Cert.KernelIdeal Cert.KernelIdeal.Gen

/-- The count of the powers of two at or below a number gives its exponent word. -/
theorem select_fold (p : Fin 255 → BitVec 1) {r : ℝ} (h0 : 0 ≤ r) (h1 : r < (2 : ℝ) ^ (120 : ℤ))
    (hp : ∀ k, p k = 1#1 ↔ Ideal.ofBits .f32 (BitVec.ofNat 32 (k.val + 1) <<< (23#32 : BitVec 32)) ≤ (r : EReal)) :
    Scalar.select (IntOp.cmpi .eq (Finset.univ.fold IntOp.addi (0#32) fun k => (p k).setWidth 32) 0#32) (127#32)
      (IntOp.addi (Finset.univ.fold IntOp.addi (0#32) fun k => (p k).setWidth 32) 1#32) = biased r := by
  rw [IndicatorCount.fold_addi_setWidth_eq_card, Finset.filter_congr fun k _ => hp k]
  exact select_count h0 h1 (card_powers h0 h1)

/-- The counted exponent of a column. -/
theorem field_apply (y : FVec Ideal S1x128 .f32) (c : Fin 128) {r : ℝ} (h : y (ix2 0 c) = (r : EReal)) (h0 : 0 ≤ r)
    (h1 : r < (2 : ℝ) ^ (120 : ℤ)) : field y (ix2 0 c) = biased r := by
  pointwise [field]
  refine select_fold _ h0 h1 fun k => ?_
  have e1 : IntOp.shli ArithUnit.vector (IntOp.addi (BitVec.ofNat 32 k.val) 1#32) 23#32
      = BitVec.ofNat 32 (k.val + 1) <<< (23#32 : BitVec 32) := by
    rw [BitVec.ofNat_add]; rfl
  have e2 : ∀ P : Prop, ∀ _ : Decidable P, BitVec.ofBool (decide P) = 1#1 ↔ P := fun P _ => by
    by_cases hP : P <;> simp [hP]
  rw [← h, ← e1]
  exact e2 _ _

/-- The exponent word of a column of a block. -/
theorem exps_apply (b : FVec Ideal S32x128 .bf16) (c : Fin 128) (h : ∀ k : Fin 32, Small (b (ix2 k c))) :
    exps b (ix2 0 c) = biased (rep fun k => b (ix2 k c)) := by
  obtain ⟨e, h0, h1, -⟩ := rep_spec (f := fun k => b (ix2 k c)) h
  refine field_apply _ c ?_ h0 h1
  rw [← e]
  pointwise
  rw [ofBits_recip, ofBits_neg_inf]
  rfl

theorem codes_apply (b : FVec Ideal S32x128 .bf16) (r : Fin 32) (c : Fin 128) (h : ∀ k : Fin 32, Small (b (ix2 k c))) :
    codes b (exps b) (ix2 r c) = b (ix2 r c) * (((gain fun k => b (ix2 k c))⁻¹ : ℝ) : EReal) := by
  pointwise [codes]
  rw [exps_apply b c h, ofBits_448, ofBits_neg_448]
  exact (congrArg (fun z => min ((448 : ℝ) : EReal) (max ((-448 : ℝ) : EReal) (b (ix2 r c) * z)))
    (pow_neg_gain (f := fun k => b (ix2 k c)) h)).trans (clip_id (f := fun k => b (ix2 k c)) h r)

theorem deqs_apply (b : FVec Ideal S32x128 .bf16) (r : Fin 32) (c : Fin 128) (h : ∀ k : Fin 32, Small (b (ix2 k c))) :
    deqs b (exps b) (ix2 r c) = b (ix2 r c) := by
  pointwise [deqs]
  rw [codes_apply b r c h, exps_apply b c h]
  exact (congrArg (fun z => b (ix2 r c) * (((gain fun k => b (ix2 k c))⁻¹ : ℝ) : EReal) * z)
    (pow_gain (f := fun k => b (ix2 k c)) h)).trans (scale_back (h r) _)

theorem blk0_apply (v : Vec Ideal S1x128x128 .bf16) (r : Fin 32) (c : Fin 128) :
    blk0 v (ix2 r c) = v (ix3 0 c ⟨r.val, by omega⟩) := by pointwise [blk0, slab]
theorem blk1_apply (v : Vec Ideal S1x128x128 .bf16) (r : Fin 32) (c : Fin 128) :
    blk1 v (ix2 r c) = v (ix3 0 c ⟨32 + r.val, by omega⟩) := by pointwise [blk1, slab]
theorem blk2_apply (v : Vec Ideal S1x128x128 .bf16) (r : Fin 32) (c : Fin 128) :
    blk2 v (ix2 r c) = v (ix3 0 c ⟨64 + r.val, by omega⟩) := by pointwise [blk2, slab]
theorem blk3_apply (v : Vec Ideal S1x128x128 .bf16) (r : Fin 32) (c : Fin 128) :
    blk3 v (ix2 r c) = v (ix3 0 c ⟨96 + r.val, by omega⟩) := by pointwise [blk3, slab]

/-- The block of 32 channels around channel `r` of a slab, at token `c`. -/
def around (v : Vec Ideal S1x128x128 .bf16) (r c : Fin 128) (k : Fin 32) : EReal :=
  v (ix3 0 c ⟨32 * (r.val / 32) + k.val, by omega⟩)

theorem around_eq (v : Vec Ideal S1x128x128 .bf16) (r c : Fin 128) (o : ℕ) (ho : o = 32 * (r.val / 32)) (k : Fin 32)
    (h : o + k.val < 128) : v (ix3 0 c ⟨o + k.val, h⟩) = around v r c k := by
  subst ho; rfl

theorem codeSlab_apply (v : Vec Ideal S1x128x128 .bf16) (h : ∀ i, Small (v i)) (r c : Fin 128) :
    codeSlab v (ix3 0 r c) = v (ix3 0 c r) * (((gain (around v r c))⁻¹ : ℝ) : EReal) := by
  have hr := r.isLt
  pointwise [codeSlab]
  by_cases h1 : r.val < 32
  · rw [dif_pos h1, codes_apply _ _ _ fun k => by rw [blk0_apply]; exact h _]
    simp only [blk0_apply]
    have e : (fun k : Fin 32 => v (ix3 0 c ⟨k.val, by omega⟩)) = around v r c := funext fun k => by
      rw [← around_eq v r c 0 (by omega) k (by omega)]
      exact congrArg v (congrArg (ix3 0 c) (Fin.ext (Nat.zero_add _).symm))
    rw [e]
  rw [dif_neg h1]
  by_cases h2 : r.val - 32 < 32
  · rw [dif_pos h2, codes_apply _ _ _ fun k => by rw [blk1_apply]; exact h _]
    simp only [blk1_apply]
    have e : (fun k : Fin 32 => v (ix3 0 c ⟨32 + k.val, by omega⟩)) = around v r c := funext fun k =>
      around_eq v r c 32 (by omega) k (by omega)
    rw [e]
    exact congrArg (fun j => v (ix3 0 c j) * _) (Fin.ext (by dsimp only; omega))
  rw [dif_neg h2]
  by_cases h3 : r.val - 32 - 32 < 32
  · rw [dif_pos h3, codes_apply _ _ _ fun k => by rw [blk2_apply]; exact h _]
    simp only [blk2_apply]
    have e : (fun k : Fin 32 => v (ix3 0 c ⟨64 + k.val, by omega⟩)) = around v r c := funext fun k =>
      around_eq v r c 64 (by omega) k (by omega)
    rw [e]
    exact congrArg (fun j => v (ix3 0 c j) * _) (Fin.ext (by dsimp only; omega))
  rw [dif_neg h3]
  rw [codes_apply _ _ _ fun k => by rw [blk3_apply]; exact h _]
  simp only [blk3_apply]
  have e : (fun k : Fin 32 => v (ix3 0 c ⟨96 + k.val, by omega⟩)) = around v r c := funext fun k =>
    around_eq v r c 96 (by omega) k (by omega)
  rw [e]
  exact congrArg (fun j => v (ix3 0 c j) * _) (Fin.ext (by dsimp only; omega))

theorem deqSlab_apply (v : Vec Ideal S1x128x128 .bf16) (h : ∀ i, Small (v i)) (r c : Fin 128) :
    deqSlab v (ix2 r c) = v (ix3 0 c r) := by
  have hr := r.isLt
  pointwise [deqSlab]
  by_cases h1 : r.val < 32
  · rw [dif_pos h1, deqs_apply _ _ _ fun k => by rw [blk0_apply]; exact h _, blk0_apply]
  rw [dif_neg h1]
  by_cases h2 : r.val - 32 < 32
  · rw [dif_pos h2, deqs_apply _ _ _ fun k => by rw [blk1_apply]; exact h _, blk1_apply]
    exact congrArg (fun j => v (ix3 0 c j)) (Fin.ext (by dsimp only; omega))
  rw [dif_neg h2]
  by_cases h3 : r.val - 32 - 32 < 32
  · rw [dif_pos h3, deqs_apply _ _ _ fun k => by rw [blk2_apply]; exact h _, blk2_apply]
    exact congrArg (fun j => v (ix3 0 c j)) (Fin.ext (by dsimp only; omega))
  rw [dif_neg h3, deqs_apply _ _ _ fun k => by rw [blk3_apply]; exact h _, blk3_apply]
  exact congrArg (fun j => v (ix3 0 c j)) (Fin.ext (by dsimp only; omega))

theorem kHead0_apply (v : Vec Ideal S1x128x128 .bf16) (h : ∀ i, Small (v i)) (t : Fin 128) (c : Fin 64) :
    kHead0 v (ix3 0 t c) = v (ix3 0 t ⟨c.val, by omega⟩) := by
  pointwise [kHead0]
  exact deqSlab_apply v h _ _
theorem kHead1_apply (v : Vec Ideal S1x128x128 .bf16) (h : ∀ i, Small (v i)) (t : Fin 128) (c : Fin 64) :
    kHead1 v (ix3 0 t c) = v (ix3 0 t ⟨64 + c.val, by omega⟩) := by
  pointwise [kHead1]
  exact deqSlab_apply v h _ _
theorem vHead0_apply (v : Vec Ideal S1x128x128 .bf16) (h : ∀ i, Small (v i)) (t : Fin 128) (c : Fin 64) :
    vHead0 v (ix3 0 c t) = v (ix3 0 t ⟨c.val, by omega⟩) := by
  pointwise [vHead0]
  exact deqSlab_apply v h _ _
theorem vHead1_apply (v : Vec Ideal S1x128x128 .bf16) (h : ∀ i, Small (v i)) (t : Fin 128) (c : Fin 64) :
    vHead1 v (ix3 0 c t) = v (ix3 0 t ⟨64 + c.val, by omega⟩) := by
  pointwise [vHead1]
  exact deqSlab_apply v h _ _

end Cert.Attn

end
-- ==== Proof.Blocks.lean ====
/- What each grid step's stores of codes, exponent bytes and key and value heads leave, read at an index. -/
module

public import proofs.«01_k».proof.Proof.Pieces
public import proofs.«01_k».proof.Proof.Slabs
public import Idealize.ShloMosaic.Lib.Pipeline.ValueKit
public import Idealize.ShloMosaic.Lib.Ring

@[expose] public section

set_option maxRecDepth 16384

noncomputable section

namespace Cert.Attn

open Idealize.ShloMosaic Cert.KernelIdeal Cert.KernelIdeal.Gen

/-- A one-row index is its column. -/
theorem row_eq (i : S1x128.Idx) (t : Fin 128) (h : (i 1).val = t.val) : i = ix2 0 t := by
  funext a
  match a with
  | 0 => exact Fin.ext (Nat.lt_one_iff.1 (i 0).isLt)
  | 1 => exact Fin.ext h

theorem bytes32_apply (c : IVec S32x128 32) (h : Fin 32) (t : Fin 128) :
    shapeCast S1x1x32x128 (trunci 8 c natLt_8_32) shapeCasts_S32x128_S1x1x32x128 (ix4 0 0 h t) = (c (ix2 h t)).setWidth 8 := by
  pointwise

theorem bytes8_apply (c : IVec S8x128 32) (h : Fin 8) (t : Fin 128) :
    shapeCast S1x1x8x128 (trunci 8 c natLt_8_32) shapeCasts_S8x128_S1x1x8x128 (ix4 0 0 h t) = (c (ix2 h t)).setWidth 8 := by
  pointwise

/-- The block of 32 channels around channel `c` of a query block, at token `t`. -/
def qRow (x : Vec Ideal S1x128x2048 .bf16) (t : Fin 128) (c : Fin 2048) (k : Fin 32) : EReal :=
  x (ix3 0 t ⟨32 * (c.val / 32) + k.val, by omega⟩)

theorem ldq_apply (x : Vec Ideal S1x128x2048 .bf16) (o : ℕ) (h) (t r : Fin 128) (hr : o + r.val < 2048) :
    ldq x o h (ix3 0 t r) = x (ix3 0 t ⟨o + r.val, hr⟩) := by
  refine congrArg x (funext fun a => Fin.ext ?_)
  match a with
  | 0 => rfl
  | 1 => exact (Nat.zero_add _).trans (Nat.one_mul _)
  | 2 => exact congrArg (o + ·) (Nat.one_mul _)

theorem ldq_small (x : Vec Ideal S1x128x2048 .bf16) (hx : ∀ i, Small (x i)) (o : ℕ) (h) (i : S1x128x128.Idx) : Small (ldq x o h i) :=
  hx _

theorem ldq_around (x : Vec Ideal S1x128x2048 .bf16) (o : ℕ) (ho : o % 32 = 0) (h) (t r : Fin 128) (hr : o + r.val < 2048) :
    around (ldq x o h) r t = qRow x t ⟨o + r.val, hr⟩ := by
  have h2 : o + 128 ≤ 2048 := h 2
  funext k
  rw [around, ldq_apply x o h t _ (by dsimp only; omega)]
  exact congrArg (fun j => x (ix3 0 t j)) (Fin.ext (by dsimp only; omega))

/-- The codes of a query block, channels before tokens. -/
def qCodes (x : Vec Ideal S1x128x2048 .bf16) (y : S1x2048x128.Idx) : EReal :=
  x (ix3 0 (y 2) (y 1)) * (((gain (qRow x (y 2) (y 1)))⁻¹ : ℝ) : EReal)

theorem qCodes_piece (x : Vec Ideal S1x128x2048 .bf16) (hx : ∀ i, Small (x i)) (o : ℕ) (ho : o % 32 = 0) (h)
    (h' : ∀ a, (![0, o, 0] : Fin 3 → ℕ) a + S1x128x128.size a ≤ S1x2048x128.size a) (i : S1x128x128.Idx) :
    codeSlab (ldq x o h) i
      = qCodes x ((Rect.unit (s := S1x2048x128) (![0, o, 0] : Fin 3 → ℕ) S1x128x128.size h').emb i) := by
  have h2 : o + 128 ≤ 2048 := h 2
  have key : ∀ r t : Fin 128, codeSlab (ldq x o h) (ix3 0 r t) = qCodes x (ix3 0 ⟨o + r.val, by omega⟩ t) := fun r t => by
    rw [codeSlab_apply _ (ldq_small x hx o h), ldq_apply x o h t r (by omega), ldq_around x o ho h t r (by omega)]
    rfl
  refine (congrArg (codeSlab (ldq x o h)) ?_).trans ((key (i 1) (i 2)).trans (congrArg (qCodes x) ?_))
  · funext a
    match a with
    | 0 => exact Fin.ext (Nat.lt_one_iff.1 (i 0).isLt)
    | 1 => rfl
    | 2 => rfl
  · funext a
    apply Fin.ext
    match a with
    | 0 => exact ((Nat.zero_add _).trans ((Nat.one_mul _).trans (Nat.lt_one_iff.1 (i 0).isLt))).symm
    | 1 => exact (congrArg (o + ·) (Nat.one_mul _)).symm
    | 2 => exact ((Nat.zero_add _).trans (Nat.one_mul _)).symm

theorem qcL_canon (x : Vec Ideal S1x128x2048 .bf16) (hx : ∀ i, Small (x i)) (y : S1x2048x128.Idx) :
    View.canon (qcL x) y = qCodes x y :=
  View.canon_apply_of_pieces (qCodes x) (qcL x)
    (View.PiecesOf.mem (show View.PiecesOf (qCodes x) (qcL x) from ⟨qCodes_piece x hx 1920 rfl _ inb_S1x2048x128_S1x128x128_0_1920_0, qCodes_piece x hx 1792 rfl _ inb_S1x2048x128_S1x128x128_0_1792_0, qCodes_piece x hx 1664 rfl _ inb_S1x2048x128_S1x128x128_0_1664_0, qCodes_piece x hx 1536 rfl _ inb_S1x2048x128_S1x128x128_0_1536_0, qCodes_piece x hx 1408 rfl _ inb_S1x2048x128_S1x128x128_0_1408_0, qCodes_piece x hx 1280 rfl _ inb_S1x2048x128_S1x128x128_0_1280_0, qCodes_piece x hx 1152 rfl _ inb_S1x2048x128_S1x128x128_0_1152_0, qCodes_piece x hx 1024 rfl _ inb_S1x2048x128_S1x128x128_0_1024_0, qCodes_piece x hx 896 rfl _ inb_S1x2048x128_S1x128x128_0_896_0, qCodes_piece x hx 768 rfl _ inb_S1x2048x128_S1x128x128_0_768_0, qCodes_piece x hx 640 rfl _ inb_S1x2048x128_S1x128x128_0_640_0, qCodes_piece x hx 512 rfl _ inb_S1x2048x128_S1x128x128_0_512_0, qCodes_piece x hx 384 rfl _ inb_S1x2048x128_S1x128x128_0_384_0, qCodes_piece x hx 256 rfl _ inb_S1x2048x128_S1x128x128_0_256_0, qCodes_piece x hx 128 rfl _ inb_S1x2048x128_S1x128x128_0_128_0, qCodes_piece x hx 0 rfl _ inb_S1x2048x128_S1x128x128_0_0_0, trivial⟩)) y
    (View.cover_of_tiledL (qcL x) S1x128x128.size (by rfl) y)

theorem ldq_exps0 (x : Vec Ideal S1x128x2048 .bf16) (hx : ∀ i, Small (x i)) (o : ℕ) (ho : o % 32 = 0) (h) (t : Fin 128) (c : Fin 2048)
    (hc : c.val = o + 0) : exps (blk0 (ldq x o h)) (ix2 0 t) = biased (rep (qRow x t c)) := by
  have h2 : o + 128 ≤ 2048 := h 2
  rw [exps_apply _ _ fun k => by rw [blk0_apply]; exact ldq_small x hx o h _]
  congr 2
  funext k
  rw [blk0_apply, ldq_apply x o h t _ (by dsimp only; omega), qRow]
  exact congrArg (fun j => x (ix3 0 t j)) (Fin.ext (by dsimp only; omega))

theorem ldq_exps1 (x : Vec Ideal S1x128x2048 .bf16) (hx : ∀ i, Small (x i)) (o : ℕ) (ho : o % 32 = 0) (h) (t : Fin 128) (c : Fin 2048)
    (hc : c.val = o + 32) : exps (blk1 (ldq x o h)) (ix2 0 t) = biased (rep (qRow x t c)) := by
  have h2 : o + 128 ≤ 2048 := h 2
  rw [exps_apply _ _ fun k => by rw [blk1_apply]; exact ldq_small x hx o h _]
  congr 2
  funext k
  rw [blk1_apply, ldq_apply x o h t _ (by dsimp only; omega), qRow]
  exact congrArg (fun j => x (ix3 0 t j)) (Fin.ext (by dsimp only; omega))

theorem ldq_exps2 (x : Vec Ideal S1x128x2048 .bf16) (hx : ∀ i, Small (x i)) (o : ℕ) (ho : o % 32 = 0) (h) (t : Fin 128) (c : Fin 2048)
    (hc : c.val = o + 64) : exps (blk2 (ldq x o h)) (ix2 0 t) = biased (rep (qRow x t c)) := by
  have h2 : o + 128 ≤ 2048 := h 2
  rw [exps_apply _ _ fun k => by rw [blk2_apply]; exact ldq_small x hx o h _]
  congr 2
  funext k
  rw [blk2_apply, ldq_apply x o h t _ (by dsimp only; omega), qRow]
  exact congrArg (fun j => x (ix3 0 t j)) (Fin.ext (by dsimp only; omega))

theorem ldq_exps3 (x : Vec Ideal S1x128x2048 .bf16) (hx : ∀ i, Small (x i)) (o : ℕ) (ho : o % 32 = 0) (h) (t : Fin 128) (c : Fin 2048)
    (hc : c.val = o + 96) : exps (blk3 (ldq x o h)) (ix2 0 t) = biased (rep (qRow x t c)) := by
  have h2 : o + 128 ≤ 2048 := h 2
  rw [exps_apply _ _ fun k => by rw [blk3_apply]; exact ldq_small x hx o h _]
  congr 2
  funext k
  rw [blk3_apply, ldq_apply x o h t _ (by dsimp only; omega), qRow]
  exact congrArg (fun j => x (ix3 0 t j)) (Fin.ext (by dsimp only; omega))

theorem qsB0_apply (x : Vec Ideal S1x128x2048 .bf16) (hx : ∀ i, Small (x i)) (h : Fin 32) (t : Fin 128) :
    qsB0 x (ix4 0 0 h t) = (biased (rep (qRow x t ⟨64 * h.val + 0, by omega⟩))).setWidth 8 := by
  refine (bytes32_apply _ h t).trans (congrArg (BitVec.setWidth 8) ?_)
  concat_tiles i hi
  · exact (congrArg (exps (blk0 (q0 x))) (row_eq i t (by assumption))).trans (ldq_exps0 x hx 0 rfl _ t _ (by have h3 : h.val = 0 := hi; dsimp only; omega))
  · exact (congrArg (exps (blk2 (q0 x))) (row_eq i t (by assumption))).trans (ldq_exps2 x hx 0 rfl _ t _ (by have h3 : h.val = 1 := hi; dsimp only; omega))
  · exact (congrArg (exps (blk0 (q1 x))) (row_eq i t (by assumption))).trans (ldq_exps0 x hx 128 rfl _ t _ (by have h3 : h.val = 2 := hi; dsimp only; omega))
  · exact (congrArg (exps (blk2 (q1 x))) (row_eq i t (by assumption))).trans (ldq_exps2 x hx 128 rfl _ t _ (by have h3 : h.val = 3 := hi; dsimp only; omega))
  · exact (congrArg (exps (blk0 (q2 x))) (row_eq i t (by assumption))).trans (ldq_exps0 x hx 256 rfl _ t _ (by have h3 : h.val = 4 := hi; dsimp only; omega))
  · exact (congrArg (exps (blk2 (q2 x))) (row_eq i t (by assumption))).trans (ldq_exps2 x hx 256 rfl _ t _ (by have h3 : h.val = 5 := hi; dsimp only; omega))
  · exact (congrArg (exps (blk0 (q3 x))) (row_eq i t (by assumption))).trans (ldq_exps0 x hx 384 rfl _ t _ (by have h3 : h.val = 6 := hi; dsimp only; omega))
  · exact (congrArg (exps (blk2 (q3 x))) (row_eq i t (by assumption))).trans (ldq_exps2 x hx 384 rfl _ t _ (by have h3 : h.val = 7 := hi; dsimp only; omega))
  · exact (congrArg (exps (blk0 (q4 x))) (row_eq i t (by assumption))).trans (ldq_exps0 x hx 512 rfl _ t _ (by have h3 : h.val = 8 := hi; dsimp only; omega))
  · exact (congrArg (exps (blk2 (q4 x))) (row_eq i t (by assumption))).trans (ldq_exps2 x hx 512 rfl _ t _ (by have h3 : h.val = 9 := hi; dsimp only; omega))
  · exact (congrArg (exps (blk0 (q5 x))) (row_eq i t (by assumption))).trans (ldq_exps0 x hx 640 rfl _ t _ (by have h3 : h.val = 10 := hi; dsimp only; omega))
  · exact (congrArg (exps (blk2 (q5 x))) (row_eq i t (by assumption))).trans (ldq_exps2 x hx 640 rfl _ t _ (by have h3 : h.val = 11 := hi; dsimp only; omega))
  · exact (congrArg (exps (blk0 (q6 x))) (row_eq i t (by assumption))).trans (ldq_exps0 x hx 768 rfl _ t _ (by have h3 : h.val = 12 := hi; dsimp only; omega))
  · exact (congrArg (exps (blk2 (q6 x))) (row_eq i t (by assumption))).trans (ldq_exps2 x hx 768 rfl _ t _ (by have h3 : h.val = 13 := hi; dsimp only; omega))
  · exact (congrArg (exps (blk0 (q7 x))) (row_eq i t (by assumption))).trans (ldq_exps0 x hx 896 rfl _ t _ (by have h3 : h.val = 14 := hi; dsimp only; omega))
  · exact (congrArg (exps (blk2 (q7 x))) (row_eq i t (by assumption))).trans (ldq_exps2 x hx 896 rfl _ t _ (by have h3 : h.val = 15 := hi; dsimp only; omega))
  · exact (congrArg (exps (blk0 (q8 x))) (row_eq i t (by assumption))).trans (ldq_exps0 x hx 1024 rfl _ t _ (by have h3 : h.val = 16 := hi; dsimp only; omega))
  · exact (congrArg (exps (blk2 (q8 x))) (row_eq i t (by assumption))).trans (ldq_exps2 x hx 1024 rfl _ t _ (by have h3 : h.val = 17 := hi; dsimp only; omega))
  · exact (congrArg (exps (blk0 (q9 x))) (row_eq i t (by assumption))).trans (ldq_exps0 x hx 1152 rfl _ t _ (by have h3 : h.val = 18 := hi; dsimp only; omega))
  · exact (congrArg (exps (blk2 (q9 x))) (row_eq i t (by assumption))).trans (ldq_exps2 x hx 1152 rfl _ t _ (by have h3 : h.val = 19 := hi; dsimp only; omega))
  · exact (congrArg (exps (blk0 (q10 x))) (row_eq i t (by assumption))).trans (ldq_exps0 x hx 1280 rfl _ t _ (by have h3 : h.val = 20 := hi; dsimp only; omega))
  · exact (congrArg (exps (blk2 (q10 x))) (row_eq i t (by assumption))).trans (ldq_exps2 x hx 1280 rfl _ t _ (by have h3 : h.val = 21 := hi; dsimp only; omega))
  · exact (congrArg (exps (blk0 (q11 x))) (row_eq i t (by assumption))).trans (ldq_exps0 x hx 1408 rfl _ t _ (by have h3 : h.val = 22 := hi; dsimp only; omega))
  · exact (congrArg (exps (blk2 (q11 x))) (row_eq i t (by assumption))).trans (ldq_exps2 x hx 1408 rfl _ t _ (by have h3 : h.val = 23 := hi; dsimp only; omega))
  · exact (congrArg (exps (blk0 (q12 x))) (row_eq i t (by assumption))).trans (ldq_exps0 x hx 1536 rfl _ t _ (by have h3 : h.val = 24 := hi; dsimp only; omega))
  · exact (congrArg (exps (blk2 (q12 x))) (row_eq i t (by assumption))).trans (ldq_exps2 x hx 1536 rfl _ t _ (by have h3 : h.val = 25 := hi; dsimp only; omega))
  · exact (congrArg (exps (blk0 (q13 x))) (row_eq i t (by assumption))).trans (ldq_exps0 x hx 1664 rfl _ t _ (by have h3 : h.val = 26 := hi; dsimp only; omega))
  · exact (congrArg (exps (blk2 (q13 x))) (row_eq i t (by assumption))).trans (ldq_exps2 x hx 1664 rfl _ t _ (by have h3 : h.val = 27 := hi; dsimp only; omega))
  · exact (congrArg (exps (blk0 (q14 x))) (row_eq i t (by assumption))).trans (ldq_exps0 x hx 1792 rfl _ t _ (by have h3 : h.val = 28 := hi; dsimp only; omega))
  · exact (congrArg (exps (blk2 (q14 x))) (row_eq i t (by assumption))).trans (ldq_exps2 x hx 1792 rfl _ t _ (by have h3 : h.val = 29 := hi; dsimp only; omega))
  · exact (congrArg (exps (blk0 (q15 x))) (row_eq i t (by assumption))).trans (ldq_exps0 x hx 1920 rfl _ t _ (by have h3 : h.val = 30 := hi; dsimp only; omega))
  · exact (congrArg (exps (blk2 (q15 x))) (row_eq i t (by assumption))).trans (ldq_exps2 x hx 1920 rfl _ t _ (by have h3 : h.val = 31 := hi; dsimp only; omega))

theorem qsB1_apply (x : Vec Ideal S1x128x2048 .bf16) (hx : ∀ i, Small (x i)) (h : Fin 32) (t : Fin 128) :
    qsB1 x (ix4 0 0 h t) = (biased (rep (qRow x t ⟨64 * h.val + 32, by omega⟩))).setWidth 8 := by
  refine (bytes32_apply _ h t).trans (congrArg (BitVec.setWidth 8) ?_)
  concat_tiles i hi
  · exact (congrArg (exps (blk1 (q0 x))) (row_eq i t (by assumption))).trans (ldq_exps1 x hx 0 rfl _ t _ (by have h3 : h.val = 0 := hi; dsimp only; omega))
  · exact (congrArg (exps (blk3 (q0 x))) (row_eq i t (by assumption))).trans (ldq_exps3 x hx 0 rfl _ t _ (by have h3 : h.val = 1 := hi; dsimp only; omega))
  · exact (congrArg (exps (blk1 (q1 x))) (row_eq i t (by assumption))).trans (ldq_exps1 x hx 128 rfl _ t _ (by have h3 : h.val = 2 := hi; dsimp only; omega))
  · exact (congrArg (exps (blk3 (q1 x))) (row_eq i t (by assumption))).trans (ldq_exps3 x hx 128 rfl _ t _ (by have h3 : h.val = 3 := hi; dsimp only; omega))
  · exact (congrArg (exps (blk1 (q2 x))) (row_eq i t (by assumption))).trans (ldq_exps1 x hx 256 rfl _ t _ (by have h3 : h.val = 4 := hi; dsimp only; omega))
  · exact (congrArg (exps (blk3 (q2 x))) (row_eq i t (by assumption))).trans (ldq_exps3 x hx 256 rfl _ t _ (by have h3 : h.val = 5 := hi; dsimp only; omega))
  · exact (congrArg (exps (blk1 (q3 x))) (row_eq i t (by assumption))).trans (ldq_exps1 x hx 384 rfl _ t _ (by have h3 : h.val = 6 := hi; dsimp only; omega))
  · exact (congrArg (exps (blk3 (q3 x))) (row_eq i t (by assumption))).trans (ldq_exps3 x hx 384 rfl _ t _ (by have h3 : h.val = 7 := hi; dsimp only; omega))
  · exact (congrArg (exps (blk1 (q4 x))) (row_eq i t (by assumption))).trans (ldq_exps1 x hx 512 rfl _ t _ (by have h3 : h.val = 8 := hi; dsimp only; omega))
  · exact (congrArg (exps (blk3 (q4 x))) (row_eq i t (by assumption))).trans (ldq_exps3 x hx 512 rfl _ t _ (by have h3 : h.val = 9 := hi; dsimp only; omega))
  · exact (congrArg (exps (blk1 (q5 x))) (row_eq i t (by assumption))).trans (ldq_exps1 x hx 640 rfl _ t _ (by have h3 : h.val = 10 := hi; dsimp only; omega))
  · exact (congrArg (exps (blk3 (q5 x))) (row_eq i t (by assumption))).trans (ldq_exps3 x hx 640 rfl _ t _ (by have h3 : h.val = 11 := hi; dsimp only; omega))
  · exact (congrArg (exps (blk1 (q6 x))) (row_eq i t (by assumption))).trans (ldq_exps1 x hx 768 rfl _ t _ (by have h3 : h.val = 12 := hi; dsimp only; omega))
  · exact (congrArg (exps (blk3 (q6 x))) (row_eq i t (by assumption))).trans (ldq_exps3 x hx 768 rfl _ t _ (by have h3 : h.val = 13 := hi; dsimp only; omega))
  · exact (congrArg (exps (blk1 (q7 x))) (row_eq i t (by assumption))).trans (ldq_exps1 x hx 896 rfl _ t _ (by have h3 : h.val = 14 := hi; dsimp only; omega))
  · exact (congrArg (exps (blk3 (q7 x))) (row_eq i t (by assumption))).trans (ldq_exps3 x hx 896 rfl _ t _ (by have h3 : h.val = 15 := hi; dsimp only; omega))
  · exact (congrArg (exps (blk1 (q8 x))) (row_eq i t (by assumption))).trans (ldq_exps1 x hx 1024 rfl _ t _ (by have h3 : h.val = 16 := hi; dsimp only; omega))
  · exact (congrArg (exps (blk3 (q8 x))) (row_eq i t (by assumption))).trans (ldq_exps3 x hx 1024 rfl _ t _ (by have h3 : h.val = 17 := hi; dsimp only; omega))
  · exact (congrArg (exps (blk1 (q9 x))) (row_eq i t (by assumption))).trans (ldq_exps1 x hx 1152 rfl _ t _ (by have h3 : h.val = 18 := hi; dsimp only; omega))
  · exact (congrArg (exps (blk3 (q9 x))) (row_eq i t (by assumption))).trans (ldq_exps3 x hx 1152 rfl _ t _ (by have h3 : h.val = 19 := hi; dsimp only; omega))
  · exact (congrArg (exps (blk1 (q10 x))) (row_eq i t (by assumption))).trans (ldq_exps1 x hx 1280 rfl _ t _ (by have h3 : h.val = 20 := hi; dsimp only; omega))
  · exact (congrArg (exps (blk3 (q10 x))) (row_eq i t (by assumption))).trans (ldq_exps3 x hx 1280 rfl _ t _ (by have h3 : h.val = 21 := hi; dsimp only; omega))
  · exact (congrArg (exps (blk1 (q11 x))) (row_eq i t (by assumption))).trans (ldq_exps1 x hx 1408 rfl _ t _ (by have h3 : h.val = 22 := hi; dsimp only; omega))
  · exact (congrArg (exps (blk3 (q11 x))) (row_eq i t (by assumption))).trans (ldq_exps3 x hx 1408 rfl _ t _ (by have h3 : h.val = 23 := hi; dsimp only; omega))
  · exact (congrArg (exps (blk1 (q12 x))) (row_eq i t (by assumption))).trans (ldq_exps1 x hx 1536 rfl _ t _ (by have h3 : h.val = 24 := hi; dsimp only; omega))
  · exact (congrArg (exps (blk3 (q12 x))) (row_eq i t (by assumption))).trans (ldq_exps3 x hx 1536 rfl _ t _ (by have h3 : h.val = 25 := hi; dsimp only; omega))
  · exact (congrArg (exps (blk1 (q13 x))) (row_eq i t (by assumption))).trans (ldq_exps1 x hx 1664 rfl _ t _ (by have h3 : h.val = 26 := hi; dsimp only; omega))
  · exact (congrArg (exps (blk3 (q13 x))) (row_eq i t (by assumption))).trans (ldq_exps3 x hx 1664 rfl _ t _ (by have h3 : h.val = 27 := hi; dsimp only; omega))
  · exact (congrArg (exps (blk1 (q14 x))) (row_eq i t (by assumption))).trans (ldq_exps1 x hx 1792 rfl _ t _ (by have h3 : h.val = 28 := hi; dsimp only; omega))
  · exact (congrArg (exps (blk3 (q14 x))) (row_eq i t (by assumption))).trans (ldq_exps3 x hx 1792 rfl _ t _ (by have h3 : h.val = 29 := hi; dsimp only; omega))
  · exact (congrArg (exps (blk1 (q15 x))) (row_eq i t (by assumption))).trans (ldq_exps1 x hx 1920 rfl _ t _ (by have h3 : h.val = 30 := hi; dsimp only; omega))
  · exact (congrArg (exps (blk3 (q15 x))) (row_eq i t (by assumption))).trans (ldq_exps3 x hx 1920 rfl _ t _ (by have h3 : h.val = 31 := hi; dsimp only; omega))

/-- The block of 32 channels around channel `c` of a key or value block, at token `t`. -/
def kRow (x : Vec Ideal S1x128x512 .bf16) (t : Fin 128) (c : Fin 512) (k : Fin 32) : EReal :=
  x (ix3 0 t ⟨32 * (c.val / 32) + k.val, by omega⟩)

theorem ldk_apply (x : Vec Ideal S1x128x512 .bf16) (o : ℕ) (h) (t r : Fin 128) (hr : o + r.val < 512) :
    ldk x o h (ix3 0 t r) = x (ix3 0 t ⟨o + r.val, hr⟩) := by
  refine congrArg x (funext fun a => Fin.ext ?_)
  match a with
  | 0 => rfl
  | 1 => exact (Nat.zero_add _).trans (Nat.one_mul _)
  | 2 => exact congrArg (o + ·) (Nat.one_mul _)

theorem ldk_small (x : Vec Ideal S1x128x512 .bf16) (hx : ∀ i, Small (x i)) (o : ℕ) (h) (i : S1x128x128.Idx) : Small (ldk x o h i) :=
  hx _

theorem ldk_around (x : Vec Ideal S1x128x512 .bf16) (o : ℕ) (ho : o % 32 = 0) (h) (t r : Fin 128) (hr : o + r.val < 512) :
    around (ldk x o h) r t = kRow x t ⟨o + r.val, hr⟩ := by
  have h2 : o + 128 ≤ 512 := h 2
  funext k
  rw [around, ldk_apply x o h t _ (by dsimp only; omega)]
  exact congrArg (fun j => x (ix3 0 t j)) (Fin.ext (by dsimp only; omega))

/-- The codes of a key or value block, channels before tokens. -/
def kCodes (x : Vec Ideal S1x128x512 .bf16) (y : S1x512x128.Idx) : EReal :=
  x (ix3 0 (y 2) (y 1)) * (((gain (kRow x (y 2) (y 1)))⁻¹ : ℝ) : EReal)

theorem kCodes_piece (x : Vec Ideal S1x128x512 .bf16) (hx : ∀ i, Small (x i)) (o : ℕ) (ho : o % 32 = 0) (h)
    (h' : ∀ a, (![0, o, 0] : Fin 3 → ℕ) a + S1x128x128.size a ≤ S1x512x128.size a) (i : S1x128x128.Idx) :
    codeSlab (ldk x o h) i
      = kCodes x ((Rect.unit (s := S1x512x128) (![0, o, 0] : Fin 3 → ℕ) S1x128x128.size h').emb i) := by
  have h2 : o + 128 ≤ 512 := h 2
  have key : ∀ r t : Fin 128, codeSlab (ldk x o h) (ix3 0 r t) = kCodes x (ix3 0 ⟨o + r.val, by omega⟩ t) := fun r t => by
    rw [codeSlab_apply _ (ldk_small x hx o h), ldk_apply x o h t r (by omega), ldk_around x o ho h t r (by omega)]
    rfl
  refine (congrArg (codeSlab (ldk x o h)) ?_).trans ((key (i 1) (i 2)).trans (congrArg (kCodes x) ?_))
  · funext a
    match a with
    | 0 => exact Fin.ext (Nat.lt_one_iff.1 (i 0).isLt)
    | 1 => rfl
    | 2 => rfl
  · funext a
    apply Fin.ext
    match a with
    | 0 => exact ((Nat.zero_add _).trans ((Nat.one_mul _).trans (Nat.lt_one_iff.1 (i 0).isLt))).symm
    | 1 => exact (congrArg (o + ·) (Nat.one_mul _)).symm
    | 2 => exact ((Nat.zero_add _).trans (Nat.one_mul _)).symm

theorem kcL_canon (x : Vec Ideal S1x128x512 .bf16) (hx : ∀ i, Small (x i)) (y : S1x512x128.Idx) :
    View.canon (kcL x) y = kCodes x y :=
  View.canon_apply_of_pieces (kCodes x) (kcL x)
    (View.PiecesOf.mem (show View.PiecesOf (kCodes x) (kcL x) from ⟨kCodes_piece x hx 384 rfl _ inb_S1x512x128_S1x128x128_0_384_0, kCodes_piece x hx 256 rfl _ inb_S1x512x128_S1x128x128_0_256_0, kCodes_piece x hx 128 rfl _ inb_S1x512x128_S1x128x128_0_128_0, kCodes_piece x hx 0 rfl _ inb_S1x512x128_S1x128x128_0_0_0, trivial⟩)) y
    (View.cover_of_tiledL (kcL x) S1x128x128.size (by rfl) y)

theorem ldk_exps0 (x : Vec Ideal S1x128x512 .bf16) (hx : ∀ i, Small (x i)) (o : ℕ) (ho : o % 32 = 0) (h) (t : Fin 128) (c : Fin 512)
    (hc : c.val = o + 0) : exps (blk0 (ldk x o h)) (ix2 0 t) = biased (rep (kRow x t c)) := by
  have h2 : o + 128 ≤ 512 := h 2
  rw [exps_apply _ _ fun k => by rw [blk0_apply]; exact ldk_small x hx o h _]
  congr 2
  funext k
  rw [blk0_apply, ldk_apply x o h t _ (by dsimp only; omega), kRow]
  exact congrArg (fun j => x (ix3 0 t j)) (Fin.ext (by dsimp only; omega))

theorem ldk_exps1 (x : Vec Ideal S1x128x512 .bf16) (hx : ∀ i, Small (x i)) (o : ℕ) (ho : o % 32 = 0) (h) (t : Fin 128) (c : Fin 512)
    (hc : c.val = o + 32) : exps (blk1 (ldk x o h)) (ix2 0 t) = biased (rep (kRow x t c)) := by
  have h2 : o + 128 ≤ 512 := h 2
  rw [exps_apply _ _ fun k => by rw [blk1_apply]; exact ldk_small x hx o h _]
  congr 2
  funext k
  rw [blk1_apply, ldk_apply x o h t _ (by dsimp only; omega), kRow]
  exact congrArg (fun j => x (ix3 0 t j)) (Fin.ext (by dsimp only; omega))

theorem ldk_exps2 (x : Vec Ideal S1x128x512 .bf16) (hx : ∀ i, Small (x i)) (o : ℕ) (ho : o % 32 = 0) (h) (t : Fin 128) (c : Fin 512)
    (hc : c.val = o + 64) : exps (blk2 (ldk x o h)) (ix2 0 t) = biased (rep (kRow x t c)) := by
  have h2 : o + 128 ≤ 512 := h 2
  rw [exps_apply _ _ fun k => by rw [blk2_apply]; exact ldk_small x hx o h _]
  congr 2
  funext k
  rw [blk2_apply, ldk_apply x o h t _ (by dsimp only; omega), kRow]
  exact congrArg (fun j => x (ix3 0 t j)) (Fin.ext (by dsimp only; omega))

theorem ldk_exps3 (x : Vec Ideal S1x128x512 .bf16) (hx : ∀ i, Small (x i)) (o : ℕ) (ho : o % 32 = 0) (h) (t : Fin 128) (c : Fin 512)
    (hc : c.val = o + 96) : exps (blk3 (ldk x o h)) (ix2 0 t) = biased (rep (kRow x t c)) := by
  have h2 : o + 128 ≤ 512 := h 2
  rw [exps_apply _ _ fun k => by rw [blk3_apply]; exact ldk_small x hx o h _]
  congr 2
  funext k
  rw [blk3_apply, ldk_apply x o h t _ (by dsimp only; omega), kRow]
  exact congrArg (fun j => x (ix3 0 t j)) (Fin.ext (by dsimp only; omega))

theorem ksB0_apply (x : Vec Ideal S1x128x512 .bf16) (hx : ∀ i, Small (x i)) (h : Fin 8) (t : Fin 128) :
    ksB0 x (ix4 0 0 h t) = (biased (rep (kRow x t ⟨64 * h.val + 0, by omega⟩))).setWidth 8 := by
  refine (bytes8_apply _ h t).trans (congrArg (BitVec.setWidth 8) ?_)
  concat_tiles i hi
  · exact (congrArg (exps (blk0 (k0 x))) (row_eq i t (by assumption))).trans (ldk_exps0 x hx 0 rfl _ t _ (by have h3 : h.val = 0 := hi; dsimp only; omega))
  · exact (congrArg (exps (blk2 (k0 x))) (row_eq i t (by assumption))).trans (ldk_exps2 x hx 0 rfl _ t _ (by have h3 : h.val = 1 := hi; dsimp only; omega))
  · exact (congrArg (exps (blk0 (k1 x))) (row_eq i t (by assumption))).trans (ldk_exps0 x hx 128 rfl _ t _ (by have h3 : h.val = 2 := hi; dsimp only; omega))
  · exact (congrArg (exps (blk2 (k1 x))) (row_eq i t (by assumption))).trans (ldk_exps2 x hx 128 rfl _ t _ (by have h3 : h.val = 3 := hi; dsimp only; omega))
  · exact (congrArg (exps (blk0 (k2 x))) (row_eq i t (by assumption))).trans (ldk_exps0 x hx 256 rfl _ t _ (by have h3 : h.val = 4 := hi; dsimp only; omega))
  · exact (congrArg (exps (blk2 (k2 x))) (row_eq i t (by assumption))).trans (ldk_exps2 x hx 256 rfl _ t _ (by have h3 : h.val = 5 := hi; dsimp only; omega))
  · exact (congrArg (exps (blk0 (k3 x))) (row_eq i t (by assumption))).trans (ldk_exps0 x hx 384 rfl _ t _ (by have h3 : h.val = 6 := hi; dsimp only; omega))
  · exact (congrArg (exps (blk2 (k3 x))) (row_eq i t (by assumption))).trans (ldk_exps2 x hx 384 rfl _ t _ (by have h3 : h.val = 7 := hi; dsimp only; omega))

theorem ksB1_apply (x : Vec Ideal S1x128x512 .bf16) (hx : ∀ i, Small (x i)) (h : Fin 8) (t : Fin 128) :
    ksB1 x (ix4 0 0 h t) = (biased (rep (kRow x t ⟨64 * h.val + 32, by omega⟩))).setWidth 8 := by
  refine (bytes8_apply _ h t).trans (congrArg (BitVec.setWidth 8) ?_)
  concat_tiles i hi
  · exact (congrArg (exps (blk1 (k0 x))) (row_eq i t (by assumption))).trans (ldk_exps1 x hx 0 rfl _ t _ (by have h3 : h.val = 0 := hi; dsimp only; omega))
  · exact (congrArg (exps (blk3 (k0 x))) (row_eq i t (by assumption))).trans (ldk_exps3 x hx 0 rfl _ t _ (by have h3 : h.val = 1 := hi; dsimp only; omega))
  · exact (congrArg (exps (blk1 (k1 x))) (row_eq i t (by assumption))).trans (ldk_exps1 x hx 128 rfl _ t _ (by have h3 : h.val = 2 := hi; dsimp only; omega))
  · exact (congrArg (exps (blk3 (k1 x))) (row_eq i t (by assumption))).trans (ldk_exps3 x hx 128 rfl _ t _ (by have h3 : h.val = 3 := hi; dsimp only; omega))
  · exact (congrArg (exps (blk1 (k2 x))) (row_eq i t (by assumption))).trans (ldk_exps1 x hx 256 rfl _ t _ (by have h3 : h.val = 4 := hi; dsimp only; omega))
  · exact (congrArg (exps (blk3 (k2 x))) (row_eq i t (by assumption))).trans (ldk_exps3 x hx 256 rfl _ t _ (by have h3 : h.val = 5 := hi; dsimp only; omega))
  · exact (congrArg (exps (blk1 (k3 x))) (row_eq i t (by assumption))).trans (ldk_exps1 x hx 384 rfl _ t _ (by have h3 : h.val = 6 := hi; dsimp only; omega))
  · exact (congrArg (exps (blk3 (k3 x))) (row_eq i t (by assumption))).trans (ldk_exps3 x hx 384 rfl _ t _ (by have h3 : h.val = 7 := hi; dsimp only; omega))

end Cert.Attn

end
-- ==== Proof.Softmax.lean ====
/- One query's attention over a window of 128 keys and a sink, on the extended reals: the weights as real numbers, and
   each program's way to the same weighted mean. The power of two that the probability row is scaled with cancels. -/
module

public import proofs.«01_k».proof.Proof.Quant

@[expose] public section

noncomputable section

namespace Cert.Attn

open Idealize.ShloMosaic

theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A maximum of finitely many values is the one among them that bounds the others. -/
theorem fold_max_eq {ι : Type*} [Fintype ι] (f : ι → EReal) (x : EReal) (hle : ∀ i, f i ≤ x) (hex : ∃ i, f i = x) :
    Finset.univ.fold max ⊥ f = x := by
  apply le_antisymm
  · rw [Finset.fold_max_le]
    exact ⟨bot_le, fun i _ => hle i⟩
  · obtain ⟨i, hi⟩ := hex
    rw [Finset.le_fold_max]
    exact .inr ⟨i, Finset.mem_univ _, hi.ge⟩

variable (vis : Fin 128 → Bool) (S : Fin 128 → ℝ) (k : ℝ)

/-- A window row's score: `-∞` where the query does not see the key. -/
def seen (r : Fin 128) : EReal := if vis r then (S r : EReal) else ⊥

/-- The largest visible score. -/
def top : ℝ := (Finset.univ.fold max ⊥ (seen vis S)).toReal

/-- The largest scaled score, the sink's among them. -/
def mx : ℝ := max (top vis S / 8) k

/-- A key's weight. -/
def wt (r : Fin 128) : ℝ := if vis r then Real.exp (S r / 8 - mx vis S k) else 0

/-- The weights' sum, the sink's included. -/
def tot : ℝ := (∑ r, wt vis S k r) + Real.exp (k - mx vis S k)

/-- The probability row's scale before it is rounded up to a power of two. -/
def lead : ℝ := Real.exp (top vis S / 8 - mx vis S k) * recip

/-- The attention output. -/
def avg (v : Fin 128 → ℝ) : ℝ := (∑ r, v r * wt vis S k r) / tot vis S k

variable {vis} {S} {k}

theorem top_spec (h : ∃ r, vis r) : Finset.univ.fold max ⊥ (seen vis S) = (top vis S : EReal)
    ∧ (∀ r, vis r → S r ≤ top vis S) ∧ ∃ r, vis r ∧ S r = top vis S := by
  obtain ⟨r0, h0⟩ := h
  obtain ⟨r1, h1, hm⟩ := Finset.exists_max_image (Finset.univ.filter fun r => vis r) S ⟨r0, by simp [h0]⟩
  simp only [Finset.mem_filter, Finset.mem_univ, true_and] at h1 hm
  have e : Finset.univ.fold max ⊥ (seen vis S) = (S r1 : EReal) := by
    refine fold_max_eq _ _ (fun r => ?_) ⟨r1, by simp [seen, h1]⟩
    unfold seen
    split_ifs with hr
    · exact EReal.coe_le_coe_iff.2 (hm r hr)
    · exact bot_le
  have e' : top vis S = S r1 := by rw [top, e, EReal.toReal_coe]
  exact ⟨by rw [e, e'], fun r hr => (hm r hr).trans_eq e'.symm, r1, h1, e'.symm⟩

theorem wt_nonneg (r : Fin 128) : 0 ≤ wt vis S k r := by
  unfold wt
  split_ifs
  · exact (Real.exp_pos _).le
  · exact le_rfl

theorem tot_pos : 0 < tot vis S k :=
  add_pos_of_nonneg_of_pos (Finset.sum_nonneg fun r _ => wt_nonneg r) (Real.exp_pos _)

theorem lead_nonneg : 0 ≤ lead vis S k := by
  unfold lead recip
  positivity

theorem lead_lt : lead vis S k < (2 : ℝ) ^ (120 : ℤ) := by
  have h : Real.exp (top vis S / 8 - mx vis S k) ≤ 1 := by
    rw [Real.exp_le_one_iff, sub_nonpos]
    exact le_max_left _ _
  unfold lead recip
  norm_num
  linarith

/-- A scaled weight stays below the codes' largest number. -/
theorem wt_lt (h : ∃ r, vis r) (r : Fin 128) : wt vis S k r * (2 : ℝ) ^ (-expo (lead vis S k)) < 448 := by
  have h1 := lt_two_zpow_expo (lead vis S k)
  have h2 : wt vis S k r ≤ Real.exp (top vis S / 8 - mx vis S k) := by
    unfold wt
    split_ifs with hr
    · have := (top_spec (S := S) h).2.1 r hr
      exact Real.exp_le_exp.2 (by linarith)
    · exact (Real.exp_pos _).le
  have h3 : Real.exp (top vis S / 8 - mx vis S k) ≤ 448 * lead vis S k := by
    have := Real.exp_pos (top vis S / 8 - mx vis S k)
    unfold lead recip
    linarith
  have hp : (0 : ℝ) < (2 : ℝ) ^ expo (lead vis S k) := by positivity
  rw [zpow_neg, ← div_eq_mul_inv, div_lt_iff₀ hp]
  linarith

/-! ## The kernel's way: powers of two of the raw scores -/

/-- What a raw score is multiplied with before the power of two. -/
def c2 : ℝ := 1 / 8 * (Real.log 2)⁻¹

theorem c2_pos : 0 < c2 := by
  have := log_two_pos
  unfold c2
  positivity

theorem rpow_c2 (x : ℝ) : Real.rpow 2 (x * c2) = Real.exp (x / 8) := by
  have h := log_two_pos
  show (2 : ℝ) ^ (x * c2) = _
  rw [Real.rpow_def_of_pos (by norm_num), c2]
  congr 1
  field_simp

theorem exp_sub_mul (x : ℝ) (e : ℤ) : Real.exp (x - e * Real.log 2) = Real.exp x * (2 : ℝ) ^ (-e) := by
  rw [Real.exp_sub, mul_comm, Real.exp_mul, Real.exp_log (by norm_num), Real.rpow_intCast, zpow_neg, div_eq_mul_inv]

/-- The shift a probability row's scores get: eight times the maximum, and the scale's exponent folded in. -/
def shf (vis : Fin 128 → Bool) (S : Fin 128 → ℝ) (k : ℝ) : ℝ :=
  8 * mx vis S k + expo (lead vis S k) * (8 * Real.log 2)

theorem exp2_coe (x : ℝ) : Ideal.exp2 ((x : ℝ) : EReal) = (Real.rpow 2 x : ℝ) := rfl

theorem exp2_lead : Ideal.exp2 (((top vis S : EReal) - ((8 * mx vis S k : ℝ) : EReal)) * (c2 : EReal)) * (recip : EReal)
    = (lead vis S k : EReal) := by
  rw [← EReal.coe_sub, ← EReal.coe_mul, exp2_coe, rpow_c2, ← EReal.coe_mul, lead]
  congr 3
  ring

theorem exp2_seen (r : Fin 128) : Ideal.exp2 ((seen vis S r - (shf vis S k : EReal)) * (c2 : EReal))
    = ((wt vis S k r * (2 : ℝ) ^ (-expo (lead vis S k)) : ℝ) : EReal) := by
  unfold seen wt
  by_cases hr : vis r
  · rw [if_pos hr, if_pos hr, ← EReal.coe_sub, ← EReal.coe_mul, exp2_coe, rpow_c2, ← exp_sub_mul, shf]
    congr 2
    ring
  · rw [if_neg hr, if_neg hr, EReal.bot_sub, EReal.bot_mul_coe_of_pos c2_pos, zero_mul]
    rfl

theorem exp2_sink : Ideal.exp2 ((((8 * k : ℝ) : EReal) - (shf vis S k : EReal)) * (c2 : EReal))
    = ((Real.exp (k - mx vis S k) * (2 : ℝ) ^ (-expo (lead vis S k)) : ℝ) : EReal) := by
  rw [← EReal.coe_sub, ← EReal.coe_mul, exp2_coe, rpow_c2, ← exp_sub_mul, shf]
  congr 2
  ring

theorem div_coe_one {x : ℝ} (h : 0 < x) : Ideal.div 1 (x : EReal) = ((x⁻¹ : ℝ) : EReal) := by
  rw [Ideal.div, if_neg (by exact_mod_cast h.ne'), one_mul, ← EReal.coe_inv]

/-- The kernel's output: scaled weights against values, over the scaled sum. -/
theorem kernel_avg (v : Fin 128 → ℝ) :
    (∑ r, (v r : EReal) * ((wt vis S k r * (2 : ℝ) ^ (-expo (lead vis S k)) : ℝ) : EReal))
      * Ideal.div 1 ((∑ r, ((wt vis S k r * (2 : ℝ) ^ (-expo (lead vis S k)) : ℝ) : EReal))
        + ((Real.exp (k - mx vis S k) * (2 : ℝ) ^ (-expo (lead vis S k)) : ℝ) : EReal))
      = (avg vis S k v : EReal) := by
  have hp : (0 : ℝ) < (2 : ℝ) ^ (-expo (lead vis S k)) := by positivity
  have ht := tot_pos (vis := vis) (S := S) (k := k)
  simp only [← EReal.coe_mul, ← coe_sum, ← EReal.coe_add]
  rw [← Finset.sum_mul, ← add_mul, show (∑ r, wt vis S k r) + Real.exp (k - mx vis S k) = tot vis S k from rfl,
    div_coe_one (mul_pos ht hp), ← EReal.coe_mul, avg]
  congr 1
  have : ∀ r, v r * (wt vis S k r * (2 : ℝ) ^ (-expo (lead vis S k))) = v r * wt vis S k r * (2 : ℝ) ^ (-expo (lead vis S k)) :=
    fun r => (mul_assoc _ _ _).symm
  rw [Finset.sum_congr rfl fun r _ => this r, ← Finset.sum_mul]
  field_simp

end Cert.Attn

end
-- ==== Proof.Attn.lean ====
/- A slab's attention output read at an index: each query's weighted mean of the values its window shows. -/
module

public import proofs.«01_k».proof.Proof.Slabs
public import proofs.«01_k».proof.Proof.Softmax
public import Idealize.ShloMosaic.Lib.Pipeline.ValueKit

@[expose] public section

noncomputable section

namespace Cert.Attn

open Idealize.ShloMosaic Cert.KernelIdeal Cert.KernelIdeal.Gen

theorem named_c2 : (Named.named κ "exp2_scale" 0x3E38AA3B#32 : Ideal .f32) = (c2 : EReal) := rfl

theorem named_c2_inv : (Named.named κ "inv_exp2_scale" 0x40B17218#32 : Ideal .f32) = ((8 * Real.log 2 : ℝ) : EReal) := rfl

theorem named_neg_big : (Named.named κ "neg_big" 0xFF61B1E6#32 : Ideal .f32) = (⊥ : EReal) := rfl

theorem sink8_eq (k : ℝ) : sink8 (F := Ideal) (k : EReal) = ((8 * k : ℝ) : EReal) := by
  have h : Ideal.ofBits .f32 0x41000000#32 = ((8 : ℝ) : EReal) := by
    simp [Ideal.ofBits, Ideal.ieee, -EReal.coe_mul]; norm_num
  show (k : EReal) * Ideal.ofBits .f32 0x41000000#32 = _
  rw [h, ← EReal.coe_mul, mul_comm]

/-- Which window row a query sees in its own block. -/
theorem own_apply (r t : Fin 128) : own (ix2 r t) = BitVec.ofBool (decide (r ≤ t)) := by
  have h : ∀ r t : Fin 128, IntOp.cmpi CmpIPredicate.sle (BitVec.ofNat 32 r.val) (BitVec.ofNat 32 t.val)
      = BitVec.ofBool (decide (r ≤ t)) := by decide +kernel
  pointwise [own]
  exact h r t

theorem select_own {α : Type} (r t : Fin 128) (a b : α) :
    Scalar.select (own (ix2 r t)) a b = if r ≤ t then a else b := by
  rw [own_apply]
  by_cases h : r ≤ t <;> simp [h, Scalar.select]

section

variable (s : FVec Ideal S128x128 .f32) (t : Fin 128) {vis : Fin 128 → Bool} {S : Fin 128 → ℝ} {k : ℝ}
  (hs : ∀ r, s (ix2 r t) = seen vis S r) (hv : ∃ r, vis r)

include hs hv

theorem smax_eq : smax s (ix2 0 t) = (top vis S : EReal) := by
  pointwise [smax]
  rw [ofBits_neg_inf, ← (top_spec hv).1]
  exact congrArg (fun f => Finset.univ.fold max ⊥ f) (funext hs)

theorem rowMax_eq : rowMax s ((8 * k : ℝ) : EReal) (ix2 0 t) = ((8 * mx vis S k : ℝ) : EReal) := by
  show max (smax s (ix2 0 t)) ((8 * k : ℝ) : EReal) = _
  rw [smax_eq s t hs hv, ← EReal.coe_strictMono.monotone.map_max, mx, mul_max_of_nonneg _ _ (by norm_num)]
  congr 3
  ring

theorem rowExp_eq : rowExp s ((8 * k : ℝ) : EReal) (ix2 0 t) = biased (lead vis S k) := by
  refine field_apply _ t ?_ lead_nonneg lead_lt
  pointwise
  rw [smax_eq s t hs hv, rowMax_eq s t hs hv, ofBits_recip]
  exact exp2_lead

theorem shift_eq : shift s ((8 * k : ℝ) : EReal) (ix2 0 t) = (shf vis S k : EReal) := by
  show rowMax s ((8 * k : ℝ) : EReal) (ix2 0 t)
    + (((rowExp s ((8 * k : ℝ) : EReal) (ix2 0 t) - 127#32).toInt : ℝ) : EReal) * ((8 * Real.log 2 : ℝ) : EReal) = _
  rw [rowMax_eq s t hs hv, rowExp_eq s t hs hv, toInt_biased lead_lt, ← EReal.coe_mul, ← EReal.coe_add, shf]

theorem prob_eq (r : Fin 128) : prob s ((8 * k : ℝ) : EReal) (ix2 r t)
    = ((wt vis S k r * (2 : ℝ) ^ (-expo (lead vis S k)) : ℝ) : EReal) := by
  pointwise [prob]
  rw [hs, shift_eq s t hs hv]
  exact exp2_seen r

theorem pcode_eq (r : Fin 128) : pcode s ((8 * k : ℝ) : EReal) (ix2 r t)
    = ((wt vis S k r * (2 : ℝ) ^ (-expo (lead vis S k)) : ℝ) : EReal) := by
  show min (prob s ((8 * k : ℝ) : EReal) (ix2 r t)) (Ideal.ofBits .f32 0x43E00000#32) = _
  rw [prob_eq s t hs hv, ofBits_448]
  exact min_eq_left (EReal.coe_le_coe_iff.2 (wt_lt hv r).le)

theorem invl_eq : invl s ((8 * k : ℝ) : EReal) (ix2 0 t)
    = Ideal.div 1 ((∑ r, ((wt vis S k r * (2 : ℝ) ^ (-expo (lead vis S k)) : ℝ) : EReal))
        + ((Real.exp (k - mx vis S k) * (2 : ℝ) ^ (-expo (lead vis S k)) : ℝ) : EReal)) := by
  pointwise [invl]
  rw [shift_eq s t hs hv, Finset.sum_congr rfl fun r _ => prob_eq s t hs hv r]
  exact congrArg (fun z => Ideal.div 1 (_ + z)) exp2_sink

end

/-! ## The window -/

theorem sum_256 (f : Fin 256 → EReal) :
    ∑ x, f x = (∑ r : Fin 128, f ⟨r.val, by omega⟩) + ∑ r : Fin 128, f ⟨128 + r.val, by omega⟩ :=
  Fin.sum_univ_add (a := 128) (b := 128) f

theorem ofBits_zero8 : Ideal.ofBits .fp8e4m3 0#8 = 0 := by
  simp [Ideal.ofBits, Ideal.e4m3fn, Ideal.ieee]

theorem kWin_own (a b : Vec Ideal S1x128x64 .bf16) (r : Fin 128) (j : Fin 64) :
    kWin a b (ix2 ⟨r.val, by omega⟩ j) = a (ix3 0 r j) := by
  pointwise [kWin]

theorem kWin_prev (a b : Vec Ideal S1x128x64 .bf16) (r : Fin 128) (j : Fin 64) :
    kWin a b (ix2 ⟨128 + r.val, by omega⟩ j) = b (ix3 0 r j) := by
  pointwise [kWin]

theorem vWin_own (a b : Vec Ideal S1x64x128 .bf16) (c : Fin 64) (r : Fin 128) :
    vWin a b (ix2 c ⟨r.val, by omega⟩) = a (ix3 0 c r) := by
  pointwise [vWin]

theorem vWin_prev (a b : Vec Ideal S1x64x128 .bf16) (c : Fin 64) (r : Fin 128) :
    vWin a b (ix2 c ⟨128 + r.val, by omega⟩) = b (ix3 0 c r) := by
  pointwise [vWin]

theorem scores_lo (kw : FVec Ideal S256x64 .bf16) (v : Vec Ideal S1x128x128 .bf16) (hv : ∀ i, Small (v i)) (r : Fin 256) (t : Fin 128) :
    scores kw v (ix2 r ⟨t.val, by omega⟩) = ∑ j : Fin 64, kw (ix2 r j) * v (ix3 0 t ⟨j.val, by omega⟩) := by
  pointwise [scores]
  exact Finset.sum_congr rfl fun j _ => congrArg (kw (ix2 r j) * ·) (deqSlab_apply v hv _ t)

theorem scores_hi (kw : FVec Ideal S256x64 .bf16) (v : Vec Ideal S1x128x128 .bf16) (hv : ∀ i, Small (v i)) (r : Fin 256) (t : Fin 128) :
    scores kw v (ix2 r ⟨128 + t.val, by omega⟩) = ∑ j : Fin 64, kw (ix2 r j) * v (ix3 0 t ⟨64 + j.val, by omega⟩) := by
  pointwise [scores]
  exact Finset.sum_congr rfl fun j _ => congrArg (kw (ix2 r j) * ·) (deqSlab_apply v hv _ t)

theorem pWin_own0 (s0 s1 : FVec Ideal S128x128 .f32) (k0 k1 : EReal) (r t : Fin 128) :
    pWin s0 s1 k0 k1 (ix2 ⟨r.val, by omega⟩ ⟨t.val, by omega⟩) = if r ≤ t then pcode s0 k0 (ix2 r t) else 0 := by
  pointwise [pWin, pOwn]
  rw [select_own, ofBits_zero8]

theorem pWin_own1 (s0 s1 : FVec Ideal S128x128 .f32) (k0 k1 : EReal) (r t : Fin 128) :
    pWin s0 s1 k0 k1 (ix2 ⟨r.val, by omega⟩ ⟨128 + t.val, by omega⟩) = if r ≤ t then pcode s1 k1 (ix2 r t) else 0 := by
  pointwise [pWin, pOwn]
  rw [select_own, ofBits_zero8]

theorem pWin_prev0 (s0 s1 : FVec Ideal S128x128 .f32) (k0 k1 : EReal) (r t : Fin 128) :
    pWin s0 s1 k0 k1 (ix2 ⟨128 + r.val, by omega⟩ ⟨t.val, by omega⟩) = if r ≤ t then 0 else pcode s0 k0 (ix2 r t) := by
  pointwise [pWin, pPrev]
  rw [select_own, ofBits_zero8]

theorem pWin_prev1 (s0 s1 : FVec Ideal S128x128 .f32) (k0 k1 : EReal) (r t : Fin 128) :
    pWin s0 s1 k0 k1 (ix2 ⟨128 + r.val, by omega⟩ ⟨128 + t.val, by omega⟩) = if r ≤ t then 0 else pcode s1 k1 (ix2 r t) := by
  pointwise [pWin, pPrev]
  rw [select_own, ofBits_zero8]

/-- Whether query `t` sees window row `r`: its own block's rows up to itself, the previous block's rows after it, which
    the first block of a batch does not have. -/
def visAt (first : Bool) (t r : Fin 128) : Bool := decide (r ≤ t) || !first

theorem visAt_zero (first : Bool) (t : Fin 128) : ∃ r, visAt first t r := ⟨0, by simp [visAt]⟩

/-- A query against the window rows. -/
def dots (KA KB : Fin 128 → Fin 64 → ℝ) (Q : Fin 64 → ℝ) (t r : Fin 128) : ℝ :=
  if r ≤ t then ∑ j, KA r j * Q j else ∑ j, KB r j * Q j

/-- The window rows' values. -/
def vals (VA VB : Fin 128 → ℝ) (t r : Fin 128) : ℝ := if r ≤ t then VA r else VB r

theorem seen_window {first : Bool} {b : EReal} (hb : b = if first then ⊥ else 0) {ka kb : Fin 128 → Fin 64 → EReal} {q : Fin 64 → EReal}
    {KA KB : Fin 128 → Fin 64 → ℝ} {Q : Fin 64 → ℝ} (hka : ∀ r j, ka r j = (KA r j : EReal))
    (hkb : first = false → ∀ r j, kb r j = (KB r j : EReal)) (hq : ∀ j, q j = (Q j : EReal)) (t r : Fin 128) :
    (if r ≤ t then ∑ j, ka r j * q j else (∑ j, kb r j * q j) + b) = seen (visAt first t) (dots KA KB Q t) r := by
  unfold seen visAt dots
  by_cases h : r ≤ t
  · rw [if_pos h, if_pos h, if_pos (by simp [h]), coe_sum]
    exact Finset.sum_congr rfl fun j _ => by rw [hka, hq, EReal.coe_mul]
  · rw [if_neg h, if_neg h]
    cases first with
    | true => rw [hb, if_pos rfl, EReal.add_bot, if_neg (by simp [h])]
    | false =>
      rw [hb, if_neg (by simp), add_zero, if_pos (by simp), coe_sum]
      exact Finset.sum_congr rfl fun j _ => by rw [hkb rfl, hq, EReal.coe_mul]

/-- Weights against values, own rows and previous rows apart. -/
theorem sum_window {first : Bool} {va vb : Fin 128 → EReal} {VA VB : Fin 128 → ℝ} (hva : ∀ r, va r = (VA r : EReal))
    (hvb : first = false → ∀ r, vb r = (VB r : EReal)) {S : Fin 128 → ℝ} {k e : ℝ} (t : Fin 128) :
    (∑ r, va r * (if r ≤ t then ((wt (visAt first t) S k r * e : ℝ) : EReal) else 0))
      + ∑ r, vb r * (if r ≤ t then 0 else ((wt (visAt first t) S k r * e : ℝ) : EReal))
      = ∑ r, ((vals VA VB t r : ℝ) : EReal) * ((wt (visAt first t) S k r * e : ℝ) : EReal) := by
  rw [← Finset.sum_add_distrib]
  refine Finset.sum_congr rfl fun r _ => ?_
  unfold vals
  by_cases h : r ≤ t
  · rw [if_pos h, if_pos h, if_pos h, mul_zero, add_zero, hva]
  · rw [if_neg h, if_neg h, if_neg h, mul_zero, zero_add]
    cases first with
    | true => simp [wt, visAt, h]
    | false => rw [hvb rfl]

section

variable {first : Bool} {b : EReal} (hb : b = if first then ⊥ else 0) (v : Vec Ideal S1x128x128 .bf16) (hv : ∀ i, Small (v i))
  (ka kb : Vec Ideal S1x128x64 .bf16) (va vb : Vec Ideal S1x64x128 .bf16) {KA KB : Fin 128 → Fin 64 → ℝ} {VA VB : Fin 128 → ℝ}
  {Q : Fin 64 → ℝ} (s0 s1 : EReal) {k : ℝ} (t : Fin 128) (c : Fin 64)
  (hka : ∀ r j, ka (ix3 0 r j) = (KA r j : EReal)) (hkb : first = false → ∀ r j, kb (ix3 0 r j) = (KB r j : EReal))
  (hva : ∀ r, va (ix3 0 c r) = (VA r : EReal)) (hvb : first = false → ∀ r, vb (ix3 0 c r) = (VB r : EReal))

include hb hv hka hkb hva hvb

theorem sc0_eq (hQ : ∀ j : Fin 64, v (ix3 0 t ⟨j.val, by omega⟩) = (Q j : EReal)) (r : Fin 128) :
    sc0 b (scores (kWin ka kb) v) (ix2 r t) = seen (visAt first t) (dots KA KB Q t) r := by
  rw [← seen_window hb hka hkb hQ t r]
  pointwise [sc0]
  rw [select_own, scores_lo _ _ hv, scores_lo _ _ hv]
  simp only [kWin_own, kWin_prev]

theorem sc1_eq (hQ : ∀ j : Fin 64, v (ix3 0 t ⟨64 + j.val, by omega⟩) = (Q j : EReal)) (r : Fin 128) :
    sc1 b (scores (kWin ka kb) v) (ix2 r t) = seen (visAt first t) (dots KA KB Q t) r := by
  rw [← seen_window hb hka hkb hQ t r]
  pointwise [sc1]
  rw [select_own, scores_hi _ _ hv, scores_hi _ _ hv]
  simp only [kWin_own, kWin_prev]

theorem outSlab_lo (hQ : ∀ j : Fin 64, v (ix3 0 t ⟨j.val, by omega⟩) = (Q j : EReal)) (hk : s0 = (k : EReal)) :
    outSlab b v ka kb va vb s0 s1 (ix3 0 t ⟨c.val, by omega⟩)
      = (avg (visAt first t) (dots KA KB Q t) k (vals VA VB t) : EReal) := by
  have hs := sc0_eq hb v hv ka kb va vb t c hka hkb hva hvb hQ
  rw [← kernel_avg, ← sum_window (first := first) hva hvb t]
  pointwise [outSlab, outOf]
  rw [hk, sink8_eq, invl_eq _ t hs (visAt_zero first t), sum_256]
  simp only [vWin_own, vWin_prev, pWin_own0, pWin_prev0, pcode_eq _ t hs (visAt_zero first t)]

theorem outSlab_hi (hQ : ∀ j : Fin 64, v (ix3 0 t ⟨64 + j.val, by omega⟩) = (Q j : EReal)) (hk : s1 = (k : EReal)) :
    outSlab b v ka kb va vb s0 s1 (ix3 0 t ⟨64 + c.val, by omega⟩)
      = (avg (visAt first t) (dots KA KB Q t) k (vals VA VB t) : EReal) := by
  have hs := sc1_eq hb v hv ka kb va vb t c hka hkb hva hvb hQ
  rw [← kernel_avg, ← sum_window (first := first) hva hvb t]
  pointwise [outSlab, outOf]
  rw [hk, sink8_eq, invl_eq _ t hs (visAt_zero first t), sum_256]
  simp only [vWin_own, vWin_prev, pWin_own1, pWin_prev1, pcode_eq _ t hs (visAt_zero first t)]

end

end Cert.Attn

end
-- ==== Proof.Heads.lean ====
/- The key and value heads a grid step keeps for the next one, and its attention output, read at an index. -/
module

public import proofs.«01_k».proof.Proof.Blocks
public import proofs.«01_k».proof.Proof.Attn

@[expose] public section

set_option maxRecDepth 16384

noncomputable section

namespace Cert.Attn

open Idealize.ShloMosaic Cert.KernelIdeal Cert.KernelIdeal.Gen

/-! ## The heads a step keeps -/

/-- The key buffer after a step on the block `x`: head by head, its channels. -/
def kKeep (x : Vec Ideal S1x128x512 .bf16) (y : S8x128x64.Idx) : EReal :=
  x (ix3 0 (y 1) ⟨64 * (y 0).val + (y 2).val, by have h0 : (y 0).val < 8 := (y 0).isLt; have h1 : (y 2).val < 64 := (y 2).isLt; omega⟩)

theorem kKeep_piece0 (x : Vec Ideal S1x128x512 .bf16) (hx : ∀ i, Small (x i)) (o g : ℕ) (hg : 64 * g = o + 0) (h)
    (h' : ∀ a, (![g, 0, 0] : Fin 3 → ℕ) a + S1x128x64.size a ≤ S8x128x64.size a) (i : S1x128x64.Idx) :
    kHead0 (ldk x o h) i = kKeep x ((Rect.unit (s := S8x128x64) (![g, 0, 0] : Fin 3 → ℕ) S1x128x64.size h').emb i) := by
  have h2 : o + 128 ≤ 512 := h 2
  have h3 : g + 1 ≤ 8 := h' 0
  have key : ∀ (t : Fin 128) (c : Fin 64), kHead0 (ldk x o h) (ix3 0 t c) = kKeep x (ix3 ⟨g, by omega⟩ t c) := fun t c => by
    rw [kHead0_apply _ (ldk_small x hx o h), ldk_apply x o h t _ (by first | omega | (dsimp only; omega) | dsimp only), kKeep]
    exact congrArg (fun j => x (ix3 0 t j)) (Fin.ext (by show _ = 64 * g + c.val; dsimp only; omega))
  refine (congrArg (kHead0 (ldk x o h)) ?_).trans ((key (i 1) (i 2)).trans (congrArg (kKeep x) ?_))
  · funext a
    match a with
    | 0 => exact Fin.ext (Nat.lt_one_iff.1 (i 0).isLt)
    | 1 => rfl
    | 2 => rfl
  · funext a
    apply Fin.ext
    match a with
    | 0 => exact (show g = g + 1 * (i 0).val by have h4 : (i 0).val = 0 := (Nat.lt_one_iff.1 (i 0).isLt); omega)
    | 1 => exact ((Nat.zero_add _).trans (Nat.one_mul _)).symm
    | 2 => exact ((Nat.zero_add _).trans (Nat.one_mul _)).symm

theorem kKeep_piece1 (x : Vec Ideal S1x128x512 .bf16) (hx : ∀ i, Small (x i)) (o g : ℕ) (hg : 64 * g = o + 64) (h)
    (h' : ∀ a, (![g, 0, 0] : Fin 3 → ℕ) a + S1x128x64.size a ≤ S8x128x64.size a) (i : S1x128x64.Idx) :
    kHead1 (ldk x o h) i = kKeep x ((Rect.unit (s := S8x128x64) (![g, 0, 0] : Fin 3 → ℕ) S1x128x64.size h').emb i) := by
  have h2 : o + 128 ≤ 512 := h 2
  have h3 : g + 1 ≤ 8 := h' 0
  have key : ∀ (t : Fin 128) (c : Fin 64), kHead1 (ldk x o h) (ix3 0 t c) = kKeep x (ix3 ⟨g, by omega⟩ t c) := fun t c => by
    rw [kHead1_apply _ (ldk_small x hx o h), ldk_apply x o h t _ (by first | omega | (dsimp only; omega) | dsimp only), kKeep]
    exact congrArg (fun j => x (ix3 0 t j)) (Fin.ext (by show _ = 64 * g + c.val; dsimp only; omega))
  refine (congrArg (kHead1 (ldk x o h)) ?_).trans ((key (i 1) (i 2)).trans (congrArg (kKeep x) ?_))
  · funext a
    match a with
    | 0 => exact Fin.ext (Nat.lt_one_iff.1 (i 0).isLt)
    | 1 => rfl
    | 2 => rfl
  · funext a
    apply Fin.ext
    match a with
    | 0 => exact (show g = g + 1 * (i 0).val by have h4 : (i 0).val = 0 := (Nat.lt_one_iff.1 (i 0).isLt); omega)
    | 1 => exact ((Nat.zero_add _).trans (Nat.one_mul _)).symm
    | 2 => exact ((Nat.zero_add _).trans (Nat.one_mul _)).symm

theorem kH8_canon (L) (x : Vec Ideal S1x128x512 .bf16) (hx : ∀ i, Small (x i)) (y : S8x128x64.Idx) :
    View.canon (kH8 L x) y = kKeep x y := by
  show View.canon (kH8 [] x ++ L) y = _
  exact View.canon_append_of_piecesOf (kKeep x) L (kH8 [] x)
    (show View.PiecesOf (kKeep x) (kH8 [] x) from ⟨kKeep_piece1 x hx 384 7 rfl _ inb_S8x128x64_S1x128x64_7_0_0, kKeep_piece0 x hx 384 6 rfl _ inb_S8x128x64_S1x128x64_6_0_0, kKeep_piece1 x hx 256 5 rfl _ inb_S8x128x64_S1x128x64_5_0_0, kKeep_piece0 x hx 256 4 rfl _ inb_S8x128x64_S1x128x64_4_0_0, kKeep_piece1 x hx 128 3 rfl _ inb_S8x128x64_S1x128x64_3_0_0, kKeep_piece0 x hx 128 2 rfl _ inb_S8x128x64_S1x128x64_2_0_0, kKeep_piece1 x hx 0 1 rfl _ inb_S8x128x64_S1x128x64_1_0_0, kKeep_piece0 x hx 0 0 rfl _ inb_S8x128x64_S1x128x64_0_0_0, trivial⟩) y
    (View.cover_of_tiledL (kH8 [] x) S1x128x64.size (by rfl) y)

theorem kOwn_apply (x : Vec Ideal S1x128x512 .bf16) (hx : ∀ i, Small (x i)) (g : Fin 8) (t : Fin 128) (c : Fin 64) :
    kOwn x g (ix3 0 t c) = x (ix3 0 t ⟨64 * g.val + c.val, by omega⟩) := by
  have key : ∀ (v : Vec Ideal S1x128x128 .bf16) (o : ℕ) (h), v = ldk x o h → ∀ r : Fin 128, ∀ hr : o + r.val < 512, v (ix3 0 t r) = x (ix3 0 t ⟨o + r.val, hr⟩) :=
    fun v o h hv r hr => by rw [hv, ldk_apply x o h t r hr]
  match g with
  | ⟨0, _⟩ => exact (kHead0_apply (k0 x) (ldk_small x hx 0 _) t c).trans ((key _ 0 _ rfl _ (by first | omega | (dsimp only; omega) | dsimp only)).trans
      (congrArg (fun j => x (ix3 0 t j)) (Fin.ext (by first | omega | (dsimp only; omega) | dsimp only))))
  | ⟨1, _⟩ => exact (kHead1_apply (k0 x) (ldk_small x hx 0 _) t c).trans ((key _ 0 _ rfl _ (by first | omega | (dsimp only; omega) | dsimp only)).trans
      (congrArg (fun j => x (ix3 0 t j)) (Fin.ext (by first | omega | (dsimp only; omega) | dsimp only))))
  | ⟨2, _⟩ => exact (kHead0_apply (k1 x) (ldk_small x hx 128 _) t c).trans ((key _ 128 _ rfl _ (by first | omega | (dsimp only; omega) | dsimp only)).trans
      (congrArg (fun j => x (ix3 0 t j)) (Fin.ext (by first | omega | (dsimp only; omega) | dsimp only))))
  | ⟨3, _⟩ => exact (kHead1_apply (k1 x) (ldk_small x hx 128 _) t c).trans ((key _ 128 _ rfl _ (by first | omega | (dsimp only; omega) | dsimp only)).trans
      (congrArg (fun j => x (ix3 0 t j)) (Fin.ext (by first | omega | (dsimp only; omega) | dsimp only))))
  | ⟨4, _⟩ => exact (kHead0_apply (k2 x) (ldk_small x hx 256 _) t c).trans ((key _ 256 _ rfl _ (by first | omega | (dsimp only; omega) | dsimp only)).trans
      (congrArg (fun j => x (ix3 0 t j)) (Fin.ext (by first | omega | (dsimp only; omega) | dsimp only))))
  | ⟨5, _⟩ => exact (kHead1_apply (k2 x) (ldk_small x hx 256 _) t c).trans ((key _ 256 _ rfl _ (by first | omega | (dsimp only; omega) | dsimp only)).trans
      (congrArg (fun j => x (ix3 0 t j)) (Fin.ext (by first | omega | (dsimp only; omega) | dsimp only))))
  | ⟨6, _⟩ => exact (kHead0_apply (k3 x) (ldk_small x hx 384 _) t c).trans ((key _ 384 _ rfl _ (by first | omega | (dsimp only; omega) | dsimp only)).trans
      (congrArg (fun j => x (ix3 0 t j)) (Fin.ext (by first | omega | (dsimp only; omega) | dsimp only))))
  | ⟨7, _⟩ => exact (kHead1_apply (k3 x) (ldk_small x hx 384 _) t c).trans ((key _ 384 _ rfl _ (by first | omega | (dsimp only; omega) | dsimp only)).trans
      (congrArg (fun j => x (ix3 0 t j)) (Fin.ext (by first | omega | (dsimp only; omega) | dsimp only))))

theorem kPrev_apply (X : Vec Ideal S8x128x64 .bf16) (g : Fin 8) (t : Fin 128) (c : Fin 64) : kPrev X g (ix3 0 t c) = X (ix3 g t c) := by
  have key : ∀ (g : ℕ) (hg : g < 8) (h), View.ld X (Rect.unit (s := S8x128x64) ![g, 0, 0] S1x128x64.size h) (ix3 0 t c) = X (ix3 ⟨g, hg⟩ t c) := fun g hg h => by
    refine congrArg X (funext fun a => Fin.ext ?_)
    match a with
    | 0 => rfl
    | 1 => exact (Nat.zero_add _).trans (Nat.one_mul _)
    | 2 => exact (Nat.zero_add _).trans (Nat.one_mul _)
  match g with
  | ⟨0, _⟩ => exact key 0 _ _
  | ⟨1, _⟩ => exact key 1 _ _
  | ⟨2, _⟩ => exact key 2 _ _
  | ⟨3, _⟩ => exact key 3 _ _
  | ⟨4, _⟩ => exact key 4 _ _
  | ⟨5, _⟩ => exact key 5 _ _
  | ⟨6, _⟩ => exact key 6 _ _
  | ⟨7, _⟩ => exact key 7 _ _

/-- The value buffer after a step on the block `x`: head by head, its channels. -/
def vKeep (x : Vec Ideal S1x128x512 .bf16) (y : S8x64x128.Idx) : EReal :=
  x (ix3 0 (y 2) ⟨64 * (y 0).val + (y 1).val, by have h0 : (y 0).val < 8 := (y 0).isLt; have h1 : (y 1).val < 64 := (y 1).isLt; omega⟩)

theorem vKeep_piece0 (x : Vec Ideal S1x128x512 .bf16) (hx : ∀ i, Small (x i)) (o g : ℕ) (hg : 64 * g = o + 0) (h)
    (h' : ∀ a, (![g, 0, 0] : Fin 3 → ℕ) a + S1x64x128.size a ≤ S8x64x128.size a) (i : S1x64x128.Idx) :
    vHead0 (ldk x o h) i = vKeep x ((Rect.unit (s := S8x64x128) (![g, 0, 0] : Fin 3 → ℕ) S1x64x128.size h').emb i) := by
  have h2 : o + 128 ≤ 512 := h 2
  have h3 : g + 1 ≤ 8 := h' 0
  have key : ∀ (c : Fin 64) (t : Fin 128), vHead0 (ldk x o h) (ix3 0 c t) = vKeep x (ix3 ⟨g, by omega⟩ c t) := fun c t => by
    rw [vHead0_apply _ (ldk_small x hx o h), ldk_apply x o h t _ (by first | omega | (dsimp only; omega) | dsimp only), vKeep]
    exact congrArg (fun j => x (ix3 0 t j)) (Fin.ext (by show _ = 64 * g + c.val; dsimp only; omega))
  refine (congrArg (vHead0 (ldk x o h)) ?_).trans ((key (i 1) (i 2)).trans (congrArg (vKeep x) ?_))
  · funext a
    match a with
    | 0 => exact Fin.ext (Nat.lt_one_iff.1 (i 0).isLt)
    | 1 => rfl
    | 2 => rfl
  · funext a
    apply Fin.ext
    match a with
    | 0 => exact (show g = g + 1 * (i 0).val by have h4 : (i 0).val = 0 := (Nat.lt_one_iff.1 (i 0).isLt); omega)
    | 1 => exact ((Nat.zero_add _).trans (Nat.one_mul _)).symm
    | 2 => exact ((Nat.zero_add _).trans (Nat.one_mul _)).symm

theorem vKeep_piece1 (x : Vec Ideal S1x128x512 .bf16) (hx : ∀ i, Small (x i)) (o g : ℕ) (hg : 64 * g = o + 64) (h)
    (h' : ∀ a, (![g, 0, 0] : Fin 3 → ℕ) a + S1x64x128.size a ≤ S8x64x128.size a) (i : S1x64x128.Idx) :
    vHead1 (ldk x o h) i = vKeep x ((Rect.unit (s := S8x64x128) (![g, 0, 0] : Fin 3 → ℕ) S1x64x128.size h').emb i) := by
  have h2 : o + 128 ≤ 512 := h 2
  have h3 : g + 1 ≤ 8 := h' 0
  have key : ∀ (c : Fin 64) (t : Fin 128), vHead1 (ldk x o h) (ix3 0 c t) = vKeep x (ix3 ⟨g, by omega⟩ c t) := fun c t => by
    rw [vHead1_apply _ (ldk_small x hx o h), ldk_apply x o h t _ (by first | omega | (dsimp only; omega) | dsimp only), vKeep]
    exact congrArg (fun j => x (ix3 0 t j)) (Fin.ext (by show _ = 64 * g + c.val; dsimp only; omega))
  refine (congrArg (vHead1 (ldk x o h)) ?_).trans ((key (i 1) (i 2)).trans (congrArg (vKeep x) ?_))
  · funext a
    match a with
    | 0 => exact Fin.ext (Nat.lt_one_iff.1 (i 0).isLt)
    | 1 => rfl
    | 2 => rfl
  · funext a
    apply Fin.ext
    match a with
    | 0 => exact (show g = g + 1 * (i 0).val by have h4 : (i 0).val = 0 := (Nat.lt_one_iff.1 (i 0).isLt); omega)
    | 1 => exact ((Nat.zero_add _).trans (Nat.one_mul _)).symm
    | 2 => exact ((Nat.zero_add _).trans (Nat.one_mul _)).symm

theorem vH8_canon (L) (x : Vec Ideal S1x128x512 .bf16) (hx : ∀ i, Small (x i)) (y : S8x64x128.Idx) :
    View.canon (vH8 L x) y = vKeep x y := by
  show View.canon (vH8 [] x ++ L) y = _
  exact View.canon_append_of_piecesOf (vKeep x) L (vH8 [] x)
    (show View.PiecesOf (vKeep x) (vH8 [] x) from ⟨vKeep_piece1 x hx 384 7 rfl _ inb_S8x64x128_S1x64x128_7_0_0, vKeep_piece0 x hx 384 6 rfl _ inb_S8x64x128_S1x64x128_6_0_0, vKeep_piece1 x hx 256 5 rfl _ inb_S8x64x128_S1x64x128_5_0_0, vKeep_piece0 x hx 256 4 rfl _ inb_S8x64x128_S1x64x128_4_0_0, vKeep_piece1 x hx 128 3 rfl _ inb_S8x64x128_S1x64x128_3_0_0, vKeep_piece0 x hx 128 2 rfl _ inb_S8x64x128_S1x64x128_2_0_0, vKeep_piece1 x hx 0 1 rfl _ inb_S8x64x128_S1x64x128_1_0_0, vKeep_piece0 x hx 0 0 rfl _ inb_S8x64x128_S1x64x128_0_0_0, trivial⟩) y
    (View.cover_of_tiledL (vH8 [] x) S1x64x128.size (by rfl) y)

theorem vOwn_apply (x : Vec Ideal S1x128x512 .bf16) (hx : ∀ i, Small (x i)) (g : Fin 8) (c : Fin 64) (t : Fin 128) :
    vOwn x g (ix3 0 c t) = x (ix3 0 t ⟨64 * g.val + c.val, by omega⟩) := by
  have key : ∀ (v : Vec Ideal S1x128x128 .bf16) (o : ℕ) (h), v = ldk x o h → ∀ r : Fin 128, ∀ hr : o + r.val < 512, v (ix3 0 t r) = x (ix3 0 t ⟨o + r.val, hr⟩) :=
    fun v o h hv r hr => by rw [hv, ldk_apply x o h t r hr]
  match g with
  | ⟨0, _⟩ => exact (vHead0_apply (k0 x) (ldk_small x hx 0 _) t c).trans ((key _ 0 _ rfl _ (by first | omega | (dsimp only; omega) | dsimp only)).trans
      (congrArg (fun j => x (ix3 0 t j)) (Fin.ext (by first | omega | (dsimp only; omega) | dsimp only))))
  | ⟨1, _⟩ => exact (vHead1_apply (k0 x) (ldk_small x hx 0 _) t c).trans ((key _ 0 _ rfl _ (by first | omega | (dsimp only; omega) | dsimp only)).trans
      (congrArg (fun j => x (ix3 0 t j)) (Fin.ext (by first | omega | (dsimp only; omega) | dsimp only))))
  | ⟨2, _⟩ => exact (vHead0_apply (k1 x) (ldk_small x hx 128 _) t c).trans ((key _ 128 _ rfl _ (by first | omega | (dsimp only; omega) | dsimp only)).trans
      (congrArg (fun j => x (ix3 0 t j)) (Fin.ext (by first | omega | (dsimp only; omega) | dsimp only))))
  | ⟨3, _⟩ => exact (vHead1_apply (k1 x) (ldk_small x hx 128 _) t c).trans ((key _ 128 _ rfl _ (by first | omega | (dsimp only; omega) | dsimp only)).trans
      (congrArg (fun j => x (ix3 0 t j)) (Fin.ext (by first | omega | (dsimp only; omega) | dsimp only))))
  | ⟨4, _⟩ => exact (vHead0_apply (k2 x) (ldk_small x hx 256 _) t c).trans ((key _ 256 _ rfl _ (by first | omega | (dsimp only; omega) | dsimp only)).trans
      (congrArg (fun j => x (ix3 0 t j)) (Fin.ext (by first | omega | (dsimp only; omega) | dsimp only))))
  | ⟨5, _⟩ => exact (vHead1_apply (k2 x) (ldk_small x hx 256 _) t c).trans ((key _ 256 _ rfl _ (by first | omega | (dsimp only; omega) | dsimp only)).trans
      (congrArg (fun j => x (ix3 0 t j)) (Fin.ext (by first | omega | (dsimp only; omega) | dsimp only))))
  | ⟨6, _⟩ => exact (vHead0_apply (k3 x) (ldk_small x hx 384 _) t c).trans ((key _ 384 _ rfl _ (by first | omega | (dsimp only; omega) | dsimp only)).trans
      (congrArg (fun j => x (ix3 0 t j)) (Fin.ext (by first | omega | (dsimp only; omega) | dsimp only))))
  | ⟨7, _⟩ => exact (vHead1_apply (k3 x) (ldk_small x hx 384 _) t c).trans ((key _ 384 _ rfl _ (by first | omega | (dsimp only; omega) | dsimp only)).trans
      (congrArg (fun j => x (ix3 0 t j)) (Fin.ext (by first | omega | (dsimp only; omega) | dsimp only))))

theorem vPrev_apply (X : Vec Ideal S8x64x128 .bf16) (g : Fin 8) (c : Fin 64) (t : Fin 128) : vPrev X g (ix3 0 c t) = X (ix3 g c t) := by
  have key : ∀ (g : ℕ) (hg : g < 8) (h), View.ld X (Rect.unit (s := S8x64x128) ![g, 0, 0] S1x64x128.size h) (ix3 0 c t) = X (ix3 ⟨g, hg⟩ c t) := fun g hg h => by
    refine congrArg X (funext fun a => Fin.ext ?_)
    match a with
    | 0 => rfl
    | 1 => exact (Nat.zero_add _).trans (Nat.one_mul _)
    | 2 => exact (Nat.zero_add _).trans (Nat.one_mul _)
  match g with
  | ⟨0, _⟩ => exact key 0 _ _
  | ⟨1, _⟩ => exact key 1 _ _
  | ⟨2, _⟩ => exact key 2 _ _
  | ⟨3, _⟩ => exact key 3 _ _
  | ⟨4, _⟩ => exact key 4 _ _
  | ⟨5, _⟩ => exact key 5 _ _
  | ⟨6, _⟩ => exact key 6 _ _
  | ⟨7, _⟩ => exact key 7 _ _

/-! ## The attention output -/

theorem lds_apply (x : Vec Ideal S32 .f32) (o : ℕ) (h) (ho : o < 32) : lds x o h = x (ix1 ⟨o, ho⟩) := by
  refine congrArg x (funext fun a => Fin.ext ?_)
  match a with
  | 0 => rfl

/-- The output of query head `h`, channel `d`, at token `t` of a block: keys and values of the block and of the previous
    one, head by head. -/
def headOut (first : Bool) (x0 : Vec Ideal S32 .f32) (x : Vec Ideal S1x128x2048 .bf16) (KA KB : Fin 8 → Fin 128 → Fin 64 → ℝ)
    (VA VB : Fin 8 → Fin 64 → Fin 128 → ℝ) (g : Fin 8) (h : Fin 32) (d : Fin 64) (t : Fin 128) : EReal :=
  avg (visAt first t) (dots (KA g) (KB g) (fun j => (x (ix3 0 t ⟨64 * h.val + j.val, by omega⟩)).toReal) t)
    (x0 (ix1 h)).toReal (vals (VA g d) (VB g d) t)

/-- The same by channel. -/
def blockOut (first : Bool) (x0 : Vec Ideal S32 .f32) (x : Vec Ideal S1x128x2048 .bf16) (KA KB : Fin 8 → Fin 128 → Fin 64 → ℝ)
    (VA VB : Fin 8 → Fin 64 → Fin 128 → ℝ) (y : S1x128x2048.Idx) : EReal :=
  have h : (y 2).val < 2048 := (y 2).isLt
  headOut first x0 x KA KB VA VB ⟨(y 2).val / 256, by omega⟩ ⟨(y 2).val / 64, by omega⟩ ⟨(y 2).val % 64, by omega⟩ (y 1)

section

variable {first : Bool} {b : EReal} (hb : b = if first then ⊥ else 0) (x0 : Vec Ideal S32 .f32)
  (hx0 : ∀ i, ∃ r : ℝ, x0 i = (r : EReal)) (x : Vec Ideal S1x128x2048 .bf16) (hx : ∀ i, Small (x i))
  (ka kb : Fin 8 → Vec Ideal S1x128x64 .bf16) (va vb : Fin 8 → Vec Ideal S1x64x128 .bf16)
  {KA KB : Fin 8 → Fin 128 → Fin 64 → ℝ} {VA VB : Fin 8 → Fin 64 → Fin 128 → ℝ}
  (hka : ∀ g r j, ka g (ix3 0 r j) = (KA g r j : EReal)) (hkb : first = false → ∀ g r j, kb g (ix3 0 r j) = (KB g r j : EReal))
  (hva : ∀ g d r, va g (ix3 0 d r) = (VA g d r : EReal)) (hvb : first = false → ∀ g d r, vb g (ix3 0 d r) = (VB g d r : EReal))

theorem coe_toReal_of {a : EReal} (h : ∃ r : ℝ, a = (r : EReal)) : a = (a.toReal : EReal) := by
  obtain ⟨r, rfl⟩ := h
  rw [EReal.toReal_coe]

theorem Small.real {a : EReal} (h : Small a) : ∃ r : ℝ, a = (r : EReal) := h.imp fun _ h => h.1

include hb hx0 hx hka hkb hva hvb

theorem outPiece (n : ℕ) (hn : n < 16) (g : Fin 8) (hg : g.val = n / 2) (s0 s1 : EReal) (h0 : s0 = x0 (ix1 ⟨2 * n, by omega⟩))
    (h1 : s1 = x0 (ix1 ⟨2 * n + 1, by omega⟩)) (o : ℕ) (ho : o = 128 * n) (h)
    (h' : ∀ a, (![0, 0, o] : Fin 3 → ℕ) a + S1x128x128.size a ≤ S1x128x2048.size a) (i : S1x128x128.Idx) :
    outSlab b (ldq x o h) (ka g) (kb g) (va g) (vb g) s0 s1 i
      = blockOut first x0 x KA KB VA VB ((Rect.unit (s := S1x128x2048) (![0, 0, o] : Fin 3 → ℕ) S1x128x128.size h').emb i) := by
  subst ho
  have fin : ∀ {m : ℕ} {a b : Fin m}, a.val = b.val → a = b := fun h => Fin.ext h
  have tail : ∀ (e : ℕ) (he : e < 2) (t : Fin 128) (d : Fin 64),
      avg (visAt first t) (dots (KA g) (KB g) (fun j => (ldq x (128 * n) h (ix3 0 t ⟨64 * e + j.val, by omega⟩)).toReal) t)
          (x0 (ix1 ⟨2 * n + e, by omega⟩)).toReal (vals (VA g d) (VB g d) t)
        = blockOut first x0 x KA KB VA VB (ix3 0 t ⟨128 * n + (64 * e + d.val), by omega⟩) := fun e he t d => by
    show _ = headOut first x0 x KA KB VA VB ⟨(128 * n + (64 * e + d.val)) / 256, _⟩ ⟨(128 * n + (64 * e + d.val)) / 64, _⟩
      ⟨(128 * n + (64 * e + d.val)) % 64, _⟩ t
    rw [show (⟨(128 * n + (64 * e + d.val)) / 256, by omega⟩ : Fin 8) = g from fin (by first | omega | (dsimp only; omega) | dsimp only),
      show (⟨(128 * n + (64 * e + d.val)) / 64, by omega⟩ : Fin 32) = ⟨2 * n + e, by omega⟩ from fin (by first | omega | (dsimp only; omega) | dsimp only),
      show (⟨(128 * n + (64 * e + d.val)) % 64, by omega⟩ : Fin 64) = d from fin (by first | omega | (dsimp only; omega) | dsimp only), headOut]
    have hq : (fun j : Fin 64 => (ldq x (128 * n) h (ix3 0 t ⟨64 * e + j.val, by omega⟩)).toReal)
        = fun j => (x (ix3 0 t ⟨64 * (2 * n + e) + j.val, by omega⟩)).toReal := funext fun j => by
      rw [ldq_apply x _ h t _ (by first | omega | (dsimp only; omega) | dsimp only)]
      exact congrArg (fun c => (x (ix3 0 t c)).toReal) (fin (by first | omega | (dsimp only; omega) | dsimp only))
    rw [hq]
  have lo : ∀ (t : Fin 128) (d : Fin 64), outSlab b (ldq x (128 * n) h) (ka g) (kb g) (va g) (vb g) s0 s1 (ix3 0 t ⟨d.val, by omega⟩)
      = blockOut first x0 x KA KB VA VB (ix3 0 t ⟨128 * n + d.val, by omega⟩) := fun t d => by
    refine (outSlab_lo hb _ (ldq_small x hx _ h) (ka g) (kb g) (va g) (vb g) s0 s1 t d (hka g) (fun hf => hkb hf g) (hva g d)
      (fun hf => hvb hf g d) (Q := fun j => (ldq x (128 * n) h (ix3 0 t ⟨64 * 0 + j.val, by omega⟩)).toReal)
      (fun j => (congrArg (fun c => ldq x (128 * n) h (ix3 0 t c)) (fin (by first | omega | (dsimp only; omega) | dsimp only))).trans
        (coe_toReal_of (ldq_small x hx _ h _).real)) (h0.trans (coe_toReal_of (hx0 _)))).trans ?_
    exact (tail 0 (by decide) t d).trans (congrArg (fun c => blockOut first x0 x KA KB VA VB (ix3 0 t c)) (fin (by first | omega | (dsimp only; omega) | dsimp only)))
  have hi : ∀ (t : Fin 128) (d : Fin 64), outSlab b (ldq x (128 * n) h) (ka g) (kb g) (va g) (vb g) s0 s1 (ix3 0 t ⟨64 + d.val, by omega⟩)
      = blockOut first x0 x KA KB VA VB (ix3 0 t ⟨128 * n + (64 + d.val), by omega⟩) := fun t d => by
    refine (outSlab_hi hb _ (ldq_small x hx _ h) (ka g) (kb g) (va g) (vb g) s0 s1 t d (hka g) (fun hf => hkb hf g) (hva g d)
      (fun hf => hvb hf g d) (Q := fun j => (ldq x (128 * n) h (ix3 0 t ⟨64 * 1 + j.val, by omega⟩)).toReal)
      (fun j => (congrArg (fun c => ldq x (128 * n) h (ix3 0 t c)) (fin (by first | omega | (dsimp only; omega) | dsimp only))).trans
        (coe_toReal_of (ldq_small x hx _ h _).real)) (h1.trans (coe_toReal_of (hx0 _)))).trans ?_
    exact (tail 1 (by decide) t d).trans (congrArg (fun c => blockOut first x0 x KA KB VA VB (ix3 0 t c)) (fin (by first | omega | (dsimp only; omega) | dsimp only)))
  have key : ∀ t r : Fin 128, outSlab b (ldq x (128 * n) h) (ka g) (kb g) (va g) (vb g) s0 s1 (ix3 0 t r)
      = blockOut first x0 x KA KB VA VB (ix3 0 t ⟨128 * n + r.val, by omega⟩) := fun t r => by
    rcases Nat.lt_or_ge r.val 64 with hc | hc
    · exact lo t ⟨r.val, hc⟩
    · exact (congrArg (fun r => outSlab b (ldq x (128 * n) h) (ka g) (kb g) (va g) (vb g) s0 s1 (ix3 0 t r)) (fin (by dsimp only; omega))).trans
        ((hi t ⟨r.val - 64, by omega⟩).trans (congrArg (fun c => blockOut first x0 x KA KB VA VB (ix3 0 t c)) (fin (by dsimp only; omega))))
  refine (congrArg (outSlab b (ldq x (128 * n) h) (ka g) (kb g) (va g) (vb g) s0 s1) ?_).trans
    ((key (i 1) (i 2)).trans (congrArg (blockOut first x0 x KA KB VA VB) ?_))
  · funext a
    match a with
    | 0 => exact Fin.ext (Nat.lt_one_iff.1 (i 0).isLt)
    | 1 => rfl
    | 2 => rfl
  · funext a
    apply Fin.ext
    match a with
    | 0 => exact ((Nat.zero_add _).trans ((Nat.one_mul _).trans (Nat.lt_one_iff.1 (i 0).isLt))).symm
    | 1 => exact ((Nat.zero_add _).trans (Nat.one_mul _)).symm
    | 2 => exact (congrArg (128 * n + ·) (Nat.one_mul _)).symm

end

end Cert.Attn

end
-- ==== Proof.OutL.lean ====
/- The attention output of a grid step: its sixteen stored slabs as one array. -/
module

public import proofs.«01_k».proof.Proof.Heads

@[expose] public section

set_option maxRecDepth 16384

noncomputable section

namespace Cert.Attn

open Idealize.ShloMosaic Cert.KernelIdeal Cert.KernelIdeal.Gen

section

variable {first : Bool} {b : EReal} (hb : b = if first then ⊥ else 0) (x0 : Vec Ideal S32 .f32)
  (hx0 : ∀ i, ∃ r : ℝ, x0 i = (r : EReal)) (x : Vec Ideal S1x128x2048 .bf16) (hx : ∀ i, Small (x i))
  (ka kb : Fin 8 → Vec Ideal S1x128x64 .bf16) (va vb : Fin 8 → Vec Ideal S1x64x128 .bf16)
  {KA KB : Fin 8 → Fin 128 → Fin 64 → ℝ} {VA VB : Fin 8 → Fin 64 → Fin 128 → ℝ}
  (hka : ∀ g r j, ka g (ix3 0 r j) = (KA g r j : EReal)) (hkb : first = false → ∀ g r j, kb g (ix3 0 r j) = (KB g r j : EReal))
  (hva : ∀ g d r, va g (ix3 0 d r) = (VA g d r : EReal)) (hvb : first = false → ∀ g d r, vb g (ix3 0 d r) = (VB g d r : EReal))

include hb hx0 hx hka hkb hva hvb

theorem outPiece_0 (i : S1x128x128.Idx) : outSlab b (q0 x) (ka 0) (kb 0) (va 0) (vb 0) (s0 x0) (s1 x0) i
    = blockOut first x0 x KA KB VA VB ((Rect.unit (s := S1x128x2048) ![0, 0, 0] S1x128x128.size inb_S1x128x2048_S1x128x128_0_0_0).emb i) :=
  outPiece hb x0 hx0 x hx ka kb va vb hka hkb hva hvb 0 (by decide) 0 rfl (s0 x0) (s1 x0) (lds_apply x0 0 _ (by decide))
    (lds_apply x0 1 _ (by decide)) 0 rfl _ inb_S1x128x2048_S1x128x128_0_0_0 i

theorem outPiece_1 (i : S1x128x128.Idx) : outSlab b (q1 x) (ka 0) (kb 0) (va 0) (vb 0) (s2 x0) (s3 x0) i
    = blockOut first x0 x KA KB VA VB ((Rect.unit (s := S1x128x2048) ![0, 0, 128] S1x128x128.size inb_S1x128x2048_S1x128x128_0_0_128).emb i) :=
  outPiece hb x0 hx0 x hx ka kb va vb hka hkb hva hvb 1 (by decide) 0 rfl (s2 x0) (s3 x0) (lds_apply x0 2 _ (by decide))
    (lds_apply x0 3 _ (by decide)) 128 rfl _ inb_S1x128x2048_S1x128x128_0_0_128 i

theorem outPiece_2 (i : S1x128x128.Idx) : outSlab b (q2 x) (ka 1) (kb 1) (va 1) (vb 1) (s4 x0) (s5 x0) i
    = blockOut first x0 x KA KB VA VB ((Rect.unit (s := S1x128x2048) ![0, 0, 256] S1x128x128.size inb_S1x128x2048_S1x128x128_0_0_256).emb i) :=
  outPiece hb x0 hx0 x hx ka kb va vb hka hkb hva hvb 2 (by decide) 1 rfl (s4 x0) (s5 x0) (lds_apply x0 4 _ (by decide))
    (lds_apply x0 5 _ (by decide)) 256 rfl _ inb_S1x128x2048_S1x128x128_0_0_256 i

theorem outPiece_3 (i : S1x128x128.Idx) : outSlab b (q3 x) (ka 1) (kb 1) (va 1) (vb 1) (s6 x0) (s7 x0) i
    = blockOut first x0 x KA KB VA VB ((Rect.unit (s := S1x128x2048) ![0, 0, 384] S1x128x128.size inb_S1x128x2048_S1x128x128_0_0_384).emb i) :=
  outPiece hb x0 hx0 x hx ka kb va vb hka hkb hva hvb 3 (by decide) 1 rfl (s6 x0) (s7 x0) (lds_apply x0 6 _ (by decide))
    (lds_apply x0 7 _ (by decide)) 384 rfl _ inb_S1x128x2048_S1x128x128_0_0_384 i

theorem outPiece_4 (i : S1x128x128.Idx) : outSlab b (q4 x) (ka 2) (kb 2) (va 2) (vb 2) (s8 x0) (s9 x0) i
    = blockOut first x0 x KA KB VA VB ((Rect.unit (s := S1x128x2048) ![0, 0, 512] S1x128x128.size inb_S1x128x2048_S1x128x128_0_0_512).emb i) :=
  outPiece hb x0 hx0 x hx ka kb va vb hka hkb hva hvb 4 (by decide) 2 rfl (s8 x0) (s9 x0) (lds_apply x0 8 _ (by decide))
    (lds_apply x0 9 _ (by decide)) 512 rfl _ inb_S1x128x2048_S1x128x128_0_0_512 i

theorem outPiece_5 (i : S1x128x128.Idx) : outSlab b (q5 x) (ka 2) (kb 2) (va 2) (vb 2) (s10 x0) (s11 x0) i
    = blockOut first x0 x KA KB VA VB ((Rect.unit (s := S1x128x2048) ![0, 0, 640] S1x128x128.size inb_S1x128x2048_S1x128x128_0_0_640).emb i) :=
  outPiece hb x0 hx0 x hx ka kb va vb hka hkb hva hvb 5 (by decide) 2 rfl (s10 x0) (s11 x0) (lds_apply x0 10 _ (by decide))
    (lds_apply x0 11 _ (by decide)) 640 rfl _ inb_S1x128x2048_S1x128x128_0_0_640 i

theorem outPiece_6 (i : S1x128x128.Idx) : outSlab b (q6 x) (ka 3) (kb 3) (va 3) (vb 3) (s12 x0) (s13 x0) i
    = blockOut first x0 x KA KB VA VB ((Rect.unit (s := S1x128x2048) ![0, 0, 768] S1x128x128.size inb_S1x128x2048_S1x128x128_0_0_768).emb i) :=
  outPiece hb x0 hx0 x hx ka kb va vb hka hkb hva hvb 6 (by decide) 3 rfl (s12 x0) (s13 x0) (lds_apply x0 12 _ (by decide))
    (lds_apply x0 13 _ (by decide)) 768 rfl _ inb_S1x128x2048_S1x128x128_0_0_768 i

theorem outPiece_7 (i : S1x128x128.Idx) : outSlab b (q7 x) (ka 3) (kb 3) (va 3) (vb 3) (s14 x0) (s15 x0) i
    = blockOut first x0 x KA KB VA VB ((Rect.unit (s := S1x128x2048) ![0, 0, 896] S1x128x128.size inb_S1x128x2048_S1x128x128_0_0_896).emb i) :=
  outPiece hb x0 hx0 x hx ka kb va vb hka hkb hva hvb 7 (by decide) 3 rfl (s14 x0) (s15 x0) (lds_apply x0 14 _ (by decide))
    (lds_apply x0 15 _ (by decide)) 896 rfl _ inb_S1x128x2048_S1x128x128_0_0_896 i

theorem outPiece_8 (i : S1x128x128.Idx) : outSlab b (q8 x) (ka 4) (kb 4) (va 4) (vb 4) (s16 x0) (s17 x0) i
    = blockOut first x0 x KA KB VA VB ((Rect.unit (s := S1x128x2048) ![0, 0, 1024] S1x128x128.size inb_S1x128x2048_S1x128x128_0_0_1024).emb i) :=
  outPiece hb x0 hx0 x hx ka kb va vb hka hkb hva hvb 8 (by decide) 4 rfl (s16 x0) (s17 x0) (lds_apply x0 16 _ (by decide))
    (lds_apply x0 17 _ (by decide)) 1024 rfl _ inb_S1x128x2048_S1x128x128_0_0_1024 i

theorem outPiece_9 (i : S1x128x128.Idx) : outSlab b (q9 x) (ka 4) (kb 4) (va 4) (vb 4) (s18 x0) (s19 x0) i
    = blockOut first x0 x KA KB VA VB ((Rect.unit (s := S1x128x2048) ![0, 0, 1152] S1x128x128.size inb_S1x128x2048_S1x128x128_0_0_1152).emb i) :=
  outPiece hb x0 hx0 x hx ka kb va vb hka hkb hva hvb 9 (by decide) 4 rfl (s18 x0) (s19 x0) (lds_apply x0 18 _ (by decide))
    (lds_apply x0 19 _ (by decide)) 1152 rfl _ inb_S1x128x2048_S1x128x128_0_0_1152 i

theorem outPiece_10 (i : S1x128x128.Idx) : outSlab b (q10 x) (ka 5) (kb 5) (va 5) (vb 5) (s20 x0) (s21 x0) i
    = blockOut first x0 x KA KB VA VB ((Rect.unit (s := S1x128x2048) ![0, 0, 1280] S1x128x128.size inb_S1x128x2048_S1x128x128_0_0_1280).emb i) :=
  outPiece hb x0 hx0 x hx ka kb va vb hka hkb hva hvb 10 (by decide) 5 rfl (s20 x0) (s21 x0) (lds_apply x0 20 _ (by decide))
    (lds_apply x0 21 _ (by decide)) 1280 rfl _ inb_S1x128x2048_S1x128x128_0_0_1280 i

theorem outPiece_11 (i : S1x128x128.Idx) : outSlab b (q11 x) (ka 5) (kb 5) (va 5) (vb 5) (s22 x0) (s23 x0) i
    = blockOut first x0 x KA KB VA VB ((Rect.unit (s := S1x128x2048) ![0, 0, 1408] S1x128x128.size inb_S1x128x2048_S1x128x128_0_0_1408).emb i) :=
  outPiece hb x0 hx0 x hx ka kb va vb hka hkb hva hvb 11 (by decide) 5 rfl (s22 x0) (s23 x0) (lds_apply x0 22 _ (by decide))
    (lds_apply x0 23 _ (by decide)) 1408 rfl _ inb_S1x128x2048_S1x128x128_0_0_1408 i

theorem outPiece_12 (i : S1x128x128.Idx) : outSlab b (q12 x) (ka 6) (kb 6) (va 6) (vb 6) (s24 x0) (s25 x0) i
    = blockOut first x0 x KA KB VA VB ((Rect.unit (s := S1x128x2048) ![0, 0, 1536] S1x128x128.size inb_S1x128x2048_S1x128x128_0_0_1536).emb i) :=
  outPiece hb x0 hx0 x hx ka kb va vb hka hkb hva hvb 12 (by decide) 6 rfl (s24 x0) (s25 x0) (lds_apply x0 24 _ (by decide))
    (lds_apply x0 25 _ (by decide)) 1536 rfl _ inb_S1x128x2048_S1x128x128_0_0_1536 i

theorem outPiece_13 (i : S1x128x128.Idx) : outSlab b (q13 x) (ka 6) (kb 6) (va 6) (vb 6) (s26 x0) (s27 x0) i
    = blockOut first x0 x KA KB VA VB ((Rect.unit (s := S1x128x2048) ![0, 0, 1664] S1x128x128.size inb_S1x128x2048_S1x128x128_0_0_1664).emb i) :=
  outPiece hb x0 hx0 x hx ka kb va vb hka hkb hva hvb 13 (by decide) 6 rfl (s26 x0) (s27 x0) (lds_apply x0 26 _ (by decide))
    (lds_apply x0 27 _ (by decide)) 1664 rfl _ inb_S1x128x2048_S1x128x128_0_0_1664 i

theorem outPiece_14 (i : S1x128x128.Idx) : outSlab b (q14 x) (ka 7) (kb 7) (va 7) (vb 7) (s28 x0) (s29 x0) i
    = blockOut first x0 x KA KB VA VB ((Rect.unit (s := S1x128x2048) ![0, 0, 1792] S1x128x128.size inb_S1x128x2048_S1x128x128_0_0_1792).emb i) :=
  outPiece hb x0 hx0 x hx ka kb va vb hka hkb hva hvb 14 (by decide) 7 rfl (s28 x0) (s29 x0) (lds_apply x0 28 _ (by decide))
    (lds_apply x0 29 _ (by decide)) 1792 rfl _ inb_S1x128x2048_S1x128x128_0_0_1792 i

theorem outPiece_15 (i : S1x128x128.Idx) : outSlab b (q15 x) (ka 7) (kb 7) (va 7) (vb 7) (s30 x0) (s31 x0) i
    = blockOut first x0 x KA KB VA VB ((Rect.unit (s := S1x128x2048) ![0, 0, 1920] S1x128x128.size inb_S1x128x2048_S1x128x128_0_0_1920).emb i) :=
  outPiece hb x0 hx0 x hx ka kb va vb hka hkb hva hvb 15 (by decide) 7 rfl (s30 x0) (s31 x0) (lds_apply x0 30 _ (by decide))
    (lds_apply x0 31 _ (by decide)) 1920 rfl _ inb_S1x128x2048_S1x128x128_0_0_1920 i

theorem outL_pieces : View.PiecesOf (blockOut first x0 x KA KB VA VB) (outL b x0 x ka kb va vb) :=
  ⟨outPiece_15 hb x0 hx0 x hx ka kb va vb hka hkb hva hvb,
    outPiece_14 hb x0 hx0 x hx ka kb va vb hka hkb hva hvb,
    outPiece_13 hb x0 hx0 x hx ka kb va vb hka hkb hva hvb,
    outPiece_12 hb x0 hx0 x hx ka kb va vb hka hkb hva hvb,
    outPiece_11 hb x0 hx0 x hx ka kb va vb hka hkb hva hvb,
    outPiece_10 hb x0 hx0 x hx ka kb va vb hka hkb hva hvb,
    outPiece_9 hb x0 hx0 x hx ka kb va vb hka hkb hva hvb,
    outPiece_8 hb x0 hx0 x hx ka kb va vb hka hkb hva hvb,
    outPiece_7 hb x0 hx0 x hx ka kb va vb hka hkb hva hvb,
    outPiece_6 hb x0 hx0 x hx ka kb va vb hka hkb hva hvb,
    outPiece_5 hb x0 hx0 x hx ka kb va vb hka hkb hva hvb,
    outPiece_4 hb x0 hx0 x hx ka kb va vb hka hkb hva hvb,
    outPiece_3 hb x0 hx0 x hx ka kb va vb hka hkb hva hvb,
    outPiece_2 hb x0 hx0 x hx ka kb va vb hka hkb hva hvb,
    outPiece_1 hb x0 hx0 x hx ka kb va vb hka hkb hva hvb,
    outPiece_0 hb x0 hx0 x hx ka kb va vb hka hkb hva hvb, trivial⟩

omit hb hx0 hx hka hkb hva hvb in
theorem outL_cover (y : S1x128x2048.Idx) : ∃ pc ∈ outL (F := Ideal) b x0 x ka kb va vb, y ∈ pc.1.set :=
  View.cover_of_tiledL (outL (F := Ideal) b x0 x ka kb va vb) S1x128x128.size (by sl_kernel_rfl) y

theorem outL_canon (y : S1x128x2048.Idx) :
    View.canon (outL (F := Ideal) b x0 x ka kb va vb) y = blockOut first x0 x KA KB VA VB y :=
  View.canon_apply_of_pieces (blockOut first x0 x KA KB VA VB) (outL (F := Ideal) b x0 x ka kb va vb)
    (View.PiecesOf.mem (outL_pieces hb x0 hx0 x hx ka kb va vb hka hkb hva hvb)) y
    (outL_cover x0 x ka kb va vb y)

end

end Cert.Attn

end
-- ==== Proof.Steps.lean ====
/- What each grid step leaves, as a function of the step's input blocks: the values of the seven output blocks and of the
   keys and values carried to the next step. -/
module

public import proofs.«01_k».proof.Proof.LeftA
public import proofs.«01_k».proof.Proof.LeftB
public import proofs.«01_k».proof.Proof.OutL

@[expose] public section

set_option maxRecDepth 16384

noncomputable section

namespace Cert.Attn

open Idealize.ShloMosaic Idealize.ShloMosaic.TcCoe Cert.KernelIdeal Cert.KernelIdeal.Gen

/-- The stored exponent bytes of a query block. -/
def qBytes (x : Vec Ideal S1x128x2048 .bf16) (y : S1x2x32x128.Idx) : BitVec 8 :=
  have h1 : (y 1).val < 2 := (y 1).isLt
  have h2 : (y 2).val < 32 := (y 2).isLt
  (biased (rep (qRow x (y 3) ⟨64 * (y 2).val + 32 * (y 1).val, by omega⟩))).setWidth 8

/-- The stored exponent bytes of a key or value block. -/
def kBytes (x : Vec Ideal S1x128x512 .bf16) (y : S1x2x8x128.Idx) : BitVec 8 :=
  have h1 : (y 1).val < 2 := (y 1).isLt
  have h2 : (y 2).val < 8 := (y 2).isLt
  (biased (rep (kRow x (y 3) ⟨64 * (y 2).val + 32 * (y 1).val, by omega⟩))).setWidth 8

theorem qBytes_apply (x : Vec Ideal S1x128x2048 .bf16) (y : S1x2x32x128.Idx) (h : Fin 32) (t : Fin 128) (c : Fin 2048)
    (h3 : (y 3).val = t.val) (hc : c.val = 64 * (y 2).val + 32 * (y 1).val) :
    qBytes x y = (biased (rep (qRow x t c))).setWidth 8 := by
  obtain rfl : y 3 = t := Fin.ext h3
  exact congrArg (fun c => (biased (rep (qRow x (y 3) c))).setWidth 8) (Fin.ext hc.symm)

theorem kBytes_apply (x : Vec Ideal S1x128x512 .bf16) (y : S1x2x8x128.Idx) (h : Fin 8) (t : Fin 128) (c : Fin 512)
    (h3 : (y 3).val = t.val) (hc : c.val = 64 * (y 2).val + 32 * (y 1).val) :
    kBytes x y = (biased (rep (kRow x t c))).setWidth 8 := by
  obtain rfl : y 3 = t := Fin.ext h3
  exact congrArg (fun c => (biased (rep (kRow x (y 3) c))).setWidth 8) (Fin.ext hc.symm)

theorem qsL_canon (x : Vec Ideal S1x128x2048 .bf16) (hx : ∀ i, Small (x i)) (y : S1x2x32x128.Idx) :
    View.canon (qsL x) y = qBytes x y := by
  refine View.canon_apply_of_pieces (qBytes x) (qsL x) (View.PiecesOf.mem (show View.PiecesOf (qBytes x) (qsL x) from
    ⟨fun i => ?_, fun i => ?_, trivial⟩)) y (View.cover_of_tiledL (qsL x) S1x1x32x128.size (by sl_kernel_rfl) y)
  · obtain ⟨a, b, h, t, rfl⟩ : ∃ (a : Fin 1) (b : Fin 1) (h : Fin 32) (t : Fin 128), i = ix4 a b h t := ⟨_, _, _, _, eq_ix4 i⟩
    obtain rfl := Subsingleton.elim a 0
    obtain rfl := Subsingleton.elim b 0
    refine (qsB1_apply x hx h t).trans (qBytes_apply x _ h t _ ?_ ?_).symm
    · show 0 + 1 * t.val = t.val
      omega
    · show _ = 64 * (0 + 1 * h.val) + 32 * (1 + 1 * 0)
      dsimp only
      omega
  · obtain ⟨a, b, h, t, rfl⟩ : ∃ (a : Fin 1) (b : Fin 1) (h : Fin 32) (t : Fin 128), i = ix4 a b h t := ⟨_, _, _, _, eq_ix4 i⟩
    obtain rfl := Subsingleton.elim a 0
    obtain rfl := Subsingleton.elim b 0
    refine (qsB0_apply x hx h t).trans (qBytes_apply x _ h t _ ?_ ?_).symm
    · show 0 + 1 * t.val = t.val
      omega
    · show _ = 64 * (0 + 1 * h.val) + 32 * (0 + 1 * 0)
      dsimp only
      omega

theorem ksL_canon (x : Vec Ideal S1x128x512 .bf16) (hx : ∀ i, Small (x i)) (y : S1x2x8x128.Idx) :
    View.canon (ksL x) y = kBytes x y := by
  refine View.canon_apply_of_pieces (kBytes x) (ksL x) (View.PiecesOf.mem (show View.PiecesOf (kBytes x) (ksL x) from
    ⟨fun i => ?_, fun i => ?_, trivial⟩)) y (View.cover_of_tiledL (ksL x) S1x1x8x128.size (by sl_kernel_rfl) y)
  · obtain ⟨a, b, h, t, rfl⟩ : ∃ (a : Fin 1) (b : Fin 1) (h : Fin 8) (t : Fin 128), i = ix4 a b h t := ⟨_, _, _, _, eq_ix4 i⟩
    obtain rfl := Subsingleton.elim a 0
    obtain rfl := Subsingleton.elim b 0
    refine (ksB1_apply x hx h t).trans (kBytes_apply x _ h t _ ?_ ?_).symm
    · show 0 + 1 * t.val = t.val
      omega
    · show _ = 64 * (0 + 1 * h.val) + 32 * (1 + 1 * 0)
      dsimp only
      omega
  · obtain ⟨a, b, h, t, rfl⟩ : ∃ (a : Fin 1) (b : Fin 1) (h : Fin 8) (t : Fin 128), i = ix4 a b h t := ⟨_, _, _, _, eq_ix4 i⟩
    obtain rfl := Subsingleton.elim a 0
    obtain rfl := Subsingleton.elim b 0
    refine (ksB0_apply x hx h t).trans (kBytes_apply x _ h t _ ?_ ?_).symm
    · show 0 + 1 * t.val = t.val
      omega
    · show _ = 64 * (0 + 1 * h.val) + 32 * (0 + 1 * 0)
      dsimp only
      omega

/-- The mask term of the previous block's rows: bottom at a batch's first block. -/
theorem pay7_apply (t : Fin cfg0.N) : k0_pay7 (F := Ideal) (grid0.coords t) = if decide (t.val % 5 = 0) then (⊥ : EReal) else 0 := by
  have h : ∀ t : Fin grid0.N, IntOp.cmpi CmpIPredicate.eq (BitVec.ofNat 32 (grid0.coords t 1).val) (0#32)
      = BitVec.ofBool (decide (t.val % 5 = 0)) := by decide +kernel
  have hz : Ideal.ofBits .f32 0x00000000#32 = (0 : EReal) := by simp [Ideal.ofBits, Ideal.ieee, -EReal.coe_mul]
  have e : k0_pay7 (F := Ideal) (grid0.coords t) = Scalar.select (BitVec.ofBool (decide (t.val % 5 = 0))) (⊥ : EReal) (0 : EReal) := by
    rw [← h t, ← hz]
    rfl
  rw [e]
  by_cases h5 : t.val % 5 = 0 <;> simp [h5, Scalar.select]

/-- A block's keys (or values) as real numbers, head by head. -/
def keyAt (x : Vec Ideal S1x128x512 .bf16) (g : Fin 8) (r : Fin 128) (j : Fin 64) : ℝ :=
  (x (ix3 0 r ⟨64 * g.val + j.val, by omega⟩)).toReal

section

variable (m : (ℓ : Loc nD τ sig) → Buf (Elt Ideal) ℓ) (c : Dev nD)

theorem step_5 (t : Fin cfg0.N) (hx : ∀ i, Small ((iblk m c 1 t : Vec Ideal S1x128x2048 .bf16) i)) (y : S1x2048x128.Idx) :
    (outsAt0 m c t.val t.isLt).2.1 y = qCodes (iblk m c 1 t) y := by
  rw [← qcL_canon _ hx]
  refine congrFun ?_ y
  by_cases h0 : t.val % 15 = 0
  · rw [outsAt0_A m c t h0]
    dsimp only
    rw [leftA_5]
  · rw [outsAt0_B m c t h0]
    dsimp only
    rw [leftB_5]

theorem step_6 (t : Fin cfg0.N) (hx : ∀ i, Small ((iblk m c 1 t : Vec Ideal S1x128x2048 .bf16) i)) (y : S1x2x32x128.Idx) :
    (outsAt0 m c t.val t.isLt).2.2.1 y = qBytes (iblk m c 1 t) y := by
  rw [← qsL_canon _ hx]
  refine congrFun ?_ y
  by_cases h0 : t.val % 15 = 0
  · rw [outsAt0_A m c t h0]
    dsimp only
    rw [leftA_6]
  · rw [outsAt0_B m c t h0]
    dsimp only
    rw [leftB_6]

theorem step_7 (t : Fin cfg0.N) (hx : ∀ i, Small ((iblk m c 2 t : Vec Ideal S1x128x512 .bf16) i)) (y : S1x512x128.Idx) :
    (outsAt0 m c t.val t.isLt).2.2.2.1 y = kCodes (iblk m c 2 t) y := by
  rw [← kcL_canon _ hx]
  refine congrFun ?_ y
  by_cases h0 : t.val % 15 = 0
  · rw [outsAt0_A m c t h0]
    dsimp only
    rw [leftA_7]
  · rw [outsAt0_B m c t h0]
    dsimp only
    rw [leftB_7]

theorem step_8 (t : Fin cfg0.N) (hx : ∀ i, Small ((iblk m c 2 t : Vec Ideal S1x128x512 .bf16) i)) (y : S1x2x8x128.Idx) :
    (outsAt0 m c t.val t.isLt).2.2.2.2.1 y = kBytes (iblk m c 2 t) y := by
  rw [← ksL_canon _ hx]
  refine congrFun ?_ y
  by_cases h0 : t.val % 15 = 0
  · rw [outsAt0_A m c t h0]
    dsimp only
    rw [leftA_8]
  · rw [outsAt0_B m c t h0]
    dsimp only
    rw [leftB_8]

theorem step_9 (t : Fin cfg0.N) (hx : ∀ i, Small ((iblk m c 3 t : Vec Ideal S1x128x512 .bf16) i)) (y : S1x512x128.Idx) :
    (outsAt0 m c t.val t.isLt).2.2.2.2.2.1 y = kCodes (iblk m c 3 t) y := by
  rw [← kcL_canon _ hx]
  refine congrFun ?_ y
  by_cases h0 : t.val % 15 = 0
  · rw [outsAt0_A m c t h0]
    dsimp only
    rw [leftA_9]
  · rw [outsAt0_B m c t h0]
    dsimp only
    rw [leftB_9]

theorem step_10 (t : Fin cfg0.N) (hx : ∀ i, Small ((iblk m c 3 t : Vec Ideal S1x128x512 .bf16) i)) (y : S1x2x8x128.Idx) :
    (outsAt0 m c t.val t.isLt).2.2.2.2.2.2.1 y = kBytes (iblk m c 3 t) y := by
  rw [← ksL_canon _ hx]
  refine congrFun ?_ y
  by_cases h0 : t.val % 15 = 0
  · rw [outsAt0_A m c t h0]
    dsimp only
    rw [leftA_10]
  · rw [outsAt0_B m c t h0]
    dsimp only
    rw [leftB_10]

/-- The keys a step carries to the next one. -/
theorem step_11 (t : Fin cfg0.N) (hx : ∀ i, Small ((iblk m c 2 t : Vec Ideal S1x128x512 .bf16) i)) (y : S8x128x64.Idx) :
    (outsAt0 m c t.val t.isLt).2.2.2.2.2.2.2.1 y = kKeep (iblk m c 2 t) y := by
  by_cases h0 : t.val % 15 = 0
  · rw [outsAt0_A m c t h0]
    dsimp only
    rw [leftA_11]
    exact kH8_canon _ _ hx y
  · rw [outsAt0_B m c t h0]
    dsimp only
    rw [leftB_11]
    exact kH8_canon _ _ hx y

/-- The values a step carries to the next one. -/
theorem step_12 (t : Fin cfg0.N) (hx : ∀ i, Small ((iblk m c 3 t : Vec Ideal S1x128x512 .bf16) i)) (y : S8x64x128.Idx) :
    (outsAt0 m c t.val t.isLt).2.2.2.2.2.2.2.2 y = vKeep (iblk m c 3 t) y := by
  by_cases h0 : t.val % 15 = 0
  · rw [outsAt0_A m c t h0]
    dsimp only
    rw [leftA_12]
    exact vH8_canon _ _ hx y
  · rw [outsAt0_B m c t h0]
    dsimp only
    rw [leftB_12]
    exact vH8_canon _ _ hx y

/-- The point before a point. -/
def before (t : Fin cfg0.N) : Fin cfg0.N := ⟨t.val - 1, Nat.lt_of_le_of_lt (Nat.sub_le _ _) t.isLt⟩

theorem step_4 (h0 : ∀ t i, ∃ r : ℝ, (iblk m c 0 t : Vec Ideal S32 .f32) i = (r : EReal))
    (h1 : ∀ t i, Small ((iblk m c 1 t : Vec Ideal S1x128x2048 .bf16) i))
    (h2 : ∀ t i, Small ((iblk m c 2 t : Vec Ideal S1x128x512 .bf16) i))
    (h3 : ∀ t i, Small ((iblk m c 3 t : Vec Ideal S1x128x512 .bf16) i)) (t : Fin cfg0.N) (y : S1x128x2048.Idx) :
    (outsAt0 m c t.val t.isLt).1 y = blockOut (decide (t.val % 5 = 0)) (iblk m c 0 t) (iblk m c 1 t)
      (keyAt (iblk m c 2 t)) (keyAt (iblk m c 2 (before t))) (fun g d r => keyAt (iblk m c 3 t) g r d)
      (fun g d r => keyAt (iblk m c 3 (before t)) g r d) y := by
  have hka : ∀ (g : Fin 8) (r : Fin 128) (j : Fin 64), kOwn (F := Ideal) (iblk m c 2 t) g (ix3 0 r j) = (keyAt (iblk m c 2 t) g r j : EReal) :=
    fun g r j => (kOwn_apply _ (h2 t) g r j).trans (coe_toReal_of (h2 t _).real)
  have hva : ∀ (g : Fin 8) (d : Fin 64) (r : Fin 128), vOwn (F := Ideal) (iblk m c 3 t) g (ix3 0 d r) = (keyAt (iblk m c 3 t) g r d : EReal) :=
    fun g d r => (vOwn_apply _ (h3 t) g d r).trans (coe_toReal_of (h3 t _).real)
  by_cases hA : t.val % 15 = 0
  · have h5 : decide (t.val % 5 = 0) = true := decide_eq_true (by omega)
    rw [outsAt0_A m c t hA]
    dsimp only
    rw [leftA_4]
    exact outL_canon (pay7_apply t) _ (h0 t) _ (h1 t) _ _ _ _ hka (fun h => absurd (h5.symm.trans h) (by decide)) hva
      (fun h => absurd (h5.symm.trans h) (by decide)) y
  · rw [outsAt0_B m c t hA]
    dsimp only
    rw [leftB_4]
    exact outL_canon (pay7_apply t) _ (h0 t) _ (h1 t) _ _ _ _ hka
      (fun _ g r j => (kPrev_apply _ g r j).trans ((step_11 m c (before t) (h2 _) _).trans (coe_toReal_of (h2 (before t) _).real))) hva
      (fun _ g d r => (vPrev_apply _ g d r).trans ((step_12 m c (before t) (h3 _) _).trans (coe_toReal_of (h3 (before t) _).real))) y

end

end Cert.Attn

end
-- ==== Proof.RefSoftmax.lean ====
/- The reference's way to the weighted mean of `Softmax`: a window of 256 keys of which the query sees at most 128, the
   weights scaled by a power of two, clipped, and scaled back after the sum. -/
module

public import proofs.«01_k».proof.Proof.Softmax

@[expose] public section

noncomputable section

namespace Cert.Attn

open Idealize.ShloMosaic

/-- A sum whose terms vanish off the image of an injection. -/
theorem sum_image {n m : ℕ} (e : Fin n → Fin m) (he : Function.Injective e) (g : Fin m → EReal)
    (hg : ∀ j, (∀ r, e r ≠ j) → g j = 0) : ∑ j, g j = ∑ r, g (e r) := by
  classical
  rw [← Finset.sum_image (s := Finset.univ) (g := e) (f := g) (fun a _ b _ h => he h)]
  refine (Finset.sum_subset (Finset.subset_univ _) fun j _ hj => hg j fun r hr => hj ?_).symm
  exact Finset.mem_image.2 ⟨r, Finset.mem_univ _, hr⟩

/-- How the 256 rows of the reference's window show the 128 rows of `Softmax`. -/
structure Shows (vis : Fin 128 → Bool) (S : Fin 128 → ℝ) (seen2 : Fin 256 → Bool) (sc : Fin 256 → EReal)
    (e : Fin 128 → Fin 256) : Prop where
  inj : Function.Injective e
  off : ∀ j, (∀ r, e r ≠ j) → seen2 j = false
  on : ∀ r, seen2 (e r) = vis r
  score : ∀ r, vis r = true → sc (e r) = ((S r / 8 : ℝ) : EReal)
  some : ∃ r, vis r = true

variable {vis : Fin 128 → Bool} {S : Fin 128 → ℝ} {k : ℝ} {seen2 : Fin 256 → Bool} {sc : Fin 256 → EReal}
  {e : Fin 128 → Fin 256}

/-- A visible row of the wide window is one of the narrow window's. -/
theorem Shows.row (h : Shows vis S seen2 sc e) {j : Fin 256} (hj : seen2 j = true) : ∃ r, e r = j ∧ vis r = true := by
  by_contra hc
  have : ∀ r, e r ≠ j := by
    intro r hr
    exact hc ⟨r, hr, by rw [← h.on, hr, hj]⟩
  rw [h.off j this] at hj
  exact absurd hj (by decide)

theorem Shows.max (h : Shows vis S seen2 sc e) :
    max (Finset.univ.fold max ⊥ fun j => if seen2 j then sc j else ⊥) (k : EReal) = (mx vis S k : EReal) := by
  obtain ⟨-, hle, r0, hr0, e0⟩ := top_spec (S := S) h.some
  rw [fold_max_eq _ ((top vis S / 8 : ℝ) : EReal), mx, EReal.coe_strictMono.monotone.map_max]
  · intro j
    by_cases hj : seen2 j = true
    · obtain ⟨r, rfl, hr⟩ := h.row hj
      rw [if_pos hj, h.score r hr, EReal.coe_le_coe_iff]
      have := hle r hr
      linarith
    · rw [if_neg hj]
      exact bot_le
  · refine ⟨e r0, ?_⟩
    rw [if_pos ((h.on r0).trans hr0), h.score r0 hr0, e0]

/-- A window row's weight in the reference. -/
def wt2 (seen2 : Fin 256 → Bool) (sc : Fin 256 → EReal) (m : ℝ) (j : Fin 256) : EReal :=
  if seen2 j then Ideal.exp (sc j - (m : EReal)) else 0

theorem exp_coe (x : ℝ) : Ideal.exp ((x : ℝ) : EReal) = ((Real.exp x : ℝ) : EReal) := rfl

theorem Shows.wt_on (h : Shows vis S seen2 sc e) (r : Fin 128) :
    wt2 seen2 sc (mx vis S k) (e r) = (wt vis S k r : EReal) := by
  unfold wt2 wt
  rw [h.on]
  by_cases hr : vis r = true
  · rw [if_pos hr, if_pos hr, h.score r hr, ← EReal.coe_sub, exp_coe]
  · rw [if_neg hr, if_neg hr, EReal.coe_zero]

theorem Shows.wt_off (h : Shows vis S seen2 sc e) (m : ℝ) (j : Fin 256) (hj : ∀ r, e r ≠ j) : wt2 seen2 sc m j = 0 := by
  rw [wt2, h.off j hj]
  rfl

theorem Shows.wt_eq (h : Shows vis S seen2 sc e) (j : Fin 256) :
    ∃ w : ℝ, wt2 seen2 sc (mx vis S k) j = (w : EReal) ∧ 0 ≤ w ∧ w ≤ Real.exp (top vis S / 8 - mx vis S k)
      ∧ w * (2 : ℝ) ^ (-expo (lead vis S k)) < 448 := by
  by_cases hj : ∃ r, e r = j
  · obtain ⟨r, rfl⟩ := hj
    refine ⟨_, h.wt_on r, wt_nonneg r, ?_, wt_lt h.some r⟩
    unfold wt
    split_ifs with hr
    · have := (top_spec (S := S) h.some).2.1 r hr
      exact Real.exp_le_exp.2 (by linarith)
    · exact (Real.exp_pos _).le
  · refine ⟨0, by rw [h.wt_off _ j (not_exists.1 hj), EReal.coe_zero], le_rfl, (Real.exp_pos _).le, by norm_num⟩

theorem Shows.peak (h : Shows vis S seen2 sc e) :
    (Finset.univ.fold Max.max ⊥ fun j => Max.max (wt2 seen2 sc (mx vis S k) j) (-wt2 seen2 sc (mx vis S k) j)) * (recip : EReal)
      = (lead vis S k : EReal) := by
  have habs : ∀ w : ℝ, 0 ≤ w → Max.max (w : EReal) (-(w : EReal)) = (w : EReal) := fun w hw => by
    rw [← EReal.coe_neg]
    exact max_eq_left (EReal.coe_le_coe_iff.2 (by linarith))
  rw [fold_max_eq _ ((Real.exp (top vis S / 8 - mx vis S k) : ℝ) : EReal), ← EReal.coe_mul, lead]
  · intro j
    obtain ⟨w, hw, h0, h1, -⟩ := h.wt_eq (k := k) j
    rw [hw, habs w h0]
    exact EReal.coe_le_coe_iff.2 h1
  · obtain ⟨-, -, r0, hr0, e0⟩ := top_spec (S := S) h.some
    refine ⟨e r0, ?_⟩
    rw [h.wt_on r0, habs _ (wt_nonneg r0), wt, if_pos hr0, e0]

theorem Shows.tot (h : Shows vis S seen2 sc e) :
    (∑ j, wt2 seen2 sc (mx vis S k) j) + Ideal.exp ((k : EReal) - (mx vis S k : EReal)) = (tot vis S k : EReal) := by
  rw [sum_image e h.inj _ (h.wt_off _), Finset.sum_congr rfl fun r _ => h.wt_on r, ← coe_sum, ← EReal.coe_sub, exp_coe,
    ← EReal.coe_add]
  rfl

/-- The reference's output: clipped scaled weights against values, the scale and the sum's reciprocal after. -/
theorem Shows.avg (h : Shows vis S seen2 sc e) (v2 : Fin 256 → EReal) (v : Fin 128 → ℝ)
    (hv : ∀ r, vis r = true → v2 (e r) = (v r : EReal)) :
    (∑ j, v2 j * min ((448 : ℝ) : EReal) (Max.max ((-448 : ℝ) : EReal)
      (wt2 seen2 sc (mx vis S k) j * (((2 : ℝ) ^ (-expo (lead vis S k)) : ℝ) : EReal))))
      * ((((2 : ℝ) ^ expo (lead vis S k) : ℝ) : EReal) * Ideal.div 1 (Attn.tot vis S k : EReal))
      = (Attn.avg vis S k v : EReal) := by
  have hp : (0 : ℝ) < (2 : ℝ) ^ (-expo (lead vis S k)) := by positivity
  have ht := tot_pos (vis := vis) (S := S) (k := k)
  have hclip : ∀ j, min ((448 : ℝ) : EReal) (Max.max ((-448 : ℝ) : EReal)
      (wt2 seen2 sc (mx vis S k) j * (((2 : ℝ) ^ (-expo (lead vis S k)) : ℝ) : EReal)))
      = wt2 seen2 sc (mx vis S k) j * (((2 : ℝ) ^ (-expo (lead vis S k)) : ℝ) : EReal) := by
    intro j
    obtain ⟨w, hw, h0, -, h2⟩ := h.wt_eq (k := k) j
    have h3 : 0 ≤ w * (2 : ℝ) ^ (-expo (lead vis S k)) := mul_nonneg h0 hp.le
    rw [hw, ← EReal.coe_mul, max_eq_right (EReal.coe_le_coe_iff.2 (by linarith)),
      min_eq_right (EReal.coe_le_coe_iff.2 h2.le)]
  simp only [hclip]
  rw [sum_image e h.inj _ fun j hj => by rw [h.wt_off _ j hj, zero_mul, mul_zero]]
  have hterm : ∀ r, v2 (e r) * (wt2 seen2 sc (mx vis S k) (e r) * (((2 : ℝ) ^ (-expo (lead vis S k)) : ℝ) : EReal))
      = ((v r * wt vis S k r * (2 : ℝ) ^ (-expo (lead vis S k)) : ℝ) : EReal) := by
    intro r
    rw [h.wt_on r]
    by_cases hr : vis r = true
    · rw [hv r hr, ← EReal.coe_mul, ← EReal.coe_mul, mul_assoc]
    · have : wt vis S k r = 0 := by rw [wt, if_neg hr]
      rw [this, EReal.coe_zero, zero_mul, mul_zero, mul_zero, zero_mul, EReal.coe_zero]
  rw [Finset.sum_congr rfl fun r _ => hterm r, ← coe_sum, div_coe_one ht, ← EReal.coe_mul, ← EReal.coe_mul, Attn.avg]
  congr 1
  rw [← Finset.sum_mul, zpow_neg]
  field_simp

end Cert.Attn

end
-- ==== Proof.Target.lean ====
/- What both programs compute, in plain mathematics: codes, scale bytes and the attention output. -/
module

public import proofs.«01_k».proof.Proof.RefSoftmax
public import proofs.«01_k».proof.Proof.Attn
public import Idealize.ShloMosaic.Lib.ValueIdx

@[expose] public section

noncomputable section

namespace Cert.Attn

open Idealize.ShloMosaic

/-- The query array, 3 batches of 640 tokens by 2048 channels. -/
abbrev QArr := FVec Ideal ⟨3, ![3, 640, 2048]⟩ .bf16

/-- The key or value array, 512 channels. -/
abbrev KArr := FVec Ideal ⟨3, ![3, 640, 512]⟩ .bf16

/-- Block `g` of 32 channels of a token. -/
def rowQ (X : QArr) (b : Fin 3) (s : Fin 640) (g : Fin 64) (k : Fin 32) : EReal := X (ix3 b s ⟨32 * g.val + k.val, by omega⟩)

/-- A code: the element over its block's scale. -/
def codeQ (X : QArr) (b : Fin 3) (s : Fin 640) (c : Fin 2048) : EReal :=
  X (ix3 b s c) * (((gain (rowQ X b s ⟨c.val / 32, by omega⟩))⁻¹ : ℝ) : EReal)

/-- A scale byte: the biased exponent of its block's scale. -/
def byteQ (X : QArr) (b : Fin 3) (s : Fin 640) (g : Fin 64) : BitVec 8 := (biased (rep (rowQ X b s g))).setWidth 8

/-- Block `g` of 32 channels of a token's keys or values. -/
def rowK (X : KArr) (b : Fin 3) (s : Fin 640) (g : Fin 16) (k : Fin 32) : EReal := X (ix3 b s ⟨32 * g.val + k.val, by omega⟩)

/-- A code of the keys or values. -/
def codeK (X : KArr) (b : Fin 3) (s : Fin 640) (c : Fin 512) : EReal :=
  X (ix3 b s c) * (((gain (rowK X b s ⟨c.val / 32, by omega⟩))⁻¹ : ℝ) : EReal)

/-- A scale byte of the keys or values. -/
def byteK (X : KArr) (b : Fin 3) (s : Fin 640) (g : Fin 16) : BitVec 8 := (biased (rep (rowK X b s g))).setWidth 8

/-- Row `r` of a block's own keys or values. -/
def ownRow (K : KArr) (b : Fin 3) (n : Fin 5) (g : Fin 8) (r : Fin 128) (j : Fin 64) : ℝ :=
  (K (ix3 b ⟨128 * n.val + r.val, by omega⟩ ⟨64 * g.val + j.val, by omega⟩)).toReal

/-- Row `r` of the previous block's. -/
def prevRow (K : KArr) (b : Fin 3) (n : Fin 5) (g : Fin 8) (r : Fin 128) (j : Fin 64) : ℝ :=
  (K (ix3 b ⟨128 * (n.val - 1) + r.val, by omega⟩ ⟨64 * g.val + j.val, by omega⟩)).toReal

/-- The attention output at token `128 n + t`, head `h`, channel `d`. -/
def attn (X : QArr) (K V : KArr) (Z : FVec Ideal ⟨1, ![32]⟩ .f32) (b : Fin 3) (n : Fin 5) (t : Fin 128) (h : Fin 32) (d : Fin 64) : EReal :=
  avg (visAt (decide (n.val = 0)) t)
    (dots (ownRow K b n ⟨h.val / 4, by omega⟩) (prevRow K b n ⟨h.val / 4, by omega⟩)
      (fun j => (X (ix3 b ⟨128 * n.val + t.val, by omega⟩ ⟨64 * h.val + j.val, by omega⟩)).toReal) t)
    (Z (ix1 h)).toReal
    (vals (fun r => ownRow V b n ⟨h.val / 4, by omega⟩ r d) (fun r => prevRow V b n ⟨h.val / 4, by omega⟩ r d) t)

end Cert.Attn

end
-- ==== Proof.Final.lean ====
/- What the kernel's seven result arrays end holding, in the plain terms of `Target`. -/
module

public import proofs.«01_k».proof.Proof.Steps
public import proofs.«01_k».proof.Proof.Target
public import proofs.«01_k».proof.Proof.Gen.KernelIdeal.Value

@[expose] public section

set_option maxRecDepth 16384

noncomputable section

namespace Cert.Attn

open Idealize.ShloMosaic Idealize.ShloMosaic.TcCoe Cert.KernelIdeal Cert.KernelIdeal.Gen Cert.KernelIdeal.Value

section

variable (m : (ℓ : Loc nD τ sig) → Buf (Elt Ideal) ℓ) (c : Dev nD)

/-- The kernel's arguments as arrays. -/
def argX : QArr := m ((c : Thread nD τ).loc main_arg0)
def argK : KArr := m ((c : Thread nD τ).loc main_arg1)
def argV : KArr := m ((c : Thread nD τ).loc main_arg2)
def argZ : FVec Ideal ⟨1, ![32]⟩ .f32 := m ((c : Thread nD τ).loc main_arg3)

theorem index0 : ∀ t : Fin cfg0.N, win0_0.index t (0 : Fin 1) = 0 := (by decide +kernel : ∀ t : Fin grid0.N, _)
theorem index1 : ∀ t : Fin cfg0.N, win0_1.index t (0 : Fin 3) = t.val / 5 ∧ win0_1.index t (1 : Fin 3) = t.val % 5
    ∧ win0_1.index t (2 : Fin 3) = 0 := (by decide +kernel : ∀ t : Fin grid0.N, _)
theorem index2 : ∀ t : Fin cfg0.N, win0_2.index t (0 : Fin 3) = t.val / 5 ∧ win0_2.index t (1 : Fin 3) = t.val % 5
    ∧ win0_2.index t (2 : Fin 3) = 0 := (by decide +kernel : ∀ t : Fin grid0.N, _)
theorem index3 : ∀ t : Fin cfg0.N, win0_3.index t (0 : Fin 3) = t.val / 5 ∧ win0_3.index t (1 : Fin 3) = t.val % 5
    ∧ win0_3.index t (2 : Fin 3) = 0 := (by decide +kernel : ∀ t : Fin grid0.N, _)

theorem iblk0 (t : Fin cfg0.N) (i : S32.Idx) : (iblk m c 0 t : Vec Ideal S32 .f32) i = argZ m c i := by
  refine congrArg (argZ m c) (funext fun a => Fin.ext ?_)
  match a with
  | 0 =>
    show win0_0.index t (0 : Fin 1) * 32 + 1 * (i 0).val = (i 0).val
    rw [index0]; omega

theorem iblk1 (t : Fin cfg0.N) (i : S1x128x2048.Idx) (b : Fin 3) (s : Fin 640) (hb : b.val = t.val / 5)
    (hs : s.val = 128 * (t.val % 5) + (i 1).val) :
    (iblk m c 1 t : Vec Ideal S1x128x2048 .bf16) i = argX m c (ix3 b s (i 2)) := by
  obtain ⟨e0, e1, e2⟩ := index1 t
  have hi : (i 0).val < 1 := (i 0).isLt
  refine congrArg (argX m c) (funext fun a => Fin.ext ?_)
  match a with
  | 0 =>
    show win0_1.index t (0 : Fin 3) * 1 + 1 * (i 0).val = b.val
    omega
  | 1 =>
    show win0_1.index t (1 : Fin 3) * 128 + 1 * (i 1).val = s.val
    omega
  | 2 =>
    show win0_1.index t (2 : Fin 3) * 2048 + 1 * (i 2).val = (i 2).val
    omega

theorem iblk2 (t : Fin cfg0.N) (i : S1x128x512.Idx) (b : Fin 3) (s : Fin 640) (hb : b.val = t.val / 5)
    (hs : s.val = 128 * (t.val % 5) + (i 1).val) :
    (iblk m c 2 t : Vec Ideal S1x128x512 .bf16) i = argK m c (ix3 b s (i 2)) := by
  obtain ⟨e0, e1, e2⟩ := index2 t
  have hi : (i 0).val < 1 := (i 0).isLt
  refine congrArg (argK m c) (funext fun a => Fin.ext ?_)
  match a with
  | 0 =>
    show win0_2.index t (0 : Fin 3) * 1 + 1 * (i 0).val = b.val
    omega
  | 1 =>
    show win0_2.index t (1 : Fin 3) * 128 + 1 * (i 1).val = s.val
    omega
  | 2 =>
    show win0_2.index t (2 : Fin 3) * 512 + 1 * (i 2).val = (i 2).val
    omega

theorem iblk3 (t : Fin cfg0.N) (i : S1x128x512.Idx) (b : Fin 3) (s : Fin 640) (hb : b.val = t.val / 5)
    (hs : s.val = 128 * (t.val % 5) + (i 1).val) :
    (iblk m c 3 t : Vec Ideal S1x128x512 .bf16) i = argV m c (ix3 b s (i 2)) := by
  obtain ⟨e0, e1, e2⟩ := index3 t
  have hi : (i 0).val < 1 := (i 0).isLt
  refine congrArg (argV m c) (funext fun a => Fin.ext ?_)
  match a with
  | 0 =>
    show win0_3.index t (0 : Fin 3) * 1 + 1 * (i 0).val = b.val
    omega
  | 1 =>
    show win0_3.index t (1 : Fin 3) * 128 + 1 * (i 1).val = s.val
    omega
  | 2 =>
    show win0_3.index t (2 : Fin 3) * 512 + 1 * (i 2).val = (i 2).val
    omega

end

/-! ## A block's codes and bytes as the array's -/

section

variable (X : QArr) (K : KArr) (b : Fin 3)

theorem qRow_block (x : Vec Ideal S1x128x2048 .bf16) (r : Fin 128) (s : Fin 640) (hx : ∀ ch, x (ix3 0 r ch) = X (ix3 b s ch))
    (ch : Fin 2048) (g : Fin 64) (hg : g.val = ch.val / 32) : qRow x r ch = rowQ X b s g := by
  funext k
  refine (hx _).trans ?_
  exact congrArg (fun j => X (ix3 b s j)) (Fin.ext (by dsimp only; rw [hg]))

theorem kRow_block (x : Vec Ideal S1x128x512 .bf16) (r : Fin 128) (s : Fin 640) (hx : ∀ ch, x (ix3 0 r ch) = K (ix3 b s ch))
    (ch : Fin 512) (g : Fin 16) (hg : g.val = ch.val / 32) : kRow x r ch = rowK K b s g := by
  funext k
  refine (hx _).trans ?_
  exact congrArg (fun j => K (ix3 b s j)) (Fin.ext (by dsimp only; rw [hg]))

theorem qCodes_block (x : Vec Ideal S1x128x2048 .bf16) (y : S1x2048x128.Idx) (s : Fin 640) (ch : Fin 2048)
    (hx : ∀ ch, x (ix3 0 (y 2) ch) = X (ix3 b s ch)) (hc : (y 1).val = ch.val) : qCodes x y = codeQ X b s ch := by
  obtain rfl : y 1 = ch := Fin.ext hc
  exact congrArg₂ (fun (a : EReal) r => a * (((gain r)⁻¹ : ℝ) : EReal)) (hx _) (qRow_block X b x (y 2) s hx _ _ rfl)

theorem kCodes_block (x : Vec Ideal S1x128x512 .bf16) (y : S1x512x128.Idx) (s : Fin 640) (ch : Fin 512)
    (hx : ∀ ch, x (ix3 0 (y 2) ch) = K (ix3 b s ch)) (hc : (y 1).val = ch.val) : kCodes x y = codeK K b s ch := by
  obtain rfl : y 1 = ch := Fin.ext hc
  exact congrArg₂ (fun (a : EReal) r => a * (((gain r)⁻¹ : ℝ) : EReal)) (hx _) (kRow_block K b x (y 2) s hx _ _ rfl)

theorem qBytes_block (x : Vec Ideal S1x128x2048 .bf16) (y : S1x2x32x128.Idx) (s : Fin 640) (g : Fin 64)
    (hx : ∀ ch, x (ix3 0 (y 3) ch) = X (ix3 b s ch)) (hg : g.val = 2 * (y 2).val + (y 1).val) : qBytes x y = byteQ X b s g := by
  have h1 : (y 1).val < 2 := (y 1).isLt
  exact congrArg (fun r => (biased (rep r)).setWidth 8) (qRow_block X b x (y 3) s hx _ g (by dsimp only; omega))

theorem kBytes_block (x : Vec Ideal S1x128x512 .bf16) (y : S1x2x8x128.Idx) (s : Fin 640) (g : Fin 16)
    (hx : ∀ ch, x (ix3 0 (y 3) ch) = K (ix3 b s ch)) (hg : g.val = 2 * (y 2).val + (y 1).val) : kBytes x y = byteK K b s g := by
  have h1 : (y 1).val < 2 := (y 1).isLt
  exact congrArg (fun r => (biased (rep r)).setWidth 8) (kRow_block K b x (y 3) s hx _ g (by dsimp only; omega))

end

/-! ## The result arrays -/

section

variable (m : (ℓ : Loc nD τ sig) → Buf (Elt Ideal) ℓ) (c : Dev nD)

/-- A block of the queries (keys, values) is as small as the array. -/
theorem small1 (hX : ∀ i, Small (argX m c i)) (t : Fin cfg0.N) (i : S1x128x2048.Idx) :
    Small ((iblk m c 1 t : Vec Ideal S1x128x2048 .bf16) i) := by
  have hi : (i 1).val < 128 := (i 1).isLt
  have ht : t.val < 15 := lt_of_lt_of_eq t.isLt N_0
  rw [iblk1 m c t i ⟨t.val / 5, by omega⟩ ⟨128 * (t.val % 5) + (i 1).val, by omega⟩ rfl rfl]
  exact hX _

theorem small2 (hK : ∀ i, Small (argK m c i)) (t : Fin cfg0.N) (i : S1x128x512.Idx) :
    Small ((iblk m c 2 t : Vec Ideal S1x128x512 .bf16) i) := by
  have hi : (i 1).val < 128 := (i 1).isLt
  have ht : t.val < 15 := lt_of_lt_of_eq t.isLt N_0
  rw [iblk2 m c t i ⟨t.val / 5, by omega⟩ ⟨128 * (t.val % 5) + (i 1).val, by omega⟩ rfl rfl]
  exact hK _

theorem small3 (hV : ∀ i, Small (argV m c i)) (t : Fin cfg0.N) (i : S1x128x512.Idx) :
    Small ((iblk m c 3 t : Vec Ideal S1x128x512 .bf16) i) := by
  have hi : (i 1).val < 128 := (i 1).isLt
  have ht : t.val < 15 := lt_of_lt_of_eq t.isLt N_0
  rw [iblk3 m c t i ⟨t.val / 5, by omega⟩ ⟨128 * (t.val % 5) + (i 1).val, by omega⟩ rfl rfl]
  exact hV _

theorem G5_eq (hX : ∀ i, Small (argX m c i)) (b : Fin 3) (ch : Fin 2048) (s : Fin 640) :
    G5 m c (ix3 b ch s) = codeQ (argX m c) b s ch := by
  have hp : pt5Of (ix3 b ch s) = 5 * b.val + s.val / 128 := by
    show 5 * (b.val / 1 - 0) + 5 * (ch.val / 2048 - 0) + 1 * (s.val / 128 - 0) = _
    omega
  have h : pt5Of (ix3 b ch s) < cfg0.N := by rw [hp, show cfg0.N = 15 from N_0]; omega
  have e : G5 m c (ix3 b ch s) = (outsAt0 m c (pt5Of (ix3 b ch s)) h).2.1 (loc5Of (ix3 b ch s)) := by
    rw [G5, dif_pos h, outsAt0_sweep]
  rw [e, step_5 m c ⟨_, h⟩ (small1 m c hX _)]
  refine qCodes_block _ b _ _ s ch (fun _ => iblk1 m c _ _ b s (by dsimp only; omega) ?_) (Nat.mod_eq_of_lt ch.isLt)
  show s.val = 128 * (pt5Of (ix3 b ch s) % 5) + s.val % 128
  omega

theorem G7_eq (hK : ∀ i, Small (argK m c i)) (b : Fin 3) (ch : Fin 512) (s : Fin 640) :
    G7 m c (ix3 b ch s) = codeK (argK m c) b s ch := by
  have hp : pt7Of (ix3 b ch s) = 5 * b.val + s.val / 128 := by
    show 5 * (b.val / 1 - 0) + 5 * (ch.val / 512 - 0) + 1 * (s.val / 128 - 0) = _
    omega
  have h : pt7Of (ix3 b ch s) < cfg0.N := by rw [hp, show cfg0.N = 15 from N_0]; omega
  have e : G7 m c (ix3 b ch s) = (outsAt0 m c (pt7Of (ix3 b ch s)) h).2.2.2.1 (loc7Of (ix3 b ch s)) := by
    rw [G7, dif_pos h, outsAt0_sweep]
  rw [e, step_7 m c ⟨_, h⟩ (small2 m c hK _)]
  refine kCodes_block _ b _ _ s ch (fun _ => iblk2 m c _ _ b s (by dsimp only; omega) ?_) (Nat.mod_eq_of_lt ch.isLt)
  show s.val = 128 * (pt7Of (ix3 b ch s) % 5) + s.val % 128
  omega

theorem G9_eq (hV : ∀ i, Small (argV m c i)) (b : Fin 3) (ch : Fin 512) (s : Fin 640) :
    G9 m c (ix3 b ch s) = codeK (argV m c) b s ch := by
  have hp : pt9Of (ix3 b ch s) = 5 * b.val + s.val / 128 := by
    show 5 * (b.val / 1 - 0) + 5 * (ch.val / 512 - 0) + 1 * (s.val / 128 - 0) = _
    omega
  have h : pt9Of (ix3 b ch s) < cfg0.N := by rw [hp, show cfg0.N = 15 from N_0]; omega
  have e : G9 m c (ix3 b ch s) = (outsAt0 m c (pt9Of (ix3 b ch s)) h).2.2.2.2.2.1 (loc9Of (ix3 b ch s)) := by
    rw [G9, dif_pos h, outsAt0_sweep]
  rw [e, step_9 m c ⟨_, h⟩ (small3 m c hV _)]
  refine kCodes_block _ b _ _ s ch (fun _ => iblk3 m c _ _ b s (by dsimp only; omega) ?_) (Nat.mod_eq_of_lt ch.isLt)
  show s.val = 128 * (pt9Of (ix3 b ch s) % 5) + s.val % 128
  omega

theorem G6_eq (hX : ∀ i, Small (argX m c i)) (b : Fin 3) (p : Fin 2) (h : Fin 32) (s : Fin 640) :
    G6 m c (ix4 b p h s) = byteQ (argX m c) b s ⟨2 * h.val + p.val, by omega⟩ := by
  have hp : pt6Of (ix4 b p h s) = 5 * b.val + s.val / 128 := by
    show 5 * (b.val / 1 - 0) + 5 * (p.val / 2 - 0) + 5 * (h.val / 32 - 0) + 1 * (s.val / 128 - 0) = _
    omega
  have hN : pt6Of (ix4 b p h s) < cfg0.N := by rw [hp, show cfg0.N = 15 from N_0]; omega
  have e : G6 m c (ix4 b p h s) = (outsAt0 m c (pt6Of (ix4 b p h s)) hN).2.2.1 (loc6Of (ix4 b p h s)) := by
    rw [G6, dif_pos hN, outsAt0_sweep]
  rw [e, step_6 m c ⟨_, hN⟩ (small1 m c hX _)]
  refine qBytes_block _ b _ _ s _ (fun _ => iblk1 m c _ _ b s (by dsimp only; omega) ?_) ?_
  · show s.val = 128 * (pt6Of (ix4 b p h s) % 5) + s.val % 128
    omega
  · show 2 * h.val + p.val = 2 * (h.val % 32) + p.val % 2
    omega

theorem G8_eq (hK : ∀ i, Small (argK m c i)) (b : Fin 3) (p : Fin 2) (h : Fin 8) (s : Fin 640) :
    G8 m c (ix4 b p h s) = byteK (argK m c) b s ⟨2 * h.val + p.val, by omega⟩ := by
  have hp : pt8Of (ix4 b p h s) = 5 * b.val + s.val / 128 := by
    show 5 * (b.val / 1 - 0) + 5 * (p.val / 2 - 0) + 5 * (h.val / 8 - 0) + 1 * (s.val / 128 - 0) = _
    omega
  have hN : pt8Of (ix4 b p h s) < cfg0.N := by rw [hp, show cfg0.N = 15 from N_0]; omega
  have e : G8 m c (ix4 b p h s) = (outsAt0 m c (pt8Of (ix4 b p h s)) hN).2.2.2.2.1 (loc8Of (ix4 b p h s)) := by
    rw [G8, dif_pos hN, outsAt0_sweep]
  rw [e, step_8 m c ⟨_, hN⟩ (small2 m c hK _)]
  refine kBytes_block _ b _ _ s _ (fun _ => iblk2 m c _ _ b s (by dsimp only; omega) ?_) ?_
  · show s.val = 128 * (pt8Of (ix4 b p h s) % 5) + s.val % 128
    omega
  · show 2 * h.val + p.val = 2 * (h.val % 8) + p.val % 2
    omega

theorem G10_eq (hV : ∀ i, Small (argV m c i)) (b : Fin 3) (p : Fin 2) (h : Fin 8) (s : Fin 640) :
    G10 m c (ix4 b p h s) = byteK (argV m c) b s ⟨2 * h.val + p.val, by omega⟩ := by
  have hp : pt10Of (ix4 b p h s) = 5 * b.val + s.val / 128 := by
    show 5 * (b.val / 1 - 0) + 5 * (p.val / 2 - 0) + 5 * (h.val / 8 - 0) + 1 * (s.val / 128 - 0) = _
    omega
  have hN : pt10Of (ix4 b p h s) < cfg0.N := by rw [hp, show cfg0.N = 15 from N_0]; omega
  have e : G10 m c (ix4 b p h s) = (outsAt0 m c (pt10Of (ix4 b p h s)) hN).2.2.2.2.2.2.1 (loc10Of (ix4 b p h s)) := by
    rw [G10, dif_pos hN, outsAt0_sweep]
  rw [e, step_10 m c ⟨_, hN⟩ (small3 m c hV _)]
  refine kBytes_block _ b _ _ s _ (fun _ => iblk3 m c _ _ b s (by dsimp only; omega) ?_) ?_
  · show s.val = 128 * (pt10Of (ix4 b p h s) % 5) + s.val % 128
    omega
  · show 2 * h.val + p.val = 2 * (h.val % 8) + p.val % 2
    omega

/-- Keys and values a step reads, as rows of the arrays. -/
theorem keyAt_own (t : Fin cfg0.N) (b : Fin 3) (n : Fin 5) (ht : t.val = 5 * b.val + n.val) :
    keyAt (iblk m c 2 t) = ownRow (argK m c) b n := by
  funext g r j
  exact congrArg EReal.toReal (iblk2 m c t _ b _ (by omega) (by show _ = 128 * (t.val % 5) + r.val; dsimp only; omega))

theorem valAt_own (t : Fin cfg0.N) (b : Fin 3) (n : Fin 5) (ht : t.val = 5 * b.val + n.val) :
    keyAt (iblk m c 3 t) = ownRow (argV m c) b n := by
  funext g r j
  exact congrArg EReal.toReal (iblk3 m c t _ b _ (by omega) (by show _ = 128 * (t.val % 5) + r.val; dsimp only; omega))

theorem keyAt_prev (t : Fin cfg0.N) (b : Fin 3) (n : Fin 5) (ht : t.val = 5 * b.val + n.val) (hn : n.val ≠ 0) :
    keyAt (iblk m c 2 (before t)) = prevRow (argK m c) b n := by
  funext g r j
  exact congrArg EReal.toReal (iblk2 m c (before t) _ b _ (by show _ = (t.val - 1) / 5; omega)
    (by show _ = 128 * ((t.val - 1) % 5) + r.val; dsimp only; omega))

theorem valAt_prev (t : Fin cfg0.N) (b : Fin 3) (n : Fin 5) (ht : t.val = 5 * b.val + n.val) (hn : n.val ≠ 0) :
    keyAt (iblk m c 3 (before t)) = prevRow (argV m c) b n := by
  funext g r j
  exact congrArg EReal.toReal (iblk3 m c (before t) _ b _ (by show _ = (t.val - 1) / 5; omega)
    (by show _ = 128 * ((t.val - 1) % 5) + r.val; dsimp only; omega))

/-- The output reads only the rows the query sees. -/
theorem avg_congr {vis : Fin 128 → Bool} {S S' : Fin 128 → ℝ} {k : ℝ} {v v' : Fin 128 → ℝ}
    (hS : ∀ r, vis r = true → S r = S' r) (hv : ∀ r, vis r = true → v r = v' r) : avg vis S k v = avg vis S' k v' := by
  have h1 : seen vis S = seen vis S' := funext fun r => by
    unfold seen
    split_ifs with h
    · rw [hS r h]
    · rfl
  have h2 : mx vis S k = mx vis S' k := by rw [mx, mx, top, top, h1]
  have h3 : wt vis S k = wt vis S' k := funext fun r => by
    unfold wt
    rw [h2]
    split_ifs with h
    · rw [hS r h]
    · rfl
  rw [avg, avg, tot, tot, h2, h3]
  congr 1
  refine Finset.sum_congr rfl fun r _ => ?_
  by_cases h : vis r = true
  · rw [hv r h]
  · rw [wt, if_neg h, mul_zero, mul_zero]

theorem blockOut_attn (t : Fin cfg0.N) (b : Fin 3) (n : Fin 5) (ht : t.val = 5 * b.val + n.val) (r : Fin 128) (ch : Fin 2048)
    (s : Fin 640) (hs : s.val = 128 * n.val + r.val) :
    blockOut (decide (t.val % 5 = 0)) (iblk m c 0 t) (iblk m c 1 t) (ownRow (argK m c) b n) (keyAt (iblk m c 2 (before t)))
      (fun g d r => ownRow (argV m c) b n g r d) (fun g d r => keyAt (iblk m c 3 (before t)) g r d) (ix3 0 r ch)
      = attn (argX m c) (argK m c) (argV m c) (argZ m c) b n r ⟨ch.val / 64, by omega⟩ ⟨ch.val % 64, by omega⟩ := by
  have hg : (⟨ch.val / 256, by omega⟩ : Fin 8) = ⟨ch.val / 64 / 4, by omega⟩ := Fin.ext (by dsimp only; omega)
  have h5 : t.val % 5 = n.val := by omega
  have hq : (fun j : Fin 64 => ((iblk m c 1 t : Vec Ideal S1x128x2048 .bf16) (ix3 0 r ⟨64 * (ch.val / 64) + j.val, by omega⟩)).toReal)
      = fun j => (argX m c (ix3 b ⟨128 * n.val + r.val, by omega⟩ ⟨64 * (ch.val / 64) + j.val, by omega⟩)).toReal := funext fun j =>
    congrArg EReal.toReal (iblk1 m c t _ b _ (by omega) (by show _ = 128 * (t.val % 5) + r.val; dsimp only; omega))
  have hz : (iblk m c 0 t : Vec Ideal S32 .f32) (ix1 ⟨ch.val / 64, by omega⟩) = argZ m c (ix1 ⟨ch.val / 64, by omega⟩) := iblk0 m c t _
  show ((avg (visAt (decide (t.val % 5 = 0)) r) (dots (ownRow (argK m c) b n ⟨ch.val / 256, by omega⟩)
      (keyAt (iblk m c 2 (before t)) ⟨ch.val / 256, by omega⟩)
      (fun j : Fin 64 => ((iblk m c 1 t : Vec Ideal S1x128x2048 .bf16) (ix3 0 r ⟨64 * (ch.val / 64) + j.val, by omega⟩)).toReal) r)
      ((iblk m c 0 t : Vec Ideal S32 .f32) (ix1 ⟨ch.val / 64, by omega⟩)).toReal
      (vals (fun r => ownRow (argV m c) b n ⟨ch.val / 256, by omega⟩ r ⟨ch.val % 64, by omega⟩)
        (fun r => keyAt (iblk m c 3 (before t)) ⟨ch.val / 256, by omega⟩ r ⟨ch.val % 64, by omega⟩) r) : ℝ) : EReal) = _
  rw [hq, hz, hg, h5]
  by_cases h0 : n.val = 0
  · refine congrArg (fun x : ℝ => (x : EReal)) (avg_congr (fun r' hr => ?_) fun r' hr => ?_)
    · have : r' ≤ r := by simpa [visAt, h0] using hr
      simp only [dots, if_pos this]
    · have : r' ≤ r := by simpa [visAt, h0] using hr
      simp only [vals, if_pos this]
  · rw [keyAt_prev m c t b n ht h0, valAt_prev m c t b n ht h0]
    rfl

theorem G4_eq (hX : ∀ i, Small (argX m c i)) (hK : ∀ i, Small (argK m c i)) (hV : ∀ i, Small (argV m c i))
    (hZ : ∀ i, ∃ r : ℝ, argZ m c i = (r : EReal)) (b : Fin 3) (s : Fin 640) (ch : Fin 2048) :
    G4 m c (ix3 b s ch) = attn (argX m c) (argK m c) (argV m c) (argZ m c) b ⟨s.val / 128, by omega⟩ ⟨s.val % 128, by omega⟩
      ⟨ch.val / 64, by omega⟩ ⟨ch.val % 64, by omega⟩ := by
  have hp : pt4Of (ix3 b s ch) = 5 * b.val + s.val / 128 := by
    show 5 * (b.val / 1 - 0) + 1 * (s.val / 128 - 0) + 1 * (ch.val / 2048 - 0) = _
    omega
  have h : pt4Of (ix3 b s ch) < cfg0.N := by rw [hp, show cfg0.N = 15 from N_0]; omega
  have e : G4 m c (ix3 b s ch) = (outsAt0 m c (pt4Of (ix3 b s ch)) h).1 (loc4Of (ix3 b s ch)) := by
    rw [G4, dif_pos h, outsAt0_sweep]
  have hZ' : ∀ t i, ∃ r : ℝ, (iblk m c 0 t : Vec Ideal S32 .f32) i = (r : EReal) := fun t i => by
    rw [iblk0]
    exact hZ i
  rw [e, step_4 m c hZ' (small1 m c hX) (small2 m c hK) (small3 m c hV) ⟨_, h⟩]
  generalize hT : (⟨pt4Of (ix3 b s ch), h⟩ : Fin cfg0.N) = t
  have ht : t.val = 5 * b.val + s.val / 128 := (congrArg Fin.val hT).symm.trans hp
  rw [keyAt_own m c t b ⟨s.val / 128, by omega⟩ ht, valAt_own m c t b ⟨s.val / 128, by omega⟩ ht]
  have hy : loc4Of (ix3 b s ch) = (ix3 0 ⟨s.val % 128, by omega⟩ ch : S1x128x2048.Idx) := by
    funext a
    match a with
    | 0 => exact Fin.ext (show b.val % 1 = 0 by omega)
    | 1 => rfl
    | 2 => exact Fin.ext (Nat.mod_eq_of_lt ch.isLt)
  rw [hy]
  exact blockOut_attn m c t b ⟨s.val / 128, by omega⟩ ht ⟨s.val % 128, by omega⟩ ch s (by show s.val = 128 * (s.val / 128) + s.val % 128; omega)

end

end Cert.Attn

end
-- ==== Proof.Pre.lean ====
/- What the precondition says of each argument: queries, keys and values bounded, sinks real. -/
module

public import proofs.«01_k».proof.Pre_finite
public import proofs.«01_k».proof.Proof.Quant
public import Idealize.ShloMosaic.Lib.ReduceAll

@[expose] public section

set_option maxRecDepth 8192

noncomputable section

namespace Cert.Attn

open Idealize.ShloMosaic

theorem ofBits_large : Ideal.ofBits .f32 0x7F7F0000#32 = ((255 * (2 : ℝ) ^ (120 : ℤ) : ℝ) : EReal) := by
  simp [Ideal.ofBits, Ideal.ieee, -EReal.coe_mul]; norm_num

theorem ofBits_top : Ideal.ofBits .f32 0x7F800000#32 = ⊤ := by
  simp [Ideal.ofBits, Ideal.ieee]

theorem of_ofBool {p : Prop} [Decidable p] (h : BitVec.ofBool (decide p) = 1#1) : p := by
  by_contra hc
  rw [decide_eq_false hc] at h
  exact absurd h (by decide)

theorem small_of_le {a : EReal} (h : max a (-a) ≤ ((255 * (2 : ℝ) ^ (120 : ℤ) : ℝ) : EReal)) : Small a := by
  induction a using EReal.rec with
  | bot => exact absurd (le_trans (le_max_right _ _) h) (by rw [EReal.neg_bot]; exact not_le.2 (EReal.coe_lt_top _))
  | top => exact absurd (le_trans (le_max_left _ _) h) (not_le.2 (EReal.coe_lt_top _))
  | coe r =>
    refine ⟨r, rfl, ?_⟩
    rw [← EReal.coe_neg, max_le_iff, EReal.coe_le_coe_iff, EReal.coe_le_coe_iff] at h
    have : (255 : ℝ) * (2 : ℝ) ^ (120 : ℤ) ≤ (2 : ℝ) ^ (128 : ℤ) := by norm_num
    rw [abs_le]
    constructor <;> linarith

theorem real_of_lt {a : EReal} (h : max a (-a) < ⊤) : ∃ r : ℝ, a = (r : EReal) := by
  induction a using EReal.rec with
  | bot => exact absurd h (by simp)
  | top => exact absurd h (by simp)
  | coe r => exact ⟨r, rfl⟩

/-- The bounded half of the precondition, at any shape. -/
theorem small_of_all (s : Shape) (A : FVec Ideal s .bf16) (hb : FTy.bits .bf16 < FTy.bits .f32) (hc : (⟨0, ![]⟩ : Shape).BroadcastsInDim s ![]) (i : s.Idx)
    (h : cmpf .ole (Host.absf (extf .f32 A hb)) (broadcastInDim s ![] hc (constant (F := Ideal) ⟨0, ![]⟩ .f32 0x7F7F0000#32)) i = 1#1) : Small (A i) := by
  have h' : max (A i) (-(A i)) ≤ Ideal.ofBits .f32 0x7F7F0000#32 := of_ofBool h
  rw [ofBits_large] at h'
  exact small_of_le h'

/-- The sinks' half. -/
theorem real_of_all (s : Shape) (A : FVec Ideal s .f32) (hc : (⟨0, ![]⟩ : Shape).BroadcastsInDim s ![]) (i : s.Idx)
    (h : cmpf .olt (Host.absf A) (broadcastInDim s ![] hc (constant (F := Ideal) ⟨0, ![]⟩ .f32 0x7F800000#32)) i = 1#1) :
    ∃ r : ℝ, A i = (r : EReal) := by
  have h' : max (A i) (-(A i)) < Ideal.ofBits .f32 0x7F800000#32 := of_ofBool h
  rw [ofBits_top] at h'
  exact real_of_lt h'

theorem and_one {a b : BitVec 1} (h : a &&& b = 1#1) : a = 1#1 ∧ b = 1#1 := by
  revert a b
  decide

open Cert.Pre_finite Cert.Pre_finite.Facts in
theorem pre_small [Cert.Pre_finite.Facts] (x : FVec Ideal S3x640x2048 .bf16) (k v : FVec Ideal S3x640x512 .bf16) (z : FVec Ideal S32 .f32)
    (h : Cert.Pre_finite.fn (F := Ideal) x k v z = fun _ => 1#1) :
    (∀ i, Small (x i)) ∧ (∀ i, Small (k i)) ∧ (∀ i, Small (v i)) ∧ ∀ i, ∃ r : ℝ, z i = (r : EReal) := by
  have : Subsingleton S_.Idx := ⟨fun a b => funext fun i => i.elim0⟩
  have e := congrFun h (fun i => i.elim0)
  dsimp only [fn, fn_part1] at e
  obtain ⟨e, e4⟩ := and_one e
  obtain ⟨e, e3⟩ := and_one e
  obtain ⟨e1, e2⟩ := and_one e
  exact ⟨fun i => small_of_all _ x _ _ i (Host.reduce_andi_all _ _ _ _ _ e1 i), fun i => small_of_all _ k _ _ i (Host.reduce_andi_all _ _ _ _ _ e2 i),
    fun i => small_of_all _ v _ _ i (Host.reduce_andi_all _ _ _ _ _ e3 i), fun i => real_of_all _ z _ i (Host.reduce_andi_all _ _ _ _ _ e4 i)⟩

end Cert.Attn

end
-- ==== Proof.RefTerms.lean ====
/- The reference's arrays as functions of the arguments, stage by stage. -/
module

public import proofs.«01_k».proof.Proof.Gen.ReferenceIdeal
public import Idealize.ShloMosaic.Lib.Pointwise

@[expose] public section

set_option maxRecDepth 8192

noncomputable section

namespace Cert.Ref

open Cert.ReferenceIdeal Cert.ReferenceIdeal.Gen Idealize.ShloMosaic

/-- The blocks of 32 channels. -/
def qBlk (x : FVec Ideal S3x640x2048 .bf16) : FVec Ideal S3x640x32x2x32 .f32 :=
  shapeCast _ (extf .f32 (shapeCast _ x shapeCasts_S3x640x2048_S3x640x32x64) bitsLt_bf16_f32) shapeCasts_S3x640x32x64_S3x640x32x2x32

/-- A block's scale before it is rounded up. -/
def qRep (x : FVec Ideal S3x640x2048 .bf16) : FVec Ideal S3x640x32x2 .f32 :=
  mulf (Host.reduce FloatOps.maximumf (Host.absf (qBlk x)) (constant S_ .f32 0xFF800000#32) reducesTo_S3x640x32x2x32_S3x640x32x2_d4 h_S_) (broadcastInDim S3x640x32x2 ![] bcast_S_S3x640x32x2 (constant S_ .f32 0x3B124925#32))

/-- A block's exponent. -/
def qExp (x : FVec Ideal S3x640x2048 .bf16) : IVec S3x640x32x2 32 :=
  fptosi 32 (select (cmpf .olt (qRep x) (broadcastInDim S3x640x32x2 ![] bcast_S_S3x640x32x2 (constant S_ .f32 0x00800000#32))) (broadcastInDim S3x640x32x2 ![] bcast_S_S3x640x32x2 (id (constant S_ .f32 0x00000000#32))) (addf (Host.floor (Host.divf (Host.log (qRep x)) (broadcastInDim S3x640x32x2 ![] bcast_S_S3x640x32x2 (Host.log (constant S_ .f32 0x40000000#32))))) (broadcastInDim S3x640x32x2 ![] bcast_S_S3x640x32x2 (constant S_ .f32 0x3F800000#32))))

/-- The codes. -/
def qCod (x : FVec Ideal S3x640x2048 .bf16) : FVec Ideal S3x640x32x64 .f32 :=
  shapeCast _ (minimumf (broadcastInDim S3x640x32x2x32 ![] bcast_S_S3x640x32x2x32 (id (constant S_ .f32 0x43E00000#32))) (maximumf (broadcastInDim S3x640x32x2x32 ![] bcast_S_S3x640x32x2x32 (id (constant S_ .f32 0xC3E00000#32))) (mulf (qBlk x) (broadcastInDim S3x640x32x2x32 ![0, 1, 2, 3, 4] bcast_S3x640x32x2x1_S3x640x32x2x32_0_1_2_3_4 (broadcastInDim S3x640x32x2x1 ![0, 1, 2, 3] bcast_S3x640x32x2_S3x640x32x2x1_0_1_2_3 (Host.powf (broadcastInDim S3x640x32x2 ![] bcast_S_S3x640x32x2 (constant S_ .f32 0x40000000#32)) (sitofp .f32 (negi (qExp x))))))))) shapeCasts_S3x640x32x2x32_S3x640x32x64

/-- The scale bytes. -/
def qByt (x : FVec Ideal S3x640x2048 .bf16) : IVec S3x640x32x2 8 :=
  trunci 8 (addi (qExp x) (broadcastInDim S3x640x32x2 ![] bcast_S_S3x640x32x2 (constantI S_ 32 127#32))) natLt_8_32

/-- The blocks of 32 channels. -/
def kBlk (x : FVec Ideal S3x640x512 .bf16) : FVec Ideal S3x640x8x2x32 .f32 :=
  shapeCast _ (extf .f32 (shapeCast _ x shapeCasts_S3x640x512_S3x640x8x64) bitsLt_bf16_f32) shapeCasts_S3x640x8x64_S3x640x8x2x32

/-- A block's scale before it is rounded up. -/
def kRep (x : FVec Ideal S3x640x512 .bf16) : FVec Ideal S3x640x8x2 .f32 :=
  mulf (Host.reduce FloatOps.maximumf (Host.absf (kBlk x)) (constant S_ .f32 0xFF800000#32) reducesTo_S3x640x8x2x32_S3x640x8x2_d4 h_S_) (broadcastInDim S3x640x8x2 ![] bcast_S_S3x640x8x2 (constant S_ .f32 0x3B124925#32))

/-- A block's exponent. -/
def kExp (x : FVec Ideal S3x640x512 .bf16) : IVec S3x640x8x2 32 :=
  fptosi 32 (select (cmpf .olt (kRep x) (broadcastInDim S3x640x8x2 ![] bcast_S_S3x640x8x2 (constant S_ .f32 0x00800000#32))) (broadcastInDim S3x640x8x2 ![] bcast_S_S3x640x8x2 (id (constant S_ .f32 0x00000000#32))) (addf (Host.floor (Host.divf (Host.log (kRep x)) (broadcastInDim S3x640x8x2 ![] bcast_S_S3x640x8x2 (Host.log (constant S_ .f32 0x40000000#32))))) (broadcastInDim S3x640x8x2 ![] bcast_S_S3x640x8x2 (constant S_ .f32 0x3F800000#32))))

/-- The codes. -/
def kCod (x : FVec Ideal S3x640x512 .bf16) : FVec Ideal S3x640x8x64 .f32 :=
  shapeCast _ (minimumf (broadcastInDim S3x640x8x2x32 ![] bcast_S_S3x640x8x2x32 (id (constant S_ .f32 0x43E00000#32))) (maximumf (broadcastInDim S3x640x8x2x32 ![] bcast_S_S3x640x8x2x32 (id (constant S_ .f32 0xC3E00000#32))) (mulf (kBlk x) (broadcastInDim S3x640x8x2x32 ![0, 1, 2, 3, 4] bcast_S3x640x8x2x1_S3x640x8x2x32_0_1_2_3_4 (broadcastInDim S3x640x8x2x1 ![0, 1, 2, 3] bcast_S3x640x8x2_S3x640x8x2x1_0_1_2_3 (Host.powf (broadcastInDim S3x640x8x2 ![] bcast_S_S3x640x8x2 (constant S_ .f32 0x40000000#32)) (sitofp .f32 (negi (kExp x))))))))) shapeCasts_S3x640x8x2x32_S3x640x8x64

/-- The scale bytes. -/
def kByt (x : FVec Ideal S3x640x512 .bf16) : IVec S3x640x8x2 8 :=
  trunci 8 (addi (kExp x) (broadcastInDim S3x640x8x2 ![] bcast_S_S3x640x8x2 (constantI S_ 32 127#32))) natLt_8_32

/-- Codes times scales: the keys or values the attention reads. -/
def kDeq (x : FVec Ideal S3x640x512 .bf16) : FVec Ideal S3x5x128x8x64 .bf16 :=
  shapeCast _ (shapeCast _ (mulf (shapeCast _ (truncf .bf16 (kCod x) bitsLt_bf16_f32) shapeCasts_S3x640x8x64_S3x640x8x2x32) (broadcastInDim S3x640x8x2x32 ![0, 1, 2, 3, 4] bcast_S3x640x8x2x1_S3x640x8x2x32_0_1_2_3_4 (broadcastInDim S3x640x8x2x1 ![0, 1, 2, 3] bcast_S3x640x8x2_S3x640x8x2x1_0_1_2_3 (truncf .bf16 (Host.powf (broadcastInDim S3x640x8x2 ![] bcast_S_S3x640x8x2 (constant S_ .f32 0x40000000#32)) (sitofp .f32 (subi (extui 32 (kByt x) natLt_8_32) (broadcastInDim S3x640x8x2 ![] bcast_S_S3x640x8x2 (constantI S_ 32 127#32))))) bitsLt_bf16_f32)))) shapeCasts_S3x640x8x2x32_S3x640x8x64) shapeCasts_S3x640x8x64_S3x5x128x8x64

/-- Codes times scales of the queries. -/
def qDeq (x : FVec Ideal S3x640x2048 .bf16) : FVec Ideal S3x5x128x8x4x64 .bf16 :=
  shapeCast _ (shapeCast _ (shapeCast _ (mulf (shapeCast _ (truncf .bf16 (qCod x) bitsLt_bf16_f32) shapeCasts_S3x640x32x64_S3x640x32x2x32) (broadcastInDim S3x640x32x2x32 ![0, 1, 2, 3, 4] bcast_S3x640x32x2x1_S3x640x32x2x32_0_1_2_3_4 (broadcastInDim S3x640x32x2x1 ![0, 1, 2, 3] bcast_S3x640x32x2_S3x640x32x2x1_0_1_2_3 (truncf .bf16 (Host.powf (broadcastInDim S3x640x32x2 ![] bcast_S_S3x640x32x2 (constant S_ .f32 0x40000000#32)) (sitofp .f32 (subi (extui 32 (qByt x) natLt_8_32) (broadcastInDim S3x640x32x2 ![] bcast_S_S3x640x32x2 (constantI S_ 32 127#32))))) bitsLt_bf16_f32)))) shapeCasts_S3x640x32x2x32_S3x640x32x64) shapeCasts_S3x640x32x64_S3x640x8x4x64) shapeCasts_S3x640x8x4x64_S3x5x128x8x4x64

/-- Each block's window of 256 rows: the previous block's and its own. -/
def kWin2 (k : FVec Ideal S3x640x512 .bf16) : FVec Ideal S3x5x256x8x64 .bf16 :=
  concatenate S3x5x256x8x64 2 [⟨S3x5x128x8x64, (pad S3x5x128x8x64 ![0, 1, 0, 0, 0] ![0, 0, 0, 0, 0] ![0, 0, 0, 0, 0] (extractStridedSlice S3x4x128x8x64 ![0, 0, 0, 0, 0] (kDeq k) slices_S3x5x128x8x64_S3x4x128x8x64_0_0_0_0_0) (sitofp .bf16 (constantI S_ 32 0#32)) pads_S3x4x128x8x64_S3x5x128x8x64_000_100_000_000_000 h_S_)⟩, ⟨S3x5x128x8x64, (kDeq k)⟩] concatenates_S3x5x128x8x64_S3x5x128x8x64_S3x5x256x8x64_d2

/-- The scaled scores. -/
def rScore (x : FVec Ideal S3x640x2048 .bf16) (k : FVec Ideal S3x640x512 .bf16) : FVec Ideal S3x5x8x4x128x256 .f32 :=
  mulf (transpose S3x5x8x4x128x256 [0, 1, 2, 5, 4, 3] (Host.dotGeneral dot_S3x5x256x8x64_S3x5x128x8x4x64_S3x5x8x256x128x4_4_5_2_24_013_013 none (kWin2 k) (qDeq x)) transposes_S3x5x8x256x128x4_S3x5x8x4x128x256_0_1_2_5_4_3) (broadcastInDim S3x5x8x4x128x256 ![] bcast_S_S3x5x8x4x128x256 (constant S_ .f32 0x3E000000#32))

/-- The row numbers of a window. -/
def rRow  : IVec S1x1x256 32 :=
  broadcastInDim S1x1x256 ![2] bcast_S256_S1x1x256_2 (iotaInDim S256 32 0)

/-- A window row's distance to the query. -/
def rDist  : IVec S1x128x256 32 :=
  subi (broadcastInDim S1x128x256 ![0, 1, 2] bcast_S1x1x256_S1x128x256_0_1_2 (subi rRow (broadcastInDim S1x1x256 ![] bcast_S_S1x1x256 (constantI S_ 32 128#32)))) (broadcastInDim S1x128x256 ![0, 1, 2] bcast_S1x128x1_S1x128x256_0_1_2 (broadcastInDim S1x128x1 ![1] bcast_S128_S1x128x1_1 (iotaInDim S128 32 0)))

/-- Which window rows a query sees. -/
def rSees  : IVec S1x5x1x1x128x256 1 :=
  broadcastInDim S1x5x1x1x128x256 ![1, 4, 5] bcast_S5x128x256_S1x5x1x1x128x256_1_4_5 (andi (broadcastInDim S5x128x256 ![0, 1, 2] bcast_S1x128x256_S5x128x256_0_1_2 (andi (cmpi .sle rDist (broadcastInDim S1x128x256 ![] bcast_S_S1x128x256 (constantI S_ 32 0#32))) (cmpi .sgt rDist (broadcastInDim S1x128x256 ![] bcast_S_S1x128x256 (constantI S_ 32 4294967168#32))))) (broadcastInDim S5x128x256 ![0, 1, 2] bcast_S5x1x256_S5x128x256_0_1_2 (cmpi .sge (subi (addi (broadcastInDim S5x1x256 ![0, 1, 2] bcast_S5x1x1_S5x1x256_0_1_2 (muli (broadcastInDim S5x1x1 ![0] bcast_S5_S5x1x1_0 (iotaInDim S5 32 0)) (broadcastInDim S5x1x1 ![] bcast_S_S5x1x1 (constantI S_ 32 128#32)))) (broadcastInDim S5x1x256 ![0, 1, 2] bcast_S1x1x256_S5x1x256_0_1_2 rRow)) (broadcastInDim S5x1x256 ![] bcast_S_S5x1x256 (constantI S_ 32 128#32))) (broadcastInDim S5x1x256 ![] bcast_S_S5x1x256 (constantI S_ 32 0#32)))))

/-- The sinks by head. -/
def rSink (z : FVec Ideal S32 .f32) : FVec Ideal S1x1x8x4x1 .f32 :=
  broadcastInDim S1x1x8x4x1 ![2, 3] bcast_S8x4_S1x1x8x4x1_2_3 (shapeCast _ z shapeCasts_S32_S8x4)

/-- The row maximum, the sink included. -/
def rMax (x : FVec Ideal S3x640x2048 .bf16) (k : FVec Ideal S3x640x512 .bf16) (z : FVec Ideal S32 .f32) : FVec Ideal S3x5x8x4x128 .f32 :=
  maximumf (Host.reduce FloatOps.maximumf (select (broadcastInDim S3x5x8x4x128x256 ![0, 1, 2, 3, 4, 5] bcast_S1x5x1x1x128x256_S3x5x8x4x128x256_0_1_2_3_4_5 rSees) (rScore x k) (broadcastInDim S3x5x8x4x128x256 ![] bcast_S_S3x5x8x4x128x256 (id (constant S_ .f32 0xFF800000#32)))) (constant S_ .f32 0xFF800000#32) reducesTo_S3x5x8x4x128x256_S3x5x8x4x128_d5 h_S_) (broadcastInDim S3x5x8x4x128 ![0, 1, 2, 3, 4] bcast_S1x1x8x4x1_S3x5x8x4x128_0_1_2_3_4 (rSink z))

/-- The weights. -/
def rWt (x : FVec Ideal S3x640x2048 .bf16) (k : FVec Ideal S3x640x512 .bf16) (z : FVec Ideal S32 .f32) : FVec Ideal S3x5x8x4x128x256 .f32 :=
  select (broadcastInDim S3x5x8x4x128x256 ![0, 1, 2, 3, 4, 5] bcast_S1x5x1x1x128x256_S3x5x8x4x128x256_0_1_2_3_4_5 rSees) (Host.exp (subf (rScore x k) (broadcastInDim S3x5x8x4x128x256 ![0, 1, 2, 3, 4, 5] bcast_S3x5x8x4x128x1_S3x5x8x4x128x256_0_1_2_3_4_5 (broadcastInDim S3x5x8x4x128x1 ![0, 1, 2, 3, 4] bcast_S3x5x8x4x128_S3x5x8x4x128x1_0_1_2_3_4 (rMax x k z))))) (broadcastInDim S3x5x8x4x128x256 ![] bcast_S_S3x5x8x4x128x256 (id (constant S_ .f32 0x00000000#32)))

/-- The row's scale before it is rounded up. -/
def rLead (x : FVec Ideal S3x640x2048 .bf16) (k : FVec Ideal S3x640x512 .bf16) (z : FVec Ideal S32 .f32) : FVec Ideal S3x5x8x4x128 .f32 :=
  mulf (Host.reduce FloatOps.maximumf (Host.absf (rWt x k z)) (constant S_ .f32 0xFF800000#32) reducesTo_S3x5x8x4x128x256_S3x5x8x4x128_d5 h_S_) (broadcastInDim S3x5x8x4x128 ![] bcast_S_S3x5x8x4x128 (constant S_ .f32 0x3B124925#32))

/-- The row's exponent. -/
def rExpo (x : FVec Ideal S3x640x2048 .bf16) (k : FVec Ideal S3x640x512 .bf16) (z : FVec Ideal S32 .f32) : IVec S3x5x8x4x128 32 :=
  fptosi 32 (select (cmpf .olt (rLead x k z) (broadcastInDim S3x5x8x4x128 ![] bcast_S_S3x5x8x4x128 (constant S_ .f32 0x00800000#32))) (broadcastInDim S3x5x8x4x128 ![] bcast_S_S3x5x8x4x128 (id (constant S_ .f32 0x00000000#32))) (addf (Host.floor (Host.divf (Host.log (rLead x k z)) (broadcastInDim S3x5x8x4x128 ![] bcast_S_S3x5x8x4x128 (Host.log (constant S_ .f32 0x40000000#32))))) (broadcastInDim S3x5x8x4x128 ![] bcast_S_S3x5x8x4x128 (constant S_ .f32 0x3F800000#32))))

/-- The attention output. -/
def rOut (x : FVec Ideal S3x640x2048 .bf16) (k : FVec Ideal S3x640x512 .bf16) (v : FVec Ideal S3x640x512 .bf16) (z : FVec Ideal S32 .f32) : FVec Ideal S3x640x2048 .bf16 :=
  shapeCast _ (truncf .bf16 (mulf (transpose S3x5x128x8x4x64 [0, 1, 5, 2, 4, 3] (Host.dotGeneral dot_S3x5x256x8x64_S3x5x8x4x128x256_S3x5x8x64x4x128_2_5_4_34_013_012 none (kWin2 v) (truncf .bf16 (minimumf (broadcastInDim S3x5x8x4x128x256 ![] bcast_S_S3x5x8x4x128x256 (id (constant S_ .f32 0x43E00000#32))) (maximumf (broadcastInDim S3x5x8x4x128x256 ![] bcast_S_S3x5x8x4x128x256 (id (constant S_ .f32 0xC3E00000#32))) (mulf (rWt x k z) (broadcastInDim S3x5x8x4x128x256 ![0, 1, 2, 3, 4, 5] bcast_S3x5x8x4x128x1_S3x5x8x4x128x256_0_1_2_3_4_5 (broadcastInDim S3x5x8x4x128x1 ![0, 1, 2, 3, 4] bcast_S3x5x8x4x128_S3x5x8x4x128x1_0_1_2_3_4 (Host.powf (broadcastInDim S3x5x8x4x128 ![] bcast_S_S3x5x8x4x128 (constant S_ .f32 0x40000000#32)) (sitofp .f32 (negi (rExpo x k z))))))))) bitsLt_bf16_f32)) transposes_S3x5x8x64x4x128_S3x5x128x8x4x64_0_1_5_2_4_3) (broadcastInDim S3x5x128x8x4x64 ![0, 1, 2, 3, 4, 5] bcast_S3x5x128x8x4x1_S3x5x128x8x4x64_0_1_2_3_4_5 (broadcastInDim S3x5x128x8x4x1 ![0, 1, 2, 3, 4] bcast_S3x5x128x8x4_S3x5x128x8x4x1_0_1_2_3_4 (transpose S3x5x128x8x4 [0, 1, 4, 2, 3] (mulf (Host.powf (broadcastInDim S3x5x8x4x128 ![] bcast_S_S3x5x8x4x128 (constant S_ .f32 0x40000000#32)) (sitofp .f32 (rExpo x k z))) (Host.divf (broadcastInDim S3x5x8x4x128 ![] bcast_S_S3x5x8x4x128 (constant S_ .f32 0x3F800000#32)) (addf (Host.reduceAdd (rWt x k z) (constant S_ .f32 0x00000000#32) reducesTo_S3x5x8x4x128x256_S3x5x8x4x128_d5 h_S_) (Host.exp (subf (broadcastInDim S3x5x8x4x128 ![0, 1, 2, 3, 4] bcast_S1x1x8x4x1_S3x5x8x4x128_0_1_2_3_4 (rSink z)) (rMax x k z)))))) transposes_S3x5x8x4x128_S3x5x128x8x4_0_1_4_2_3)))) bitsLt_bf16_f32) shapeCasts_S3x5x128x8x4x64_S3x640x2048

end Cert.Ref

end
-- ==== Proof.RefRun.lean ====
/- The reference's run, its results in the terms of `RefTerms`. -/
module

public import proofs.«01_k».proof.Proof.RefTerms
public import proofs.«01_k».proof.Proof.Gen.ReferenceIdeal.Run

@[expose] public section

set_option maxRecDepth 8192

noncomputable section

namespace Cert.Ref

open Cert.ReferenceIdeal Cert.ReferenceIdeal.Gen Cert.ReferenceIdeal.Value Idealize.ShloMosaic Idealize.ShloMosaic.TcCoe Idealize.SL.Sem Idealize.ShloMosaic.StableHlo

variable (m : (ℓ : Loc nD τ sig) → Buf (Elt Ideal) ℓ) (c : Dev nD)

def argX : FVec Ideal S3x640x2048 .bf16 := m ((c.tc : Thread nD τ).loc main_arg0)
def argK : FVec Ideal S3x640x512 .bf16 := m ((c.tc : Thread nD τ).loc main_arg1)
def argV : FVec Ideal S3x640x512 .bf16 := m ((c.tc : Thread nD τ).loc main_arg2)
def argZ : FVec Ideal S32 .f32 := m ((c.tc : Thread nD τ).loc main_arg3)

theorem v26_eq : res_main_v26 (launchContents m c) = qCod (argX m c) := rfl
theorem v29_eq : res_main_v29 (launchContents m c) = qByt (argX m c) := rfl
theorem v56_eq : res_main_v56 (launchContents m c) = kCod (argK m c) := rfl
theorem v59_eq : res_main_v59 (launchContents m c) = kByt (argK m c) := rfl
theorem v86_eq : res_main_v86 (launchContents m c) = kCod (argV m c) := rfl
theorem v89_eq : res_main_v89 (launchContents m c) = kByt (argV m c) := rfl

theorem v132_eq : res_main_v132 (launchContents m c) = kDeq (argV m c) := rfl
theorem v173_eq : res_main_v173 (launchContents m c) = rSink (argZ m c) := rfl
theorem v177_eq : res_main_v177 (launchContents m c) = rMax (argX m c) (argK m c) (argZ m c) := rfl
theorem v182_eq : res_main_v182 (launchContents m c) = rWt (argX m c) (argK m c) (argZ m c) := rfl
theorem v202_eq : res_main_v202 (launchContents m c) = rExpo (argX m c) (argK m c) (argZ m c) := rfl

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v225) = rOut (argX m c) (argK m c) (argV m c) (argZ m c)
      ∧ r.2.mem ((c.tc : Thread nD τ).loc main_v228) = Host.convertf .fp8e4m3 (transpose S3x2048x640 [0, 2, 1] (shapeCast _ (qCod (argX m c)) shapeCasts_S3x640x32x64_S3x640x2048) transposes_S3x640x2048_S3x2048x640_0_2_1)
      ∧ r.2.mem ((c.tc : Thread nD τ).loc main_v229) = transpose S3x2x32x640 [0, 3, 2, 1] (qByt (argX m c)) transposes_S3x640x32x2_S3x2x32x640_0_3_2_1
      ∧ r.2.mem ((c.tc : Thread nD τ).loc main_v232) = Host.convertf .fp8e4m3 (transpose S3x512x640 [0, 2, 1] (shapeCast _ (kCod (argK m c)) shapeCasts_S3x640x8x64_S3x640x512) transposes_S3x640x512_S3x512x640_0_2_1)
      ∧ r.2.mem ((c.tc : Thread nD τ).loc main_v233) = transpose S3x2x8x640 [0, 3, 2, 1] (kByt (argK m c)) transposes_S3x640x8x2_S3x2x8x640_0_3_2_1
      ∧ r.2.mem ((c.tc : Thread nD τ).loc main_v236) = Host.convertf .fp8e4m3 (transpose S3x512x640 [0, 2, 1] (shapeCast _ (kCod (argV m c)) shapeCasts_S3x640x8x64_S3x640x512) transposes_S3x640x512_S3x512x640_0_2_1)
      ∧ r.2.mem ((c.tc : Thread nD τ).loc main_v237) = transpose S3x2x8x640 [0, 3, 2, 1] (kByt (argV m c)) transposes_S3x640x8x2_S3x2x8x640_0_3_2_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h0, h1, h2, h3, h4, h5, h6, h7⟩ := h c
    rw [v26_eq] at h1
    rw [v29_eq] at h2
    rw [v56_eq] at h3
    rw [v59_eq] at h4
    rw [v86_eq] at h5
    rw [v89_eq] at h6
    rw [v132_eq, v173_eq, v177_eq, v182_eq, v202_eq] at h0
    exact ⟨h0, h1, h2, h3, h4, h5, h6, h7⟩) (Value.run m ρ)

end Cert.Ref

end
-- ==== Proof.RefReduce.lean ====
/- Reductions along the last axis, at an index, for any sizes. -/
module

public import Idealize.ShloMosaic.Lib.Pointwise
public import Idealize.ShloMosaic.Lib.ValueIdxRank6

@[expose] public section

noncomputable section

namespace Cert.Ref

open Idealize.ShloMosaic

variable {n0 n1 n2 n3 n4 n5 : ℕ} {u : Shape}

theorem fiber5 (h : (⟨5, ![n0, n1, n2, n3, n4]⟩ : Shape).ReducesTo [4] ⟨4, ![n0, n1, n2, n3]⟩) (a : Fin n0) (b : Fin n1)
    (c : Fin n2) (d : Fin n3) (i : (⟨5, ![n0, n1, n2, n3, n4]⟩ : Shape).Idx) :
    h.drop i = ix4 a b c d ↔ ∃ k : Fin n4, ix5 a b c d k = i := by
  constructor
  · intro e
    refine ⟨i 4, ?_⟩
    funext x
    apply Fin.ext
    match x with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => rfl
  · rintro ⟨k, rfl⟩
    funext x
    apply Fin.ext
    match x with
    | ⟨0, _⟩ => rfl
    | ⟨1, _⟩ => rfl
    | ⟨2, _⟩ => rfl
    | ⟨3, _⟩ => rfl

theorem fiber6 (h : (⟨6, ![n0, n1, n2, n3, n4, n5]⟩ : Shape).ReducesTo [5] ⟨5, ![n0, n1, n2, n3, n4]⟩) (a : Fin n0) (b : Fin n1)
    (c : Fin n2) (d : Fin n3) (f : Fin n4) (i : (⟨6, ![n0, n1, n2, n3, n4, n5]⟩ : Shape).Idx) :
    h.drop i = ix5 a b c d f ↔ ∃ k : Fin n5, ix6 a b c d f k = i := by
  constructor
  · intro e
    refine ⟨i 5, ?_⟩
    funext x
    apply Fin.ext
    match x with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

theorem max5 (h : (⟨5, ![n0, n1, n2, n3, n4]⟩ : Shape).ReducesTo [4] ⟨4, ![n0, n1, n2, n3]⟩) (hu : 0 < u.numel)
    (V : FVec Ideal ⟨5, ![n0, n1, n2, n3, n4]⟩ .f32) (I : FVec Ideal u .f32) (a : Fin n0) (b : Fin n1) (c : Fin n2) (d : Fin n3) :
    Host.reduce FloatOps.maximumf V I h hu (ix4 a b c d)
      = Finset.univ.fold max (I (Shape.Idx.first hu)) fun k : Fin n4 => V (ix5 a b c d k) := by
  rw [Host.reduce_eq_fold]
  exact Finset.fold_filter_eq_fold_of_fiber _ _ (fun k : Fin n4 => ix5 a b c d k) (fun _ _ e => congrFun e 4) (fiber5 h a b c d) _ _

theorem max6 (h : (⟨6, ![n0, n1, n2, n3, n4, n5]⟩ : Shape).ReducesTo [5] ⟨5, ![n0, n1, n2, n3, n4]⟩) (hu : 0 < u.numel)
    (V : FVec Ideal ⟨6, ![n0, n1, n2, n3, n4, n5]⟩ .f32) (I : FVec Ideal u .f32) (a : Fin n0) (b : Fin n1) (c : Fin n2) (d : Fin n3)
    (f : Fin n4) : Host.reduce FloatOps.maximumf V I h hu (ix5 a b c d f)
      = Finset.univ.fold max (I (Shape.Idx.first hu)) fun k : Fin n5 => V (ix6 a b c d f k) := by
  rw [Host.reduce_eq_fold]
  exact Finset.fold_filter_eq_fold_of_fiber _ _ (fun k : Fin n5 => ix6 a b c d f k) (fun _ _ e => congrFun e 5) (fiber6 h a b c d f) _ _

theorem add6 (h : (⟨6, ![n0, n1, n2, n3, n4, n5]⟩ : Shape).ReducesTo [5] ⟨5, ![n0, n1, n2, n3, n4]⟩) (hu : 0 < u.numel)
    (V : FVec Ideal ⟨6, ![n0, n1, n2, n3, n4, n5]⟩ .f32) (I : FVec Ideal u .f32) (a : Fin n0) (b : Fin n1) (c : Fin n2) (d : Fin n3)
    (f : Fin n4) : Host.reduceAdd V I h hu (ix5 a b c d f)
      = I (Shape.Idx.first hu) + ∑ k : Fin n5, V (ix6 a b c d f k) :=
  congrArg (I (Shape.Idx.first hu) + ·)
    (Finset.sum_filter_eq_sum_of_fiber _ (fun k : Fin n5 => ix6 a b c d f k) (fun _ _ e => congrFun e 5) (fiber6 h a b c d f) V)

end Cert.Ref

end
-- ==== Proof.RefQuant.lean ====
/- The reference's codes, scale bytes and dequantised operands at an index. -/
module

public import proofs.«01_k».proof.Proof.RefTerms
public import proofs.«01_k».proof.Proof.RefReduce
public import proofs.«01_k».proof.Proof.Target

@[expose] public section

set_option maxRecDepth 8192

noncomputable section

namespace Cert.Ref

open Cert.ReferenceIdeal Cert.ReferenceIdeal.Gen Idealize.ShloMosaic Cert.Attn

theorem ofBits_two : Ideal.ofBits .f32 0x40000000#32 = ((2 : ℝ) : EReal) := by
  simp [Ideal.ofBits, Ideal.ieee, -EReal.coe_mul]; norm_num

theorem ofBits_normal : Ideal.ofBits .f32 0x00800000#32 = (((2 : ℝ) ^ (-126 : ℤ) : ℝ) : EReal) := by
  simp [Ideal.ofBits, Ideal.ieee, -EReal.coe_mul]; norm_num

theorem ofBits_zero32 : Ideal.ofBits .f32 0x00000000#32 = (0 : EReal) := by
  simp [Ideal.ofBits, Ideal.ieee, -EReal.coe_mul]

theorem log_two : Ideal.log ((2 : ℝ) : EReal) = ((Real.log 2 : ℝ) : EReal) := by
  show (if (2 : ℝ) ≤ 0 then ⊥ else ((Real.log 2 : ℝ) : EReal)) = _
  rw [if_neg (by norm_num)]

theorem div_log_two (x : EReal) : Ideal.div x (Ideal.log ((2 : ℝ) : EReal)) = x * (((Real.log 2)⁻¹ : ℝ) : EReal) := by
  rw [log_two, Ideal.div, if_neg (by exact_mod_cast log_two_pos.ne'), EReal.coe_inv]

/-- The exponent as the reference computes it, by logarithm, at any shape. -/
theorem word_apply (s : Shape) (h : S_.BroadcastsInDim s ![]) (R : FVec Ideal s .f32) (i : s.Idx) {y : ℝ} (h0 : 0 ≤ y)
    (h1 : y < (2 : ℝ) ^ (120 : ℤ)) (hy : R i = (y : EReal)) :
    (fptosi 32 (select (cmpf .olt R (broadcastInDim s ![] h (constant S_ .f32 0x00800000#32)))
      (broadcastInDim s ![] h (id (constant S_ .f32 0x00000000#32)))
      (addf (Host.floor (Host.divf (Host.log R) (broadcastInDim s ![] h (Host.log (constant S_ .f32 0x40000000#32)))))
        (broadcastInDim s ![] h (constant S_ .f32 0x3F800000#32))))) i = word y := by
  rw [← fptosi_expo h0 h1, ← div_log_two, ← ofBits_normal, ← ofBits_two, ← ofBits_zero32, ← Ideal.ofBits_one_f32, ← hy]
  rfl

/-- Two to an integer power. -/
theorem pow_two (w : BitVec 32) : Ideal.pow (Ideal.ofBits .f32 0x40000000#32) (FloatOps.sitofp .f32 w : Ideal .f32)
    = (((2 : ℝ) ^ w.toInt : ℝ) : EReal) := by
  rw [ofBits_two]
  show ((Real.rpow 2 (w.toInt : ℝ) : ℝ) : EReal) = _
  exact congrArg _ (Real.rpow_intCast 2 w.toInt)

theorem pow_two16 (w : BitVec 32) : Ideal.pow (Ideal.ofBits .f32 0x40000000#32) (FloatOps.sitofp .f32 w : Ideal .f32)
    = (((2 : ℝ) ^ w.toInt : ℝ) : EReal) := pow_two w

/-- The product of an array and a constant, at an index. -/
theorem rep_apply (s : Shape) (h : S_.BroadcastsInDim s ![]) (A : FVec Ideal s .f32) (i : s.Idx) (w : BitVec 32) :
    mulf A (broadcastInDim s ![] h (constant S_ .f32 w)) i = A i * Ideal.ofBits .f32 w := rfl

theorem absf_apply (s : Shape) (A : FVec Ideal s .f32) (i : s.Idx) : Host.absf A i = max (A i) (-(A i)) := rfl

theorem low_apply (i : S_.Idx) : constant (F := Ideal) S_ .f32 0xFF800000#32 i = (⊥ : EReal) := ofBits_neg_inf

/-! ## Queries -/

section

variable (x : FVec Ideal S3x640x2048 .bf16) (hx : ∀ i, Small (x i)) (b : Fin 3) (s : Fin 640) (h : Fin 32) (c : Fin 2)

theorem qBlk_apply (j : Fin 32) : qBlk x (ix5 b s h c j) = rowQ x b s ⟨2 * h.val + c.val, by omega⟩ j := by
  pointwise [qBlk]
  exact congrArg (fun i => x (ix3 b s i)) (Fin.ext (by show h.val * 64 + (c.val * 32 + j.val) = 32 * (2 * h.val + c.val) + j.val; omega))

theorem qRep_eq : qRep x (ix4 b s h c) = peak (rowQ x b s ⟨2 * h.val + c.val, by omega⟩) * (recip : EReal) := by
  rw [qRep, rep_apply, max5 reducesTo_S3x640x32x2x32_S3x640x32x2_d4 h_S_ (Host.absf (qBlk x)) (constant S_ .f32 0xFF800000#32) b s h c, low_apply,
    ofBits_recip, peak]
  simp only [absf_apply, qBlk_apply]

include hx

theorem qRow_small (g : Fin 64) (k : Fin 32) : Small (rowQ x b s g k) := hx _

theorem qExp_apply : qExp x (ix4 b s h c) = word (rep (rowQ x b s ⟨2 * h.val + c.val, by omega⟩)) := by
  obtain ⟨h1, h2, h3, -⟩ := rep_spec (qRow_small x hx b s ⟨2 * h.val + c.val, by omega⟩)
  exact word_apply S3x640x32x2 _ (qRep x) _ h2 h3 ((qRep_eq x b s h c).trans h1)

theorem qByt_apply : qByt x (ix4 b s h c) = byteQ x b s ⟨2 * h.val + c.val, by omega⟩ := by
  pointwise [qByt]
  rw [qExp_apply x hx]
  exact congrArg (BitVec.setWidth 8) (word_add (rep_spec (qRow_small x hx b s _)).2.2.1)

theorem qCod_apply (j : Fin 64) : qCod x (ix4 b s h j) = codeQ x b s ⟨64 * h.val + j.val, by omega⟩ := by
  pointwise [qCod]
  rw [qExp_apply x hx, qBlk_apply, pow_two]
  have hr := qRow_small x hx b s ⟨2 * h.val + j.val / 32, by omega⟩
  have e : (-word (rep (rowQ x b s ⟨2 * h.val + j.val / 32, by omega⟩))).toInt = -expo (rep (rowQ x b s ⟨2 * h.val + j.val / 32, by omega⟩)) := by
    rw [← toInt_neg_word (rep_spec hr).2.2.1]
    exact congrArg BitVec.toInt (BitVec.zero_sub _).symm
  refine (congrArg₂ (fun m M => min M (max m _)) ofBits_neg_448 ofBits_448).trans ?_
  have e2 : ((2 : ℝ) ^ (-word (rep (rowQ x b s ⟨2 * h.val + j.val / 32, by omega⟩))).toInt : ℝ)
      = (gain (rowQ x b s ⟨2 * h.val + j.val / 32, by omega⟩))⁻¹ := by rw [e, gain, zpow_neg]
  rw [e2]
  refine (clip_id hr ⟨j.val % 32, by omega⟩).trans ?_
  have e3 : (⟨2 * h.val + j.val / 32, by omega⟩ : Fin 64) = ⟨(64 * h.val + j.val) / 32, by omega⟩ := Fin.ext (by show _ = (64 * h.val + j.val) / 32; dsimp only; omega)
  rw [e3]
  refine congrArg (fun i => x (ix3 b s i) * _) (Fin.ext ?_)
  show 32 * ((64 * h.val + j.val) / 32) + j.val % 32 = 64 * h.val + j.val
  omega

end

/-! ## Keys and values -/

section

variable (x : FVec Ideal S3x640x512 .bf16) (hx : ∀ i, Small (x i)) (b : Fin 3) (s : Fin 640) (h : Fin 8) (c : Fin 2)

theorem kBlk_apply (j : Fin 32) : kBlk x (ix5 b s h c j) = rowK x b s ⟨2 * h.val + c.val, by omega⟩ j := by
  pointwise [kBlk]
  exact congrArg (fun i => x (ix3 b s i)) (Fin.ext (by show h.val * 64 + (c.val * 32 + j.val) = 32 * (2 * h.val + c.val) + j.val; omega))

theorem kRep_eq : kRep x (ix4 b s h c) = peak (rowK x b s ⟨2 * h.val + c.val, by omega⟩) * (recip : EReal) := by
  rw [kRep, rep_apply, max5 reducesTo_S3x640x8x2x32_S3x640x8x2_d4 h_S_ (Host.absf (kBlk x)) (constant S_ .f32 0xFF800000#32) b s h c, low_apply,
    ofBits_recip, peak]
  simp only [absf_apply, kBlk_apply]

include hx

theorem kRow_small (g : Fin 16) (k : Fin 32) : Small (rowK x b s g k) := hx _

theorem kExp_apply : kExp x (ix4 b s h c) = word (rep (rowK x b s ⟨2 * h.val + c.val, by omega⟩)) := by
  obtain ⟨h1, h2, h3, -⟩ := rep_spec (kRow_small x hx b s ⟨2 * h.val + c.val, by omega⟩)
  exact word_apply S3x640x8x2 _ (kRep x) _ h2 h3 ((kRep_eq x b s h c).trans h1)

theorem kByt_apply : kByt x (ix4 b s h c) = byteK x b s ⟨2 * h.val + c.val, by omega⟩ := by
  pointwise [kByt]
  rw [kExp_apply x hx]
  exact congrArg (BitVec.setWidth 8) (word_add (rep_spec (kRow_small x hx b s _)).2.2.1)

theorem kCod_apply (j : Fin 64) : kCod x (ix4 b s h j) = codeK x b s ⟨64 * h.val + j.val, by omega⟩ := by
  pointwise [kCod]
  rw [kExp_apply x hx, kBlk_apply, pow_two]
  have hr := kRow_small x hx b s ⟨2 * h.val + j.val / 32, by omega⟩
  have e : (-word (rep (rowK x b s ⟨2 * h.val + j.val / 32, by omega⟩))).toInt = -expo (rep (rowK x b s ⟨2 * h.val + j.val / 32, by omega⟩)) := by
    rw [← toInt_neg_word (rep_spec hr).2.2.1]
    exact congrArg BitVec.toInt (BitVec.zero_sub _).symm
  refine (congrArg₂ (fun m M => min M (max m _)) ofBits_neg_448 ofBits_448).trans ?_
  have e2 : ((2 : ℝ) ^ (-word (rep (rowK x b s ⟨2 * h.val + j.val / 32, by omega⟩))).toInt : ℝ)
      = (gain (rowK x b s ⟨2 * h.val + j.val / 32, by omega⟩))⁻¹ := by rw [e, gain, zpow_neg]
  rw [e2]
  refine (clip_id hr ⟨j.val % 32, by omega⟩).trans ?_
  have e3 : (⟨2 * h.val + j.val / 32, by omega⟩ : Fin 16) = ⟨(64 * h.val + j.val) / 32, by omega⟩ := Fin.ext (by show _ = (64 * h.val + j.val) / 32; dsimp only; omega)
  rw [e3]
  refine congrArg (fun i => x (ix3 b s i) * _) (Fin.ext ?_)
  show 32 * ((64 * h.val + j.val) / 32) + j.val % 32 = 64 * h.val + j.val
  omega

end

end Cert.Ref

end
-- ==== Proof.RefCodes.lean ====
/- The reference's codes and scale bytes as it returns them, channels before tokens. -/
module

public import proofs.«01_k».proof.Proof.RefQuant

@[expose] public section

set_option maxRecDepth 8192

noncomputable section

namespace Cert.Ref

open Cert.ReferenceIdeal Cert.ReferenceIdeal.Gen Idealize.ShloMosaic Cert.Attn

section

variable (x : FVec Ideal S3x640x2048 .bf16) (hx : ∀ i, Small (x i))

include hx

theorem qCod_out (b : Fin 3) (ch : Fin 2048) (s : Fin 640) :
    Host.convertf .fp8e4m3 (transpose S3x2048x640 [0, 2, 1] (shapeCast _ (qCod x) shapeCasts_S3x640x32x64_S3x640x2048) transposes_S3x640x2048_S3x2048x640_0_2_1) (ix3 b ch s)
      = codeQ x b s ch := by
  pointwise
  rw [qCod_apply x hx]
  exact congrArg (codeQ x b s) (Fin.ext (by dsimp only; omega))

theorem qByt_out (b : Fin 3) (p : Fin 2) (h : Fin 32) (s : Fin 640) :
    transpose S3x2x32x640 [0, 3, 2, 1] (qByt x) transposes_S3x640x32x2_S3x2x32x640_0_3_2_1 (ix4 b p h s)
      = byteQ x b s ⟨2 * h.val + p.val, by omega⟩ := by
  pointwise
  rw [qByt_apply x hx]

end

section

variable (x : FVec Ideal S3x640x512 .bf16) (hx : ∀ i, Small (x i))

include hx

theorem kCod_out (b : Fin 3) (ch : Fin 512) (s : Fin 640) :
    Host.convertf .fp8e4m3 (transpose S3x512x640 [0, 2, 1] (shapeCast _ (kCod x) shapeCasts_S3x640x8x64_S3x640x512) transposes_S3x640x512_S3x512x640_0_2_1) (ix3 b ch s)
      = codeK x b s ch := by
  pointwise
  rw [kCod_apply x hx]
  exact congrArg (codeK x b s) (Fin.ext (by dsimp only; omega))

theorem kByt_out (b : Fin 3) (p : Fin 2) (h : Fin 8) (s : Fin 640) :
    transpose S3x2x8x640 [0, 3, 2, 1] (kByt x) transposes_S3x640x8x2_S3x2x8x640_0_3_2_1 (ix4 b p h s)
      = byteK x b s ⟨2 * h.val + p.val, by omega⟩ := by
  pointwise
  rw [kByt_apply x hx]

end

end Cert.Ref

end
-- ==== Proof.RefDeq.lean ====
/- The reference's scores: what its codes times scales give back, its windows of keys and values, and which rows a query sees. -/
module

public import proofs.«01_k».proof.Proof.RefQuant
public import Idealize.ShloMosaic.Lib.ValueIdxRank6

@[expose] public section

set_option maxRecDepth 8192

noncomputable section

namespace Cert.Ref

open Cert.ReferenceIdeal Cert.ReferenceIdeal.Gen Idealize.ShloMosaic Cert.Attn

theorem real_back {a : EReal} (h : Small a) : a = (a.toReal : EReal) := by
  obtain ⟨r, rfl, -⟩ := h
  rw [EReal.toReal_coe]

/-- A code times its block's scale is the element. -/
theorem back {a : EReal} (ha : Small a) {f : Fin 32 → EReal} (hf : ∀ k, Small (f k)) :
    a * (((gain f)⁻¹ : ℝ) : EReal) * Ideal.pow (Ideal.ofBits .f32 0x40000000#32)
      (FloatOps.sitofp .f32 (((biased (rep f)).setWidth 8).setWidth 32 - 127#32) : Ideal .f32) = a := by
  rw [pow_two, toInt_byte (rep_spec hf).2.2.1]
  exact scale_back ha f

section

variable (x : FVec Ideal S3x640x2048 .bf16) (hx : ∀ i, Small (x i)) (b : Fin 3) (n : Fin 5) (t : Fin 128)

include hx

theorem qDeq_apply (g : Fin 8) (q : Fin 4) (j : Fin 64) :
    qDeq x (ix6 b n t g q j) = x (ix3 b ⟨128 * n.val + t.val, by omega⟩ ⟨64 * (4 * g.val + q.val) + j.val, by omega⟩) := by
  pointwise [qDeq]
  rw [qCod_apply x hx, qByt_apply x hx]
  have e : (⟨2 * (g.val * 4 + q.val) + j.val / 32, by omega⟩ : Fin 64) = ⟨(64 * (g.val * 4 + q.val) + j.val) / 32, by omega⟩ :=
    Fin.ext (by dsimp only; omega)
  rw [e]
  refine (back (hx _) (qRow_small x hx b _ _)).trans ?_
  exact congrArg₂ (fun i k => x (ix3 b i k)) (Fin.ext (by dsimp only; omega)) (Fin.ext (by dsimp only; omega))

end

section

variable (x : FVec Ideal S3x640x512 .bf16) (hx : ∀ i, Small (x i)) (b : Fin 3) (n : Fin 5)

include hx

theorem kDeq_apply (t : Fin 128) (g : Fin 8) (j : Fin 64) :
    kDeq x (ix5 b n t g j) = x (ix3 b ⟨128 * n.val + t.val, by omega⟩ ⟨64 * g.val + j.val, by omega⟩) := by
  pointwise [kDeq]
  rw [kCod_apply x hx, kByt_apply x hx]
  have e : (⟨2 * g.val + j.val / 32, by omega⟩ : Fin 16) = ⟨(64 * g.val + j.val) / 32, by omega⟩ :=
    Fin.ext (by dsimp only; omega)
  rw [e]
  refine (back (hx _) (kRow_small x hx b _ _)).trans ?_
  exact congrArg (fun i => x (ix3 b i _)) (Fin.ext (by dsimp only; omega))

/-- The window's upper half is the block's own rows. -/
theorem kWin2_own (r : Fin 128) (g : Fin 8) (j : Fin 64) :
    kWin2 x (ix5 b n ⟨128 + r.val, by omega⟩ g j) = (ownRow x b n g r j : EReal) := by
  pointwise [kWin2]
  rw [kDeq_apply x hx]
  exact real_back (hx _)

/-- The window's lower half is the previous block's rows. -/
theorem kWin2_prev (hn : n.val ≠ 0) (r : Fin 128) (g : Fin 8) (j : Fin 64) :
    kWin2 x (ix5 b n ⟨r.val, by omega⟩ g j) = (prevRow x b n g r j : EReal) := by
  pointwise [kWin2]
  have h1 : (1 ≤ n.val ∧ n.val - 1 < 4) ∧ r.val < 128 := by omega
  rw [dif_pos h1.1, kDeq_apply x hx]
  exact real_back (hx _)

end

/-- Which window rows a query of block `n` sees. -/
def sees (n : Fin 5) (i : Fin 128) (j : Fin 256) : Bool := decide (i.val < j.val ∧ j.val ≤ 128 + i.val ∧ 128 ≤ 128 * n.val + j.val)

theorem rSees_apply (n : Fin 5) (i : Fin 128) (j : Fin 256) : rSees (ix6 0 n 0 0 i j) = BitVec.ofBool (sees n i j) := by
  pointwise [rSees, rDist, rRow]
  have a1 : BitVec.ofNat 32 j.val - 128#32 - BitVec.ofNat 32 i.val = BitVec.ofInt 32 ((j.val : ℤ) - 128 - i.val) := by
    apply BitVec.eq_of_toNat_eq
    simp only [BitVec.toNat_sub, BitVec.toNat_ofNat, BitVec.toNat_ofInt]
    omega
  have a2 : BitVec.ofNat 32 n.val * 128#32 + BitVec.ofNat 32 j.val - 128#32 = BitVec.ofInt 32 (128 * (n.val : ℤ) + j.val - 128) := by
    apply BitVec.eq_of_toNat_eq
    simp only [BitVec.toNat_sub, BitVec.toNat_add, BitVec.toNat_mul, BitVec.toNat_ofNat, BitVec.toNat_ofInt]
    omega
  have b1 : (BitVec.ofInt 32 ((j.val : ℤ) - 128 - i.val)).toInt = (j.val : ℤ) - 128 - i.val := by
    rw [BitVec.toInt_ofInt, Int.bmod_def]
    split_ifs <;> omega
  have b2 : (BitVec.ofInt 32 (128 * (n.val : ℤ) + j.val - 128)).toInt = 128 * (n.val : ℤ) + j.val - 128 := by
    rw [BitVec.toInt_ofInt, Int.bmod_def]
    split_ifs <;> omega
  show BitVec.ofBool ((BitVec.ofNat 32 j.val - 128#32 - BitVec.ofNat 32 i.val).sle 0#32)
      &&& BitVec.ofBool ((4294967168#32).slt (BitVec.ofNat 32 j.val - 128#32 - BitVec.ofNat 32 i.val))
      &&& BitVec.ofBool ((0#32).sle (BitVec.ofNat 32 n.val * 128#32 + BitVec.ofNat 32 j.val - 128#32)) = _
  have c1 : (4294967168#32).toInt = -128 := by decide
  have c0 : (0#32).toInt = 0 := by decide
  rw [a1, a2, BitVec.sle_eq_decide, BitVec.sle_eq_decide, BitVec.slt_eq_decide, b1, b2, c0, c1, BitVec.ofBool_and_ofBool,
    BitVec.ofBool_and_ofBool, sees, ← Bool.decide_and, ← Bool.decide_and]
  congr 1
  rw [decide_eq_decide]
  omega

theorem rScore_apply (x : FVec Ideal S3x640x2048 .bf16) (k : FVec Ideal S3x640x512 .bf16) (b : Fin 3) (n : Fin 5) (g : Fin 8)
    (q : Fin 4) (i : Fin 128) (j : Fin 256) : rScore x k (ix6 b n g q i j)
      = (∑ d : Fin 64, kWin2 k (ix5 b n j g d) * qDeq x (ix6 b n i g q d)) * Ideal.ofBits .f32 0x3E000000#32 := by
  pointwise [rScore]

end Cert.Ref

end
-- ==== Proof.RefAttn.lean ====
/- The reference's attention output, in the plain terms of `Target`. -/
module

public import proofs.«01_k».proof.Proof.RefDeq
public import proofs.«01_k».proof.Proof.RefSoftmax

@[expose] public section

set_option maxRecDepth 8192

noncomputable section

namespace Cert.Ref

open Cert.ReferenceIdeal Cert.ReferenceIdeal.Gen Idealize.ShloMosaic Cert.Attn

/-- The probability codes of weights and row exponents. -/
def rProb (w : FVec Ideal S3x5x8x4x128x256 .f32) (e : IVec S3x5x8x4x128 32) : FVec Ideal S3x5x8x4x128x256 .bf16 :=
  truncf .bf16 (minimumf (broadcastInDim S3x5x8x4x128x256 ![] bcast_S_S3x5x8x4x128x256 (id (constant S_ .f32 0x43E00000#32))) (maximumf (broadcastInDim S3x5x8x4x128x256 ![] bcast_S_S3x5x8x4x128x256 (id (constant S_ .f32 0xC3E00000#32))) (mulf w (broadcastInDim S3x5x8x4x128x256 ![0, 1, 2, 3, 4, 5] bcast_S3x5x8x4x128x1_S3x5x8x4x128x256_0_1_2_3_4_5 (broadcastInDim S3x5x8x4x128x1 ![0, 1, 2, 3, 4] bcast_S3x5x8x4x128_S3x5x8x4x128x1_0_1_2_3_4 (Host.powf (broadcastInDim S3x5x8x4x128 ![] bcast_S_S3x5x8x4x128 (constant S_ .f32 0x40000000#32)) (sitofp .f32 (negi e)))))))) bitsLt_bf16_f32

/-- What a row's sum of products is multiplied by. -/
def rFac (w : FVec Ideal S3x5x8x4x128x256 .f32) (e : IVec S3x5x8x4x128 32) (u M : FVec Ideal S3x5x8x4x128 .f32) : FVec Ideal S3x5x8x4x128 .f32 :=
  mulf (Host.powf (broadcastInDim S3x5x8x4x128 ![] bcast_S_S3x5x8x4x128 (constant S_ .f32 0x40000000#32)) (sitofp .f32 e)) (Host.divf (broadcastInDim S3x5x8x4x128 ![] bcast_S_S3x5x8x4x128 (constant S_ .f32 0x3F800000#32)) (addf (Host.reduceAdd w (constant S_ .f32 0x00000000#32) reducesTo_S3x5x8x4x128x256_S3x5x8x4x128_d5 h_S_) (Host.exp (subf u M))))

/-- Probabilities against values, rescaled. -/
def rMix (W : FVec Ideal S3x5x256x8x64 .bf16) (P : FVec Ideal S3x5x8x4x128x256 .bf16) (C : FVec Ideal S3x5x8x4x128 .f32) : FVec Ideal S3x640x2048 .bf16 :=
  shapeCast _ (truncf .bf16 (mulf (transpose S3x5x128x8x4x64 [0, 1, 5, 2, 4, 3] (Host.dotGeneral dot_S3x5x256x8x64_S3x5x8x4x128x256_S3x5x8x64x4x128_2_5_4_34_013_012 none W P) transposes_S3x5x8x64x4x128_S3x5x128x8x4x64_0_1_5_2_4_3) (broadcastInDim S3x5x128x8x4x64 ![0, 1, 2, 3, 4, 5] bcast_S3x5x128x8x4x1_S3x5x128x8x4x64_0_1_2_3_4_5 (broadcastInDim S3x5x128x8x4x1 ![0, 1, 2, 3, 4] bcast_S3x5x128x8x4_S3x5x128x8x4x1_0_1_2_3_4 (transpose S3x5x128x8x4 [0, 1, 4, 2, 3] C transposes_S3x5x8x4x128_S3x5x128x8x4_0_1_4_2_3)))) bitsLt_bf16_f32) shapeCasts_S3x5x128x8x4x64_S3x640x2048

theorem rOut_eq (x : FVec Ideal S3x640x2048 .bf16) (k v : FVec Ideal S3x640x512 .bf16) (z : FVec Ideal S32 .f32) :
    rOut x k v z = rMix (kWin2 v) (rProb (rWt x k z) (rExpo x k z)) (rFac (rWt x k z) (rExpo x k z)
      (broadcastInDim S3x5x8x4x128 ![0, 1, 2, 3, 4] bcast_S1x1x8x4x1_S3x5x8x4x128_0_1_2_3_4 (rSink z)) (rMax x k z)) := rfl

theorem rMix_apply (W : FVec Ideal S3x5x256x8x64 .bf16) (P : FVec Ideal S3x5x8x4x128x256 .bf16) (C : FVec Ideal S3x5x8x4x128 .f32)
    (b : Fin 3) (s : Fin 640) (ch : Fin 2048) :
    rMix W P C (ix3 b s ch) = (∑ j : Fin 256, W (ix5 b ⟨s.val / 128, by omega⟩ j ⟨ch.val / 256, by omega⟩ ⟨ch.val % 64, by omega⟩)
        * P (ix6 b ⟨s.val / 128, by omega⟩ ⟨ch.val / 256, by omega⟩ ⟨ch.val / 64 % 4, by omega⟩ ⟨s.val % 128, by omega⟩ j))
      * C (ix5 b ⟨s.val / 128, by omega⟩ ⟨ch.val / 256, by omega⟩ ⟨ch.val / 64 % 4, by omega⟩ ⟨s.val % 128, by omega⟩) := by
  pointwise [rMix]

theorem rProb_apply (w : FVec Ideal S3x5x8x4x128x256 .f32) (e : IVec S3x5x8x4x128 32) (b : Fin 3) (n : Fin 5) (g : Fin 8)
    (q : Fin 4) (i : Fin 128) (j : Fin 256) : rProb w e (ix6 b n g q i j) = min (Ideal.ofBits .f32 0x43E00000#32)
      (max (Ideal.ofBits .f32 0xC3E00000#32) (w (ix6 b n g q i j) * Ideal.pow (Ideal.ofBits .f32 0x40000000#32)
        (FloatOps.sitofp .f32 (-e (ix5 b n g q i)) : Ideal .f32))) := by
  pointwise [rProb]
  rfl

theorem rFac_apply (w : FVec Ideal S3x5x8x4x128x256 .f32) (e : IVec S3x5x8x4x128 32) (u M : FVec Ideal S3x5x8x4x128 .f32) (b : Fin 3) (n : Fin 5) (g : Fin 8)
    (q : Fin 4) (i : Fin 128) : rFac w e u M (ix5 b n g q i) = Ideal.pow (Ideal.ofBits .f32 0x40000000#32)
        (FloatOps.sitofp .f32 (e (ix5 b n g q i)) : Ideal .f32) * Ideal.div (Ideal.ofBits .f32 0x3F800000#32)
        (Host.reduceAdd w (constant S_ .f32 0x00000000#32) reducesTo_S3x5x8x4x128x256_S3x5x8x4x128_d5 h_S_ (ix5 b n g q i)
          + Ideal.exp (u (ix5 b n g q i) - M (ix5 b n g q i))) := rfl

theorem sink_apply (z : FVec Ideal S32 .f32) (b : Fin 3) (n : Fin 5) (g : Fin 8) (q : Fin 4) (i : Fin 128) :
    (broadcastInDim S3x5x8x4x128 ![0, 1, 2, 3, 4] bcast_S1x1x8x4x1_S3x5x8x4x128_0_1_2_3_4 (rSink z)) (ix5 b n g q i) = z (ix1 ⟨4 * g.val + q.val, by omega⟩) := by
  pointwise [rSink]
  exact congrArg (fun i => z (ix1 i)) (Fin.ext (by dsimp only; omega))

/-- The scores a query does not see, put at the bottom. -/
theorem mask_apply (A : FVec Ideal S3x5x8x4x128x256 .f32) (B : BitVec 32) (b : Fin 3) (n : Fin 5) (g : Fin 8)
    (q : Fin 4) (i : Fin 128) (j : Fin 256) :
    select (broadcastInDim S3x5x8x4x128x256 ![0, 1, 2, 3, 4, 5] bcast_S1x5x1x1x128x256_S3x5x8x4x128x256_0_1_2_3_4_5 rSees) A
      (broadcastInDim S3x5x8x4x128x256 ![] bcast_S_S3x5x8x4x128x256 (id (constant S_ .f32 B))) (ix6 b n g q i j)
      = if sees n i j then A (ix6 b n g q i j) else Ideal.ofBits .f32 B := by
  pointwise
  rw [rSees_apply]
  cases sees n i j <;> rfl

theorem diff_apply (A : FVec Ideal S3x5x8x4x128x256 .f32) (M : FVec Ideal S3x5x8x4x128 .f32) (b : Fin 3) (n : Fin 5) (g : Fin 8)
    (q : Fin 4) (i : Fin 128) (j : Fin 256) :
    Host.exp (subf A (broadcastInDim S3x5x8x4x128x256 ![0, 1, 2, 3, 4, 5] bcast_S3x5x8x4x128x1_S3x5x8x4x128x256_0_1_2_3_4_5 (broadcastInDim S3x5x8x4x128x1 ![0, 1, 2, 3, 4] bcast_S3x5x8x4x128_S3x5x8x4x128x1_0_1_2_3_4 M))) (ix6 b n g q i j)
      = Ideal.exp (A (ix6 b n g q i j) - M (ix5 b n g q i)) := by
  pointwise

/-- The wide window's row of a narrow window's row. -/
def half (t r : Fin 128) : Fin 256 := if r ≤ t then ⟨128 + r.val, by omega⟩ else ⟨r.val, by omega⟩

theorem half_own {t r : Fin 128} (h : r ≤ t) : half t r = ⟨128 + r.val, by omega⟩ := if_pos h

theorem half_prev {t r : Fin 128} (h : ¬r ≤ t) : half t r = ⟨r.val, by omega⟩ := if_neg h

theorem half_inj (t : Fin 128) : Function.Injective (half t) := by
  intro a b h
  have hv := congrArg Fin.val h
  by_cases ha : a ≤ t <;> by_cases hb : b ≤ t
  all_goals simp only [half, ha, hb, if_true, if_false] at hv
  all_goals exact Fin.ext (by omega)

theorem sees_off (n : Fin 5) (t : Fin 128) (j : Fin 256) (h : ∀ r, half t r ≠ j) : sees n t j = false := by
  by_contra hc
  have hs : sees n t j = true := by simpa using hc
  obtain ⟨h1, h2, -⟩ := of_decide_eq_true hs
  by_cases hj : j.val < 128
  · exact h ⟨j.val, hj⟩ ((half_prev (by rw [Fin.le_def]; dsimp only; omega)).trans (Fin.ext rfl))
  · refine h ⟨j.val - 128, by omega⟩ ((half_own (by rw [Fin.le_def]; dsimp only; omega)).trans (Fin.ext ?_))
    show 128 + (j.val - 128) = j.val
    omega

theorem sees_on (n : Fin 5) (t r : Fin 128) : sees n t (half t r) = visAt (decide (n.val = 0)) t r := by
  by_cases h : r ≤ t
  · have h' : r.val ≤ t.val := h
    rw [half_own h, sees, visAt, decide_eq_true h, Bool.true_or]
    exact decide_eq_true (by dsimp only; omega)
  · have h' : ¬r.val ≤ t.val := h
    rw [half_prev h, sees, visAt, decide_eq_false h, Bool.false_or]
    by_cases hn : n.val = 0
    · rw [decide_eq_true hn]
      exact decide_eq_false (by dsimp only; omega)
    · rw [decide_eq_false hn]
      exact decide_eq_true (by dsimp only; omega)

theorem ofBits_eighth : Ideal.ofBits .f32 0x3E000000#32 = ((1 / 8 : ℝ) : EReal) := by
  simp [Ideal.ofBits, Ideal.ieee, -EReal.coe_mul]; norm_num

section

variable (x : FVec Ideal S3x640x2048 .bf16) (hx : ∀ i, Small (x i)) (k v : FVec Ideal S3x640x512 .bf16) (hk : ∀ i, Small (k i))
  (hv : ∀ i, Small (v i)) (z : FVec Ideal S32 .f32) (hz : ∀ i, ∃ r : ℝ, z i = (r : EReal)) (b : Fin 3) (n : Fin 5) (g : Fin 8)
  (q : Fin 4) (t : Fin 128)

/-- The query's row. -/
def qAt (j : Fin 64) : ℝ := (x (ix3 b ⟨128 * n.val + t.val, by omega⟩ ⟨64 * (4 * g.val + q.val) + j.val, by omega⟩)).toReal

/-- The sums of products of the query with its window. -/
def sAt : Fin 128 → ℝ := dots (ownRow k b n g) (prevRow k b n g) (qAt x b n g q t) t

/-- The query's sink. -/
def zAt : ℝ := (z (ix1 ⟨4 * g.val + q.val, by omega⟩)).toReal

/-- What the query sees of its window. -/
abbrev vAt : Fin 128 → Bool := visAt (decide (n.val = 0)) t

include hx hk in
theorem shows : Shows (vAt n t) (sAt x k b n g q t) (sees n t) (fun j => rScore x k (ix6 b n g q t j)) (half t) where
  inj := half_inj t
  off := sees_off n t
  on := sees_on n t
  some := visAt_zero _ t
  score r hr := by
    have hq : ∀ d, qDeq x (ix6 b n t g q d) = (qAt x b n g q t d : EReal) := fun d =>
      (qDeq_apply x hx b n t g q d).trans (real_back (hx _))
    have sum : ∀ (w : Fin 64 → EReal) (W : Fin 64 → ℝ), (∀ d, w d = (W d : EReal)) →
        (∑ d, w d * qDeq x (ix6 b n t g q d)) * Ideal.ofBits .f32 0x3E000000#32
          = (((∑ d, W d * qAt x b n g q t d) / 8 : ℝ) : EReal) := fun w W hw => by
      rw [Finset.sum_congr rfl fun d _ => show w d * qDeq x (ix6 b n t g q d) = ((W d * qAt x b n g q t d : ℝ) : EReal) by
        rw [hw, hq, EReal.coe_mul], ← coe_sum, ofBits_eighth, ← EReal.coe_mul]
      exact congrArg _ (by ring)
    show rScore x k (ix6 b n g q t (half t r)) = _
    rw [rScore_apply, sAt, dots]
    by_cases h : r ≤ t
    · rw [half_own h, if_pos h]
      exact sum _ _ fun d => kWin2_own k hk b n r g d
    · rw [half_prev h, if_neg h]
      refine sum _ _ fun d => kWin2_prev k hk b n ?_ r g d
      intro h0
      simp [visAt, h0, h] at hr

include hz in
theorem sink_eq : (broadcastInDim S3x5x8x4x128 ![0, 1, 2, 3, 4] bcast_S1x1x8x4x1_S3x5x8x4x128_0_1_2_3_4 (rSink z)) (ix5 b n g q t) = (zAt z g q : EReal) := by
  obtain ⟨r, hr⟩ := hz (ix1 ⟨4 * g.val + q.val, by omega⟩)
  rw [sink_apply, zAt, hr, EReal.toReal_coe]

theorem larger_apply (s : Shape) (A B : FVec Ideal s .f32) (i : s.Idx) : maximumf A B i = max (A i) (B i) := rfl

include hx hk hz

theorem rMax_eq : rMax x k z (ix5 b n g q t) = (mx (vAt n t) (sAt x k b n g q t) (zAt z g q) : EReal) := by
  rw [rMax, larger_apply, sink_eq z hz, max6 reducesTo_S3x5x8x4x128x256_S3x5x8x4x128_d5 h_S_ _ (constant S_ .f32 0xFF800000#32) b n g q t,
    low_apply]
  refine Eq.trans ?_ (shows x hx k hk b n g q t).max
  exact congrArg (fun f => max (Finset.univ.fold max ⊥ f) (zAt z g q : EReal)) (funext fun j =>
    (mask_apply (rScore x k) _ b n g q t j).trans (by rw [ofBits_neg_inf]))

/-- The weights of a row. -/
theorem rWt_apply (j : Fin 256) : rWt x k z (ix6 b n g q t j)
    = wt2 (sees n t) (fun j => rScore x k (ix6 b n g q t j)) (mx (vAt n t) (sAt x k b n g q t) (zAt z g q)) j := by
  rw [rWt, mask_apply, diff_apply, rMax_eq x hx k hk z hz, ofBits_zero32]
  rfl

theorem rLead_eq : rLead x k z (ix5 b n g q t) = (lead (vAt n t) (sAt x k b n g q t) (zAt z g q) : EReal) := by
  rw [rLead, rep_apply, max6 reducesTo_S3x5x8x4x128x256_S3x5x8x4x128_d5 h_S_ _ (constant S_ .f32 0xFF800000#32) b n g q t, low_apply,
    ofBits_recip]
  simp only [absf_apply, rWt_apply x hx k hk z hz]
  exact (shows x hx k hk b n g q t).peak

theorem rExpo_eq : rExpo x k z (ix5 b n g q t) = word (lead (vAt n t) (sAt x k b n g q t) (zAt z g q)) :=
  word_apply S3x5x8x4x128 _ (rLead x k z) _ lead_nonneg lead_lt (rLead_eq x hx k hk z hz b n g q t)

theorem rTot_eq : Host.reduceAdd (rWt x k z) (constant S_ .f32 0x00000000#32) reducesTo_S3x5x8x4x128x256_S3x5x8x4x128_d5 h_S_ (ix5 b n g q t)
    + Ideal.exp ((zAt z g q : EReal) - (mx (vAt n t) (sAt x k b n g q t) (zAt z g q) : EReal))
      = (tot (vAt n t) (sAt x k b n g q t) (zAt z g q) : EReal) := by
  rw [add6 reducesTo_S3x5x8x4x128x256_S3x5x8x4x128_d5 h_S_ _ (constant S_ .f32 0x00000000#32) b n g q t,
    show constant (F := Ideal) S_ .f32 0x00000000#32 (Shape.Idx.first h_S_) = (0 : EReal) from ofBits_zero32, zero_add]
  simp only [rWt_apply x hx k hk z hz]
  exact (shows x hx k hk b n g q t).tot

include hv

theorem rOut_apply (s : Fin 640) (ch : Fin 2048) : rOut x k v z (ix3 b s ch)
    = attn x k v z b ⟨s.val / 128, by omega⟩ ⟨s.val % 128, by omega⟩ ⟨ch.val / 64, by omega⟩ ⟨ch.val % 64, by omega⟩ := by
  generalize hn : (⟨s.val / 128, by omega⟩ : Fin 5) = n
  generalize ht : (⟨s.val % 128, by omega⟩ : Fin 128) = t
  generalize hg : (⟨ch.val / 256, by omega⟩ : Fin 8) = g
  generalize hq : (⟨ch.val / 64 % 4, by omega⟩ : Fin 4) = q
  generalize hd : (⟨ch.val % 64, by omega⟩ : Fin 64) = d
  have hl : ∀ r : ℝ, r < (2 : ℝ) ^ (120 : ℤ) → (-word r).toInt = -expo r := fun r hr => by
    rw [← toInt_neg_word hr]
    exact congrArg BitVec.toInt (BitVec.zero_sub _).symm
  have key : rOut x k v z (ix3 b s ch) = (avg (vAt n t) (sAt x k b n g q t) (zAt z g q)
      (vals (fun r => ownRow v b n g r d) (fun r => prevRow v b n g r d) t) : EReal) := by
    rw [rOut_eq, rMix_apply, hn, ht, hg, hq, hd, rFac_apply, sink_eq z hz, rMax_eq x hx k hk z hz, rTot_eq x hx k hk z hz,
      rExpo_eq x hx k hk z hz, Ideal.ofBits_one_f32, pow_two, toInt_word lead_lt]
    simp only [rProb_apply, rWt_apply x hx k hk z hz, rExpo_eq x hx k hk z hz, pow_two, hl _ lead_lt, ofBits_448, ofBits_neg_448]
    refine (shows x hx k hk b n g q t).avg (fun j => kWin2 v (ix5 b n j g d)) _ fun r hr => ?_
    show kWin2 v (ix5 b n (half t r) g d) = _
    rw [vals]
    by_cases h : r ≤ t
    · rw [half_own h, if_pos h]
      exact kWin2_own v hv b n r g d
    · rw [half_prev h, if_neg h]
      refine kWin2_prev v hv b n ?_ r g d
      intro h0
      simp [visAt, h0, h] at hr
  rw [key]
  have e1 : g = ⟨ch.val / 64 / 4, by omega⟩ := by
    rw [← hg]
    exact Fin.ext (by dsimp only; omega)
  have e2 : 4 * g.val + q.val = ch.val / 64 := by
    rw [← hg, ← hq]
    dsimp only
    omega
  have e3 : qAt x b n g q t = fun j : Fin 64 => (x (ix3 b ⟨128 * n.val + t.val, by omega⟩ ⟨64 * (ch.val / 64) + j.val, by omega⟩)).toReal :=
    funext fun j => congrArg (fun i => (x (ix3 b _ i)).toReal) (Fin.ext (by dsimp only; omega))
  have e4 : zAt z g q = (z (ix1 ⟨ch.val / 64, by omega⟩)).toReal := congrArg (fun i => (z (ix1 i)).toReal) (Fin.ext e2)
  rw [sAt, e3, e4, e1]
  rfl

end

end Cert.Ref

end
-- ==== Proof.Algebraic.lean ====
/- Kernel and reference compute the same seven results. -/
module

public import proofs.«01_k».proof.Proof.Claims
public import proofs.«01_k».proof.Proof.Final
public import proofs.«01_k».proof.Proof.Pre
public import proofs.«01_k».proof.Proof.RefRun
public import proofs.«01_k».proof.Proof.RefCodes
public import proofs.«01_k».proof.Proof.RefAttn

@[expose] public section

set_option maxRecDepth 8192

noncomputable section

open Idealize.ShloMosaic Idealize.ShloMosaic.TcCoe Idealize.SL.Sem Cert.Attn

namespace Cert.Proof.Claims

/-- Two arrays of rank 3 agree when they agree at every triple. -/
theorem ext3 {a b c : ℕ} {A : Type} {f g : (⟨3, ![a, b, c]⟩ : Shape).Idx → A}
    (h : ∀ (i : Fin a) (j : Fin b) (k : Fin c), f (ix3 i j k) = g (ix3 i j k)) : f = g := by
  funext i
  have e : i = ix3 (i 0) (i 1) (i 2) := eq_ix3 i
  rw [e]
  exact h _ _ _

theorem ext4 {a b c d : ℕ} {A : Type} {f g : (⟨4, ![a, b, c, d]⟩ : Shape).Idx → A}
    (h : ∀ (i : Fin a) (j : Fin b) (k : Fin c) (l : Fin d), f (ix4 i j k l) = g (ix4 i j k l)) : f = g := by
  funext i
  have e : i = ix4 (i 0) (i 1) (i 2) (i 3) := eq_ix4 i
  rw [e]
  exact h _ _ _ _

theorem algebraic [Cert.Pre_finite.Facts] : Cert.algebraic_KernelIdeal_ReferenceIdeal_pre_finite := by
  intro m g m' g' hpre hargs
  refine ⟨fun c => Cert.KernelIdeal.Value.G4 m c, fun c => Cert.KernelIdeal.Value.G5 m c, fun c => Cert.KernelIdeal.Value.G6 m c,
    fun c => Cert.KernelIdeal.Value.G7 m c, fun c => Cert.KernelIdeal.Value.G8 m c, fun c => Cert.KernelIdeal.Value.G9 m c,
    fun c => Cert.KernelIdeal.Value.G10 m c, Cert.KernelIdeal.Value.run m g, ?_⟩
  refine (θ_run Cert.ReferenceIdeal.defs _ _).mono (fun r h c => ?_) (Cert.Ref.run m' g')
  obtain ⟨h0, h1, h2, h3, h4, h5, h6, h7⟩ := h c
  obtain ⟨a0, a1, a2, a3⟩ := hargs c
  obtain ⟨sx, sk, sv, sz⟩ := pre_small _ _ _ _ (hpre c)
  have ex : Cert.Ref.argX m' c = argX m c := a0
  have ek : Cert.Ref.argK m' c = argK m c := a1
  have ev : Cert.Ref.argV m' c = argV m c := a2
  have ez : Cert.Ref.argZ m' c = argZ m c := a3
  rw [ex, ek, ev, ez] at h0
  rw [ex] at h1 h2
  rw [ek] at h3 h4
  rw [ev] at h5 h6
  refine ⟨h0.trans ?_, h1.trans ?_, h2.trans ?_, h3.trans ?_, h4.trans ?_, h5.trans ?_, h6.trans ?_, h7⟩
  · exact ext3 fun b s ch => (Cert.Ref.rOut_apply _ sx _ _ sk sv _ sz b s ch).trans (G4_eq m c sx sk sv sz b s ch).symm
  · exact ext3 fun b ch s => (Cert.Ref.qCod_out _ sx b ch s).trans (G5_eq m c sx b ch s).symm
  · exact ext4 fun b p h s => (Cert.Ref.qByt_out _ sx b p h s).trans (G6_eq m c sx b p h s).symm
  · exact ext3 fun b ch s => (Cert.Ref.kCod_out _ sk b ch s).trans (G7_eq m c sk b ch s).symm
  · exact ext4 fun b p h s => (Cert.Ref.kByt_out _ sk b p h s).trans (G8_eq m c sk b p h s).symm
  · exact ext3 fun b ch s => (Cert.Ref.kCod_out _ sv b ch s).trans (G9_eq m c sv b ch s).symm
  · exact ext4 fun b p h s => (Cert.Ref.kByt_out _ sv b p h s).trans (G10_eq m c sv b p h s).symm

end Cert.Proof.Claims

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Algebraic

@[expose] public section

open Cert.Proof.Claims in
theorem Cert.Proof.claim : Cert.Claim :=
  have := pre_facts
  ⟨_, _, _, pre_facts, frame_p, frame_pi, frame_pi_pre, frame_ri, frame_ri_pre, preserves, algebraic⟩
